-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def Pre_EdgeA (m : (ℓ : Loc Cert.EdgeA.nD Cert.EdgeA.τ Cert.EdgeA.sig) → Buf (Elt Bits) ℓ) : Prop :=
  True

def Pre_EdgeAIdeal (m : (ℓ : Loc Cert.EdgeAIdeal.nD Cert.EdgeAIdeal.τ Cert.EdgeAIdeal.sig) → Buf (Elt Ideal) ℓ) : Prop :=
  True

def Pre_EdgeARefIdeal (m : (ℓ : Loc Cert.EdgeARefIdeal.nD Cert.EdgeARefIdeal.τ Cert.EdgeARefIdeal.sig) → Buf (Elt Ideal) ℓ) : Prop :=
  True

def Pre_EdgeB (m : (ℓ : Loc Cert.EdgeB.nD Cert.EdgeB.τ Cert.EdgeB.sig) → Buf (Elt Bits) ℓ) : Prop :=
  True

def Pre_EdgeBIdeal (m : (ℓ : Loc Cert.EdgeBIdeal.nD Cert.EdgeBIdeal.τ Cert.EdgeBIdeal.sig) → Buf (Elt Ideal) ℓ) : Prop :=
  True

def Pre_EdgeBRefIdeal (m : (ℓ : Loc Cert.EdgeBRefIdeal.nD Cert.EdgeBRefIdeal.τ Cert.EdgeBRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_EdgeA [hEdgeA : Cert.EdgeA.Facts] : Prop :=
  ∀ (m : (ℓ : Loc Cert.EdgeA.nD Cert.EdgeA.τ Cert.EdgeA.sig) → Buf (Elt Bits) ℓ) (g : Dev Cert.EdgeA.nD → PrngReg), Pre_EdgeA m →
    θ_run (Cert.EdgeA.defs (F := Bits)) (onTc (τ := Cert.EdgeA.τ) (Cert.EdgeA.main (F := Bits))) ⟨m, fun _ => 0, g⟩ (fun r => (∀ c : Dev Cert.EdgeA.nD,
      r.2.mem ((c.tc : Thread Cert.EdgeA.nD Cert.EdgeA.τ).loc Cert.EdgeA.main_arg0) = m ((c.tc : Thread Cert.EdgeA.nD Cert.EdgeA.τ).loc Cert.EdgeA.main_arg0)
      ∧ r.2.mem ((c.tc : Thread Cert.EdgeA.nD Cert.EdgeA.τ).loc Cert.EdgeA.main_arg1) = m ((c.tc : Thread Cert.EdgeA.nD Cert.EdgeA.τ).loc Cert.EdgeA.main_arg1)
      ∧ r.2.mem ((c.tc : Thread Cert.EdgeA.nD Cert.EdgeA.τ).loc Cert.EdgeA.main_arg2) = m ((c.tc : Thread Cert.EdgeA.nD Cert.EdgeA.τ).loc Cert.EdgeA.main_arg2)
      ∧ r.2.mem ((c.tc : Thread Cert.EdgeA.nD Cert.EdgeA.τ).loc Cert.EdgeA.main_arg3) = m ((c.tc : Thread Cert.EdgeA.nD Cert.EdgeA.τ).loc Cert.EdgeA.main_arg3)
      ∧ r.2.mem ((c.tc : Thread Cert.EdgeA.nD Cert.EdgeA.τ).loc Cert.EdgeA.main_arg4) = m ((c.tc : Thread Cert.EdgeA.nD Cert.EdgeA.τ).loc Cert.EdgeA.main_arg4)
      ∧ r.2.mem ((c.tc : Thread Cert.EdgeA.nD Cert.EdgeA.τ).loc Cert.EdgeA.main_arg5) = m ((c.tc : Thread Cert.EdgeA.nD Cert.EdgeA.τ).loc Cert.EdgeA.main_arg5)
      ∧ r.2.mem ((c.tc : Thread Cert.EdgeA.nD Cert.EdgeA.τ).loc Cert.EdgeA.main_arg6) = m ((c.tc : Thread Cert.EdgeA.nD Cert.EdgeA.τ).loc Cert.EdgeA.main_arg6))
      ∧ r.2.sem = fun _ => 0)

def quiescent_EdgeAIdeal [hEdgeAIdeal : Cert.EdgeAIdeal.Facts] : Prop :=
  ∀ (m : (ℓ : Loc Cert.EdgeAIdeal.nD Cert.EdgeAIdeal.τ Cert.EdgeAIdeal.sig) → Buf (Elt Ideal) ℓ) (g : Dev Cert.EdgeAIdeal.nD → PrngReg), Pre_EdgeAIdeal m →
    θ_run (Cert.EdgeAIdeal.defs (F := Ideal)) (onTc (τ := Cert.EdgeAIdeal.τ) (Cert.EdgeAIdeal.main (F := Ideal))) ⟨m, fun _ => 0, g⟩ (fun r => (∀ c : Dev Cert.EdgeAIdeal.nD,
      r.2.mem ((c.tc : Thread Cert.EdgeAIdeal.nD Cert.EdgeAIdeal.τ).loc Cert.EdgeAIdeal.main_arg0) = m ((c.tc : Thread Cert.EdgeAIdeal.nD Cert.EdgeAIdeal.τ).loc Cert.EdgeAIdeal.main_arg0)
      ∧ r.2.mem ((c.tc : Thread Cert.EdgeAIdeal.nD Cert.EdgeAIdeal.τ).loc Cert.EdgeAIdeal.main_arg1) = m ((c.tc : Thread Cert.EdgeAIdeal.nD Cert.EdgeAIdeal.τ).loc Cert.EdgeAIdeal.main_arg1)
      ∧ r.2.mem ((c.tc : Thread Cert.EdgeAIdeal.nD Cert.EdgeAIdeal.τ).loc Cert.EdgeAIdeal.main_arg2) = m ((c.tc : Thread Cert.EdgeAIdeal.nD Cert.EdgeAIdeal.τ).loc Cert.EdgeAIdeal.main_arg2)
      ∧ r.2.mem ((c.tc : Thread Cert.EdgeAIdeal.nD Cert.EdgeAIdeal.τ).loc Cert.EdgeAIdeal.main_arg3) = m ((c.tc : Thread Cert.EdgeAIdeal.nD Cert.EdgeAIdeal.τ).loc Cert.EdgeAIdeal.main_arg3)
      ∧ r.2.mem ((c.tc : Thread Cert.EdgeAIdeal.nD Cert.EdgeAIdeal.τ).loc Cert.EdgeAIdeal.main_arg4) = m ((c.tc : Thread Cert.EdgeAIdeal.nD Cert.EdgeAIdeal.τ).loc Cert.EdgeAIdeal.main_arg4)
      ∧ r.2.mem ((c.tc : Thread Cert.EdgeAIdeal.nD Cert.EdgeAIdeal.τ).loc Cert.EdgeAIdeal.main_arg5) = m ((c.tc : Thread Cert.EdgeAIdeal.nD Cert.EdgeAIdeal.τ).loc Cert.EdgeAIdeal.main_arg5)
      ∧ r.2.mem ((c.tc : Thread Cert.EdgeAIdeal.nD Cert.EdgeAIdeal.τ).loc Cert.EdgeAIdeal.main_arg6) = m ((c.tc : Thread Cert.EdgeAIdeal.nD Cert.EdgeAIdeal.τ).loc Cert.EdgeAIdeal.main_arg6))
      ∧ r.2.sem = fun _ => 0)

def quiescent_EdgeARefIdeal [hEdgeARefIdeal : Cert.EdgeARefIdeal.Facts] : Prop :=
  ∀ (m : (ℓ : Loc Cert.EdgeARefIdeal.nD Cert.EdgeARefIdeal.τ Cert.EdgeARefIdeal.sig) → Buf (Elt Ideal) ℓ) (g : Dev Cert.EdgeARefIdeal.nD → PrngReg), Pre_EdgeARefIdeal m →
    θ_run (Cert.EdgeARefIdeal.defs (F := Ideal)) (onTc (τ := Cert.EdgeARefIdeal.τ) (Cert.EdgeARefIdeal.main (F := Ideal))) ⟨m, fun _ => 0, g⟩ (fun r => (∀ c : Dev Cert.EdgeARefIdeal.nD,
      r.2.mem ((c.tc : Thread Cert.EdgeARefIdeal.nD Cert.EdgeARefIdeal.τ).loc Cert.EdgeARefIdeal.main_arg0) = m ((c.tc : Thread Cert.EdgeARefIdeal.nD Cert.EdgeARefIdeal.τ).loc Cert.EdgeARefIdeal.main_arg0)
      ∧ r.2.mem ((c.tc : Thread Cert.EdgeARefIdeal.nD Cert.EdgeARefIdeal.τ).loc Cert.EdgeARefIdeal.main_arg1) = m ((c.tc : Thread Cert.EdgeARefIdeal.nD Cert.EdgeARefIdeal.τ).loc Cert.EdgeARefIdeal.main_arg1)
      ∧ r.2.mem ((c.tc : Thread Cert.EdgeARefIdeal.nD Cert.EdgeARefIdeal.τ).loc Cert.EdgeARefIdeal.main_arg2) = m ((c.tc : Thread Cert.EdgeARefIdeal.nD Cert.EdgeARefIdeal.τ).loc Cert.EdgeARefIdeal.main_arg2)
      ∧ r.2.mem ((c.tc : Thread Cert.EdgeARefIdeal.nD Cert.EdgeARefIdeal.τ).loc Cert.EdgeARefIdeal.main_arg3) = m ((c.tc : Thread Cert.EdgeARefIdeal.nD Cert.EdgeARefIdeal.τ).loc Cert.EdgeARefIdeal.main_arg3)
      ∧ r.2.mem ((c.tc : Thread Cert.EdgeARefIdeal.nD Cert.EdgeARefIdeal.τ).loc Cert.EdgeARefIdeal.main_arg4) = m ((c.tc : Thread Cert.EdgeARefIdeal.nD Cert.EdgeARefIdeal.τ).loc Cert.EdgeARefIdeal.main_arg4)
      ∧ r.2.mem ((c.tc : Thread Cert.EdgeARefIdeal.nD Cert.EdgeARefIdeal.τ).loc Cert.EdgeARefIdeal.main_arg5) = m ((c.tc : Thread Cert.EdgeARefIdeal.nD Cert.EdgeARefIdeal.τ).loc Cert.EdgeARefIdeal.main_arg5)
      ∧ r.2.mem ((c.tc : Thread Cert.EdgeARefIdeal.nD Cert.EdgeARefIdeal.τ).loc Cert.EdgeARefIdeal.main_arg6) = m ((c.tc : Thread Cert.EdgeARefIdeal.nD Cert.EdgeARefIdeal.τ).loc Cert.EdgeARefIdeal.main_arg6))
      ∧ r.2.sem = fun _ => 0)

def quiescent_EdgeB [hEdgeB : Cert.EdgeB.Facts] : Prop :=
  ∀ (m : (ℓ : Loc Cert.EdgeB.nD Cert.EdgeB.τ Cert.EdgeB.sig) → Buf (Elt Bits) ℓ) (g : Dev Cert.EdgeB.nD → PrngReg), Pre_EdgeB m →
    θ_run (Cert.EdgeB.defs (F := Bits)) (onTc (τ := Cert.EdgeB.τ) (Cert.EdgeB.main (F := Bits))) ⟨m, fun _ => 0, g⟩ (fun r => (∀ c : Dev Cert.EdgeB.nD,
      r.2.mem ((c.tc : Thread Cert.EdgeB.nD Cert.EdgeB.τ).loc Cert.EdgeB.main_arg0) = m ((c.tc : Thread Cert.EdgeB.nD Cert.EdgeB.τ).loc Cert.EdgeB.main_arg0)
      ∧ r.2.mem ((c.tc : Thread Cert.EdgeB.nD Cert.EdgeB.τ).loc Cert.EdgeB.main_arg1) = m ((c.tc : Thread Cert.EdgeB.nD Cert.EdgeB.τ).loc Cert.EdgeB.main_arg1)
      ∧ r.2.mem ((c.tc : Thread Cert.EdgeB.nD Cert.EdgeB.τ).loc Cert.EdgeB.main_arg2) = m ((c.tc : Thread Cert.EdgeB.nD Cert.EdgeB.τ).loc Cert.EdgeB.main_arg2)
      ∧ r.2.mem ((c.tc : Thread Cert.EdgeB.nD Cert.EdgeB.τ).loc Cert.EdgeB.main_arg3) = m ((c.tc : Thread Cert.EdgeB.nD Cert.EdgeB.τ).loc Cert.EdgeB.main_arg3)
      ∧ r.2.mem ((c.tc : Thread Cert.EdgeB.nD Cert.EdgeB.τ).loc Cert.EdgeB.main_arg4) = m ((c.tc : Thread Cert.EdgeB.nD Cert.EdgeB.τ).loc Cert.EdgeB.main_arg4)
      ∧ r.2.mem ((c.tc : Thread Cert.EdgeB.nD Cert.EdgeB.τ).loc Cert.EdgeB.main_arg5) = m ((c.tc : Thread Cert.EdgeB.nD Cert.EdgeB.τ).loc Cert.EdgeB.main_arg5)
      ∧ r.2.mem ((c.tc : Thread Cert.EdgeB.nD Cert.EdgeB.τ).loc Cert.EdgeB.main_arg6) = m ((c.tc : Thread Cert.EdgeB.nD Cert.EdgeB.τ).loc Cert.EdgeB.main_arg6))
      ∧ r.2.sem = fun _ => 0)

def quiescent_EdgeBIdeal [hEdgeBIdeal : Cert.EdgeBIdeal.Facts] : Prop :=
  ∀ (m : (ℓ : Loc Cert.EdgeBIdeal.nD Cert.EdgeBIdeal.τ Cert.EdgeBIdeal.sig) → Buf (Elt Ideal) ℓ) (g : Dev Cert.EdgeBIdeal.nD → PrngReg), Pre_EdgeBIdeal m →
    θ_run (Cert.EdgeBIdeal.defs (F := Ideal)) (onTc (τ := Cert.EdgeBIdeal.τ) (Cert.EdgeBIdeal.main (F := Ideal))) ⟨m, fun _ => 0, g⟩ (fun r => (∀ c : Dev Cert.EdgeBIdeal.nD,
      r.2.mem ((c.tc : Thread Cert.EdgeBIdeal.nD Cert.EdgeBIdeal.τ).loc Cert.EdgeBIdeal.main_arg0) = m ((c.tc : Thread Cert.EdgeBIdeal.nD Cert.EdgeBIdeal.τ).loc Cert.EdgeBIdeal.main_arg0)
      ∧ r.2.mem ((c.tc : Thread Cert.EdgeBIdeal.nD Cert.EdgeBIdeal.τ).loc Cert.EdgeBIdeal.main_arg1) = m ((c.tc : Thread Cert.EdgeBIdeal.nD Cert.EdgeBIdeal.τ).loc Cert.EdgeBIdeal.main_arg1)
      ∧ r.2.mem ((c.tc : Thread Cert.EdgeBIdeal.nD Cert.EdgeBIdeal.τ).loc Cert.EdgeBIdeal.main_arg2) = m ((c.tc : Thread Cert.EdgeBIdeal.nD Cert.EdgeBIdeal.τ).loc Cert.EdgeBIdeal.main_arg2)
      ∧ r.2.mem ((c.tc : Thread Cert.EdgeBIdeal.nD Cert.EdgeBIdeal.τ).loc Cert.EdgeBIdeal.main_arg3) = m ((c.tc : Thread Cert.EdgeBIdeal.nD Cert.EdgeBIdeal.τ).loc Cert.EdgeBIdeal.main_arg3)
      ∧ r.2.mem ((c.tc : Thread Cert.EdgeBIdeal.nD Cert.EdgeBIdeal.τ).loc Cert.EdgeBIdeal.main_arg4) = m ((c.tc : Thread Cert.EdgeBIdeal.nD Cert.EdgeBIdeal.τ).loc Cert.EdgeBIdeal.main_arg4)
      ∧ r.2.mem ((c.tc : Thread Cert.EdgeBIdeal.nD Cert.EdgeBIdeal.τ).loc Cert.EdgeBIdeal.main_arg5) = m ((c.tc : Thread Cert.EdgeBIdeal.nD Cert.EdgeBIdeal.τ).loc Cert.EdgeBIdeal.main_arg5)
      ∧ r.2.mem ((c.tc : Thread Cert.EdgeBIdeal.nD Cert.EdgeBIdeal.τ).loc Cert.EdgeBIdeal.main_arg6) = m ((c.tc : Thread Cert.EdgeBIdeal.nD Cert.EdgeBIdeal.τ).loc Cert.EdgeBIdeal.main_arg6))
      ∧ r.2.sem = fun _ => 0)

def quiescent_EdgeBRefIdeal [hEdgeBRefIdeal : Cert.EdgeBRefIdeal.Facts] : Prop :=
  ∀ (m : (ℓ : Loc Cert.EdgeBRefIdeal.nD Cert.EdgeBRefIdeal.τ Cert.EdgeBRefIdeal.sig) → Buf (Elt Ideal) ℓ) (g : Dev Cert.EdgeBRefIdeal.nD → PrngReg), Pre_EdgeBRefIdeal m →
    θ_run (Cert.EdgeBRefIdeal.defs (F := Ideal)) (onTc (τ := Cert.EdgeBRefIdeal.τ) (Cert.EdgeBRefIdeal.main (F := Ideal))) ⟨m, fun _ => 0, g⟩ (fun r => (∀ c : Dev Cert.EdgeBRefIdeal.nD,
      r.2.mem ((c.tc : Thread Cert.EdgeBRefIdeal.nD Cert.EdgeBRefIdeal.τ).loc Cert.EdgeBRefIdeal.main_arg0) = m ((c.tc : Thread Cert.EdgeBRefIdeal.nD Cert.EdgeBRefIdeal.τ).loc Cert.EdgeBRefIdeal.main_arg0)
      ∧ r.2.mem ((c.tc : Thread Cert.EdgeBRefIdeal.nD Cert.EdgeBRefIdeal.τ).loc Cert.EdgeBRefIdeal.main_arg1) = m ((c.tc : Thread Cert.EdgeBRefIdeal.nD Cert.EdgeBRefIdeal.τ).loc Cert.EdgeBRefIdeal.main_arg1)
      ∧ r.2.mem ((c.tc : Thread Cert.EdgeBRefIdeal.nD Cert.EdgeBRefIdeal.τ).loc Cert.EdgeBRefIdeal.main_arg2) = m ((c.tc : Thread Cert.EdgeBRefIdeal.nD Cert.EdgeBRefIdeal.τ).loc Cert.EdgeBRefIdeal.main_arg2)
      ∧ r.2.mem ((c.tc : Thread Cert.EdgeBRefIdeal.nD Cert.EdgeBRefIdeal.τ).loc Cert.EdgeBRefIdeal.main_arg3) = m ((c.tc : Thread Cert.EdgeBRefIdeal.nD Cert.EdgeBRefIdeal.τ).loc Cert.EdgeBRefIdeal.main_arg3)
      ∧ r.2.mem ((c.tc : Thread Cert.EdgeBRefIdeal.nD Cert.EdgeBRefIdeal.τ).loc Cert.EdgeBRefIdeal.main_arg4) = m ((c.tc : Thread Cert.EdgeBRefIdeal.nD Cert.EdgeBRefIdeal.τ).loc Cert.EdgeBRefIdeal.main_arg4)
      ∧ r.2.mem ((c.tc : Thread Cert.EdgeBRefIdeal.nD Cert.EdgeBRefIdeal.τ).loc Cert.EdgeBRefIdeal.main_arg5) = m ((c.tc : Thread Cert.EdgeBRefIdeal.nD Cert.EdgeBRefIdeal.τ).loc Cert.EdgeBRefIdeal.main_arg5)
      ∧ r.2.mem ((c.tc : Thread Cert.EdgeBRefIdeal.nD Cert.EdgeBRefIdeal.τ).loc Cert.EdgeBRefIdeal.main_arg6) = m ((c.tc : Thread Cert.EdgeBRefIdeal.nD Cert.EdgeBRefIdeal.τ).loc Cert.EdgeBRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v5) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v15) = v0 c
          ∧ r.2.mem ((c.tc : Thread Cert.Reference.nD Cert.Reference.τ).loc Cert.Reference.main_v17) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_EdgeA_EdgeAIdeal : Prop :=
  True

def algebraic_EdgeAIdeal_EdgeARefIdeal [hEdgeAIdeal : Cert.EdgeAIdeal.Facts] [hEdgeARefIdeal : Cert.EdgeARefIdeal.Facts] : Prop :=
  ∀ (m : (ℓ : Loc Cert.EdgeAIdeal.nD Cert.EdgeAIdeal.τ Cert.EdgeAIdeal.sig) → Buf (Elt Ideal) ℓ) (g : Dev Cert.EdgeAIdeal.nD → PrngReg)
    (m' : (ℓ : Loc Cert.EdgeARefIdeal.nD Cert.EdgeARefIdeal.τ Cert.EdgeARefIdeal.sig) → Buf (Elt Ideal) ℓ) (g' : Dev Cert.EdgeARefIdeal.nD → PrngReg), Pre_EdgeAIdeal m →
    (∀ c : Dev Cert.EdgeAIdeal.nD,
      m' ((c.tc : Thread Cert.EdgeARefIdeal.nD Cert.EdgeARefIdeal.τ).loc Cert.EdgeARefIdeal.main_arg0) = m ((c.tc : Thread Cert.EdgeAIdeal.nD Cert.EdgeAIdeal.τ).loc Cert.EdgeAIdeal.main_arg0)
      ∧ m' ((c.tc : Thread Cert.EdgeARefIdeal.nD Cert.EdgeARefIdeal.τ).loc Cert.EdgeARefIdeal.main_arg1) = m ((c.tc : Thread Cert.EdgeAIdeal.nD Cert.EdgeAIdeal.τ).loc Cert.EdgeAIdeal.main_arg1)
      ∧ m' ((c.tc : Thread Cert.EdgeARefIdeal.nD Cert.EdgeARefIdeal.τ).loc Cert.EdgeARefIdeal.main_arg2) = m ((c.tc : Thread Cert.EdgeAIdeal.nD Cert.EdgeAIdeal.τ).loc Cert.EdgeAIdeal.main_arg2)
      ∧ m' ((c.tc : Thread Cert.EdgeARefIdeal.nD Cert.EdgeARefIdeal.τ).loc Cert.EdgeARefIdeal.main_arg3) = m ((c.tc : Thread Cert.EdgeAIdeal.nD Cert.EdgeAIdeal.τ).loc Cert.EdgeAIdeal.main_arg3)
      ∧ m' ((c.tc : Thread Cert.EdgeARefIdeal.nD Cert.EdgeARefIdeal.τ).loc Cert.EdgeARefIdeal.main_arg4) = m ((c.tc : Thread Cert.EdgeAIdeal.nD Cert.EdgeAIdeal.τ).loc Cert.EdgeAIdeal.main_arg4)
      ∧ m' ((c.tc : Thread Cert.EdgeARefIdeal.nD Cert.EdgeARefIdeal.τ).loc Cert.EdgeARefIdeal.main_arg5) = m ((c.tc : Thread Cert.EdgeAIdeal.nD Cert.EdgeAIdeal.τ).loc Cert.EdgeAIdeal.main_arg5)
      ∧ m' ((c.tc : Thread Cert.EdgeARefIdeal.nD Cert.EdgeARefIdeal.τ).loc Cert.EdgeARefIdeal.main_arg6) = m ((c.tc : Thread Cert.EdgeAIdeal.nD Cert.EdgeAIdeal.τ).loc Cert.EdgeAIdeal.main_arg6)) →
    ∃ (v0 : (c : Dev Cert.EdgeAIdeal.nD) → Buf (Elt Ideal) ((c.tc : Thread Cert.EdgeAIdeal.nD Cert.EdgeAIdeal.τ).loc Cert.EdgeAIdeal.main_v4_0)) (v1 : (c : Dev Cert.EdgeAIdeal.nD) → Buf (Elt Ideal) ((c.tc : Thread Cert.EdgeAIdeal.nD Cert.EdgeAIdeal.τ).loc Cert.EdgeAIdeal.main_v4_1)),
      θ_run (Cert.EdgeAIdeal.defs (F := Ideal)) (onTc (τ := Cert.EdgeAIdeal.τ) (Cert.EdgeAIdeal.main (F := Ideal))) ⟨m, fun _ => 0, g⟩ (fun r => ∀ c : Dev Cert.EdgeAIdeal.nD,
          r.2.mem ((c.tc : Thread Cert.EdgeAIdeal.nD Cert.EdgeAIdeal.τ).loc Cert.EdgeAIdeal.main_v4_0) = v0 c
          ∧ r.2.mem ((c.tc : Thread Cert.EdgeAIdeal.nD Cert.EdgeAIdeal.τ).loc Cert.EdgeAIdeal.main_v4_1) = v1 c
          ∧ r.2.mem ((c.tc : Thread Cert.EdgeAIdeal.nD Cert.EdgeAIdeal.τ).loc Cert.EdgeAIdeal.main_arg0) = m ((c.tc : Thread Cert.EdgeAIdeal.nD Cert.EdgeAIdeal.τ).loc Cert.EdgeAIdeal.main_arg0)
          ∧ r.2.mem ((c.tc : Thread Cert.EdgeAIdeal.nD Cert.EdgeAIdeal.τ).loc Cert.EdgeAIdeal.main_arg1) = m ((c.tc : Thread Cert.EdgeAIdeal.nD Cert.EdgeAIdeal.τ).loc Cert.EdgeAIdeal.main_arg1)
          ∧ r.2.mem ((c.tc : Thread Cert.EdgeAIdeal.nD Cert.EdgeAIdeal.τ).loc Cert.EdgeAIdeal.main_arg2) = m ((c.tc : Thread Cert.EdgeAIdeal.nD Cert.EdgeAIdeal.τ).loc Cert.EdgeAIdeal.main_arg2)
          ∧ r.2.mem ((c.tc : Thread Cert.EdgeAIdeal.nD Cert.EdgeAIdeal.τ).loc Cert.EdgeAIdeal.main_arg3) = m ((c.tc : Thread Cert.EdgeAIdeal.nD Cert.EdgeAIdeal.τ).loc Cert.EdgeAIdeal.main_arg3)
          ∧ r.2.mem ((c.tc : Thread Cert.EdgeAIdeal.nD Cert.EdgeAIdeal.τ).loc Cert.EdgeAIdeal.main_arg4) = m ((c.tc : Thread Cert.EdgeAIdeal.nD Cert.EdgeAIdeal.τ).loc Cert.EdgeAIdeal.main_arg4)
          ∧ r.2.mem ((c.tc : Thread Cert.EdgeAIdeal.nD Cert.EdgeAIdeal.τ).loc Cert.EdgeAIdeal.main_arg5) = m ((c.tc : Thread Cert.EdgeAIdeal.nD Cert.EdgeAIdeal.τ).loc Cert.EdgeAIdeal.main_arg5)
          ∧ r.2.mem ((c.tc : Thread Cert.EdgeAIdeal.nD Cert.EdgeAIdeal.τ).loc Cert.EdgeAIdeal.main_arg6) = m ((c.tc : Thread Cert.EdgeAIdeal.nD Cert.EdgeAIdeal.τ).loc Cert.EdgeAIdeal.main_arg6))
      ∧ θ_run (Cert.EdgeARefIdeal.defs (F := Ideal)) (onTc (τ := Cert.EdgeARefIdeal.τ) (Cert.EdgeARefIdeal.main (F := Ideal))) ⟨m', fun _ => 0, g'⟩ (fun r => ∀ c : Dev Cert.EdgeARefIdeal.nD,
          r.2.mem ((c.tc : Thread Cert.EdgeARefIdeal.nD Cert.EdgeARefIdeal.τ).loc Cert.EdgeARefIdeal.main_v17) = v0 c
          ∧ r.2.mem ((c.tc : Thread Cert.EdgeARefIdeal.nD Cert.EdgeARefIdeal.τ).loc Cert.EdgeARefIdeal.main_v26) = v1 c
          ∧ r.2.mem ((c.tc : Thread Cert.EdgeARefIdeal.nD Cert.EdgeARefIdeal.τ).loc Cert.EdgeARefIdeal.main_arg0) = m' ((c.tc : Thread Cert.EdgeARefIdeal.nD Cert.EdgeARefIdeal.τ).loc Cert.EdgeARefIdeal.main_arg0)
          ∧ r.2.mem ((c.tc : Thread Cert.EdgeARefIdeal.nD Cert.EdgeARefIdeal.τ).loc Cert.EdgeARefIdeal.main_arg1) = m' ((c.tc : Thread Cert.EdgeARefIdeal.nD Cert.EdgeARefIdeal.τ).loc Cert.EdgeARefIdeal.main_arg1)
          ∧ r.2.mem ((c.tc : Thread Cert.EdgeARefIdeal.nD Cert.EdgeARefIdeal.τ).loc Cert.EdgeARefIdeal.main_arg2) = m' ((c.tc : Thread Cert.EdgeARefIdeal.nD Cert.EdgeARefIdeal.τ).loc Cert.EdgeARefIdeal.main_arg2)
          ∧ r.2.mem ((c.tc : Thread Cert.EdgeARefIdeal.nD Cert.EdgeARefIdeal.τ).loc Cert.EdgeARefIdeal.main_arg3) = m' ((c.tc : Thread Cert.EdgeARefIdeal.nD Cert.EdgeARefIdeal.τ).loc Cert.EdgeARefIdeal.main_arg3)
          ∧ r.2.mem ((c.tc : Thread Cert.EdgeARefIdeal.nD Cert.EdgeARefIdeal.τ).loc Cert.EdgeARefIdeal.main_arg4) = m' ((c.tc : Thread Cert.EdgeARefIdeal.nD Cert.EdgeARefIdeal.τ).loc Cert.EdgeARefIdeal.main_arg4)
          ∧ r.2.mem ((c.tc : Thread Cert.EdgeARefIdeal.nD Cert.EdgeARefIdeal.τ).loc Cert.EdgeARefIdeal.main_arg5) = m' ((c.tc : Thread Cert.EdgeARefIdeal.nD Cert.EdgeARefIdeal.τ).loc Cert.EdgeARefIdeal.main_arg5)
          ∧ r.2.mem ((c.tc : Thread Cert.EdgeARefIdeal.nD Cert.EdgeARefIdeal.τ).loc Cert.EdgeARefIdeal.main_arg6) = m' ((c.tc : Thread Cert.EdgeARefIdeal.nD Cert.EdgeARefIdeal.τ).loc Cert.EdgeARefIdeal.main_arg6))

def preserves_EdgeB_EdgeBIdeal : Prop :=
  True

def algebraic_EdgeBIdeal_EdgeBRefIdeal [hEdgeBIdeal : Cert.EdgeBIdeal.Facts] [hEdgeBRefIdeal : Cert.EdgeBRefIdeal.Facts] : Prop :=
  ∀ (m : (ℓ : Loc Cert.EdgeBIdeal.nD Cert.EdgeBIdeal.τ Cert.EdgeBIdeal.sig) → Buf (Elt Ideal) ℓ) (g : Dev Cert.EdgeBIdeal.nD → PrngReg)
    (m' : (ℓ : Loc Cert.EdgeBRefIdeal.nD Cert.EdgeBRefIdeal.τ Cert.EdgeBRefIdeal.sig) → Buf (Elt Ideal) ℓ) (g' : Dev Cert.EdgeBRefIdeal.nD → PrngReg), Pre_EdgeBIdeal m →
    (∀ c : Dev Cert.EdgeBIdeal.nD,
      m' ((c.tc : Thread Cert.EdgeBRefIdeal.nD Cert.EdgeBRefIdeal.τ).loc Cert.EdgeBRefIdeal.main_arg0) = m ((c.tc : Thread Cert.EdgeBIdeal.nD Cert.EdgeBIdeal.τ).loc Cert.EdgeBIdeal.main_arg0)
      ∧ m' ((c.tc : Thread Cert.EdgeBRefIdeal.nD Cert.EdgeBRefIdeal.τ).loc Cert.EdgeBRefIdeal.main_arg1) = m ((c.tc : Thread Cert.EdgeBIdeal.nD Cert.EdgeBIdeal.τ).loc Cert.EdgeBIdeal.main_arg1)
      ∧ m' ((c.tc : Thread Cert.EdgeBRefIdeal.nD Cert.EdgeBRefIdeal.τ).loc Cert.EdgeBRefIdeal.main_arg2) = m ((c.tc : Thread Cert.EdgeBIdeal.nD Cert.EdgeBIdeal.τ).loc Cert.EdgeBIdeal.main_arg2)
      ∧ m' ((c.tc : Thread Cert.EdgeBRefIdeal.nD Cert.EdgeBRefIdeal.τ).loc Cert.EdgeBRefIdeal.main_arg3) = m ((c.tc : Thread Cert.EdgeBIdeal.nD Cert.EdgeBIdeal.τ).loc Cert.EdgeBIdeal.main_arg3)
      ∧ m' ((c.tc : Thread Cert.EdgeBRefIdeal.nD Cert.EdgeBRefIdeal.τ).loc Cert.EdgeBRefIdeal.main_arg4) = m ((c.tc : Thread Cert.EdgeBIdeal.nD Cert.EdgeBIdeal.τ).loc Cert.EdgeBIdeal.main_arg4)
      ∧ m' ((c.tc : Thread Cert.EdgeBRefIdeal.nD Cert.EdgeBRefIdeal.τ).loc Cert.EdgeBRefIdeal.main_arg5) = m ((c.tc : Thread Cert.EdgeBIdeal.nD Cert.EdgeBIdeal.τ).loc Cert.EdgeBIdeal.main_arg5)
      ∧ m' ((c.tc : Thread Cert.EdgeBRefIdeal.nD Cert.EdgeBRefIdeal.τ).loc Cert.EdgeBRefIdeal.main_arg6) = m ((c.tc : Thread Cert.EdgeBIdeal.nD Cert.EdgeBIdeal.τ).loc Cert.EdgeBIdeal.main_arg6)) →
    ∃ (v0 : (c : Dev Cert.EdgeBIdeal.nD) → Buf (Elt Ideal) ((c.tc : Thread Cert.EdgeBIdeal.nD Cert.EdgeBIdeal.τ).loc Cert.EdgeBIdeal.main_v4_0)) (v1 : (c : Dev Cert.EdgeBIdeal.nD) → Buf (Elt Ideal) ((c.tc : Thread Cert.EdgeBIdeal.nD Cert.EdgeBIdeal.τ).loc Cert.EdgeBIdeal.main_v4_1)),
      θ_run (Cert.EdgeBIdeal.defs (F := Ideal)) (onTc (τ := Cert.EdgeBIdeal.τ) (Cert.EdgeBIdeal.main (F := Ideal))) ⟨m, fun _ => 0, g⟩ (fun r => ∀ c : Dev Cert.EdgeBIdeal.nD,
          r.2.mem ((c.tc : Thread Cert.EdgeBIdeal.nD Cert.EdgeBIdeal.τ).loc Cert.EdgeBIdeal.main_v4_0) = v0 c
          ∧ r.2.mem ((c.tc : Thread Cert.EdgeBIdeal.nD Cert.EdgeBIdeal.τ).loc Cert.EdgeBIdeal.main_v4_1) = v1 c
          ∧ r.2.mem ((c.tc : Thread Cert.EdgeBIdeal.nD Cert.EdgeBIdeal.τ).loc Cert.EdgeBIdeal.main_arg0) = m ((c.tc : Thread Cert.EdgeBIdeal.nD Cert.EdgeBIdeal.τ).loc Cert.EdgeBIdeal.main_arg0)
          ∧ r.2.mem ((c.tc : Thread Cert.EdgeBIdeal.nD Cert.EdgeBIdeal.τ).loc Cert.EdgeBIdeal.main_arg1) = m ((c.tc : Thread Cert.EdgeBIdeal.nD Cert.EdgeBIdeal.τ).loc Cert.EdgeBIdeal.main_arg1)
          ∧ r.2.mem ((c.tc : Thread Cert.EdgeBIdeal.nD Cert.EdgeBIdeal.τ).loc Cert.EdgeBIdeal.main_arg2) = m ((c.tc : Thread Cert.EdgeBIdeal.nD Cert.EdgeBIdeal.τ).loc Cert.EdgeBIdeal.main_arg2)
          ∧ r.2.mem ((c.tc : Thread Cert.EdgeBIdeal.nD Cert.EdgeBIdeal.τ).loc Cert.EdgeBIdeal.main_arg3) = m ((c.tc : Thread Cert.EdgeBIdeal.nD Cert.EdgeBIdeal.τ).loc Cert.EdgeBIdeal.main_arg3)
          ∧ r.2.mem ((c.tc : Thread Cert.EdgeBIdeal.nD Cert.EdgeBIdeal.τ).loc Cert.EdgeBIdeal.main_arg4) = m ((c.tc : Thread Cert.EdgeBIdeal.nD Cert.EdgeBIdeal.τ).loc Cert.EdgeBIdeal.main_arg4)
          ∧ r.2.mem ((c.tc : Thread Cert.EdgeBIdeal.nD Cert.EdgeBIdeal.τ).loc Cert.EdgeBIdeal.main_arg5) = m ((c.tc : Thread Cert.EdgeBIdeal.nD Cert.EdgeBIdeal.τ).loc Cert.EdgeBIdeal.main_arg5)
          ∧ r.2.mem ((c.tc : Thread Cert.EdgeBIdeal.nD Cert.EdgeBIdeal.τ).loc Cert.EdgeBIdeal.main_arg6) = m ((c.tc : Thread Cert.EdgeBIdeal.nD Cert.EdgeBIdeal.τ).loc Cert.EdgeBIdeal.main_arg6))
      ∧ θ_run (Cert.EdgeBRefIdeal.defs (F := Ideal)) (onTc (τ := Cert.EdgeBRefIdeal.τ) (Cert.EdgeBRefIdeal.main (F := Ideal))) ⟨m', fun _ => 0, g'⟩ (fun r => ∀ c : Dev Cert.EdgeBRefIdeal.nD,
          r.2.mem ((c.tc : Thread Cert.EdgeBRefIdeal.nD Cert.EdgeBRefIdeal.τ).loc Cert.EdgeBRefIdeal.main_v17) = v0 c
          ∧ r.2.mem ((c.tc : Thread Cert.EdgeBRefIdeal.nD Cert.EdgeBRefIdeal.τ).loc Cert.EdgeBRefIdeal.main_v26) = v1 c
          ∧ r.2.mem ((c.tc : Thread Cert.EdgeBRefIdeal.nD Cert.EdgeBRefIdeal.τ).loc Cert.EdgeBRefIdeal.main_arg0) = m' ((c.tc : Thread Cert.EdgeBRefIdeal.nD Cert.EdgeBRefIdeal.τ).loc Cert.EdgeBRefIdeal.main_arg0)
          ∧ r.2.mem ((c.tc : Thread Cert.EdgeBRefIdeal.nD Cert.EdgeBRefIdeal.τ).loc Cert.EdgeBRefIdeal.main_arg1) = m' ((c.tc : Thread Cert.EdgeBRefIdeal.nD Cert.EdgeBRefIdeal.τ).loc Cert.EdgeBRefIdeal.main_arg1)
          ∧ r.2.mem ((c.tc : Thread Cert.EdgeBRefIdeal.nD Cert.EdgeBRefIdeal.τ).loc Cert.EdgeBRefIdeal.main_arg2) = m' ((c.tc : Thread Cert.EdgeBRefIdeal.nD Cert.EdgeBRefIdeal.τ).loc Cert.EdgeBRefIdeal.main_arg2)
          ∧ r.2.mem ((c.tc : Thread Cert.EdgeBRefIdeal.nD Cert.EdgeBRefIdeal.τ).loc Cert.EdgeBRefIdeal.main_arg3) = m' ((c.tc : Thread Cert.EdgeBRefIdeal.nD Cert.EdgeBRefIdeal.τ).loc Cert.EdgeBRefIdeal.main_arg3)
          ∧ r.2.mem ((c.tc : Thread Cert.EdgeBRefIdeal.nD Cert.EdgeBRefIdeal.τ).loc Cert.EdgeBRefIdeal.main_arg4) = m' ((c.tc : Thread Cert.EdgeBRefIdeal.nD Cert.EdgeBRefIdeal.τ).loc Cert.EdgeBRefIdeal.main_arg4)
          ∧ r.2.mem ((c.tc : Thread Cert.EdgeBRefIdeal.nD Cert.EdgeBRefIdeal.τ).loc Cert.EdgeBRefIdeal.main_arg5) = m' ((c.tc : Thread Cert.EdgeBRefIdeal.nD Cert.EdgeBRefIdeal.τ).loc Cert.EdgeBRefIdeal.main_arg5)
          ∧ r.2.mem ((c.tc : Thread Cert.EdgeBRefIdeal.nD Cert.EdgeBRefIdeal.τ).loc Cert.EdgeBRefIdeal.main_arg6) = m' ((c.tc : Thread Cert.EdgeBRefIdeal.nD Cert.EdgeBRefIdeal.τ).loc Cert.EdgeBRefIdeal.main_arg6))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v4_0)) (v1 : (c : Dev Cert.HeadIdeal.nD) → Buf (Elt Ideal) ((c.tc : Thread Cert.HeadIdeal.nD Cert.HeadIdeal.τ).loc Cert.HeadIdeal.main_v4_1)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v4_0) = v0 c
          ∧ r.2.mem ((c.tc : Thread Cert.HeadIdeal.nD Cert.HeadIdeal.τ).loc Cert.HeadIdeal.main_v4_1) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v2) = v0 c
          ∧ r.2.mem ((c.tc : Thread Cert.HeadRefIdeal.nD Cert.HeadRefIdeal.τ).loc Cert.HeadRefIdeal.main_v21) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def Claim : Prop :=
  ∃ (hKernel : Cert.Kernel.Facts) (hKernelIdeal : Cert.KernelIdeal.Facts) (hReferenceIdeal : Cert.ReferenceIdeal.Facts) (hReference : Cert.Reference.Facts) (hEdgeA : Cert.EdgeA.Facts) (hEdgeAIdeal : Cert.EdgeAIdeal.Facts) (hEdgeARefIdeal : Cert.EdgeARefIdeal.Facts) (hEdgeB : Cert.EdgeB.Facts) (hEdgeBIdeal : Cert.EdgeBIdeal.Facts) (hEdgeBRefIdeal : Cert.EdgeBRefIdeal.Facts) (hHead : Cert.Head.Facts) (hHeadIdeal : Cert.HeadIdeal.Facts) (hHeadRefIdeal : Cert.HeadRefIdeal.Facts) (hPre_idx_in_rows : Cert.Pre_idx_in_rows.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Reference (hReference := hReference) (hPre_idx_in_rows := hPre_idx_in_rows)
    ∧ quiescent_EdgeA (hEdgeA := hEdgeA)
    ∧ quiescent_EdgeAIdeal (hEdgeAIdeal := hEdgeAIdeal)
    ∧ quiescent_EdgeARefIdeal (hEdgeARefIdeal := hEdgeARefIdeal)
    ∧ quiescent_EdgeB (hEdgeB := hEdgeB)
    ∧ quiescent_EdgeBIdeal (hEdgeBIdeal := hEdgeBIdeal)
    ∧ quiescent_EdgeBRefIdeal (hEdgeBRefIdeal := hEdgeBRefIdeal)
    ∧ quiescent_Head (hHead := hHead)
    ∧ quiescent_HeadIdeal (hHeadIdeal := hHeadIdeal)
    ∧ quiescent_HeadRefIdeal (hHeadRefIdeal := hHeadRefIdeal)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_EdgeA_EdgeAIdeal
    ∧ algebraic_EdgeAIdeal_EdgeARefIdeal (hEdgeAIdeal := hEdgeAIdeal) (hEdgeARefIdeal := hEdgeARefIdeal)
    ∧ preserves_EdgeB_EdgeBIdeal
    ∧ algebraic_EdgeBIdeal_EdgeBRefIdeal (hEdgeBIdeal := hEdgeBIdeal) (hEdgeBRefIdeal := hEdgeBRefIdeal)
    ∧ preserves_Head_HeadIdeal
    ∧ algebraic_HeadIdeal_HeadRefIdeal (hHeadIdeal := hHeadIdeal) (hHeadRefIdeal := hHeadRefIdeal)
-- ==== Pre_idx_in_rows.lean ====
abbrev S8192x3 : Shape := ⟨2, ![8192, 3]⟩
abbrev S8192x64 : Shape := ⟨2, ![8192, 64]⟩
abbrev S8192x16 : Shape := ⟨2, ![8192, 16]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel

variable [Facts]

def fn {F : FTy → Type} [FloatOps F] (main_arg0 : FVec F S8192x3 .f32) (main_arg1 : FVec F S8192x64 .f32) (main_arg2 : IVec S8192x16 32) (main_arg3 : IVec S8192x16 32) : IVec S_ 1 :=
  let main_c : IVec S_ 32 := constantI S_ 32 0#32
  let main_v0 : IVec S8192x16 32 := broadcastInDim S8192x16 ![] bcast_S_S8192x16 main_c
  let main_v1 : IVec S8192x16 1 := cmpi .sge main_arg2 main_v0
  let main_c_0 : IVec S_ 32 := constantI S_ 32 8192#32
  let main_v2 : IVec S8192x16 32 := broadcastInDim S8192x16 ![] bcast_S_S8192x16 main_c_0
  let main_v3 : IVec S8192x16 1 := cmpi .slt main_arg2 main_v2
  let main_v4 : IVec S8192x16 1 := andi main_v1 main_v3
  let main_c_1 : IVec S_ 1 := constantI S_ 1 1#1
  let main_v5 : IVec S_ 1 := (fun x v => Host.reduce IntOp.andi x v reducesTo_S8192x16_S_d0_1 h_S_) main_v4 main_c_1
  let main_c_2 : IVec S_ 32 := constantI S_ 32 0#32
  let main_v6 : IVec S8192x16 32 := broadcastInDim S8192x16 ![] bcast_S_S8192x16 main_c_2
  let main_v7 : IVec S8192x16 1 := cmpi .sge main_arg3 main_v6
  let main_c_3 : IVec S_ 32 := constantI S_ 32 8192#32
  let main_v8 : IVec S8192x16 32 := broadcastInDim S8192x16 ![] bcast_S_S8192x16 main_c_3
  let main_v9 : IVec S8192x16 1 := cmpi .slt main_arg3 main_v8
  let main_v10 : IVec S8192x16 1 := andi main_v7 main_v9
  let main_c_4 : IVec S_ 1 := constantI S_ 1 1#1
  let main_v11 : IVec S_ 1 := (fun x v => Host.reduce IntOp.andi x v reducesTo_S8192x16_S_d0_1 h_S_) main_v10 main_c_4
  let main_v12 : IVec S_ 1 := andi main_v5 main_v11
  main_v12
-- ==== Kernel.lean ====
abbrev S8192x3 : Shape := ⟨2, ![8192, 3]⟩
abbrev S8192x64 : Shape := ⟨2, ![8192, 64]⟩
abbrev S8192x16 : Shape := ⟨2, ![8192, 16]⟩
abbrev S_ : Shape := ⟨0, ![]⟩
abbrev S8192x128 : Shape := ⟨2, ![8192, 128]⟩
abbrev S1x131072 : Shape := ⟨2, ![1, 131072]⟩
abbrev S131072x128 : Shape := ⟨2, ![131072, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S2x1x256 : Shape := ⟨3, ![2, 1, 256]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩

abbrev nBuf : Table → Nat
  | .hbm => 14
  | .local .scVector .vmem => 4
  | _ => 0

abbrev bufTy : (tb : Table) → Fin (nBuf tb) → BufTy
  | .hbm, ⟨0, _⟩ => ⟨S8192x3, .f32⟩
  | .hbm, ⟨1, _⟩ => ⟨S8192x64, .f32⟩
  | .hbm, ⟨2, _⟩ => ⟨S8192x16, .i32⟩
  | .hbm, ⟨3, _⟩ => ⟨S8192x16, .i32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S1x131072, .i32⟩
  | .hbm, ⟨8, _⟩ => ⟨S131072x128, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S1x131072, .i32⟩
  | .hbm, ⟨13, _⟩ => ⟨S131072x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x256, .i32⟩
  | .local .scVector .vmem, ⟨3, _⟩ => ⟨S2x256x128, .f32⟩
  | _, _ => ⟨S8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_v3_scv : Ref sig .scVector := ⟨.hbm, 11, rfl⟩
abbrev main_v4_scv : Ref sig .scVector := ⟨.hbm, 12, rfl⟩
abbrev main_v5_scv : Ref sig .scVector := ⟨.hbm, 13, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S131072x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S131072x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S131072x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S131072x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S131072x128.size a)
theorem k0_off19_inb : ∀ (i : grid0.Coords) (v33_4_r0 : BitVec 32) (k0_hw5 : k0_chk5 i v33_4_r0), ∀ a, (k0_off19 i v33_4_r0) a + S128x128.size a ≤ S131072x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨2, ![2, 16], ![false, false]⟩

def k1_off1 : Fin 3 → Nat :=
  let c0_i32_14_r0 : BitVec 32 := 0#32
  let c2_i32_r0 : BitVec 32 := 2#32
  let v21_r0 : BitVec 32 := Scalar.remui c0_i32_14_r0 c2_i32_r0
  let c0_i32_15_r0 : BitVec 32 := 0#32
  let c0_i32_16_r0 : BitVec 32 := 0#32
  ![v21_r0.toNat, 0, 0]
def k1_off2 (i : grid1.Coords) : Fin 2 → Nat :=
  let c0_i32_17_r0 : BitVec 32 := 0#32
  let c256_i32_r0 : BitVec 32 := 256#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v22_r0 : BitVec 32 := Scalar.muli c256_i32_r0 v7_r0
  ![0, v22_r0.toNat]
def k1_off3 : Fin 1 → Nat :=
  let c0_i32_14_r0 : BitVec 32 := 0#32
  let c2_i32_r0 : BitVec 32 := 2#32
  let v21_r0 : BitVec 32 := Scalar.remui c0_i32_14_r0 c2_i32_r0
  ![v21_r0.toNat]
@[reducible] def k1_t1_loop : Scf.Loop 32 :=
  let c0_i32_27_r0 : BitVec 32 := 0#32
  let c16_i32_28_r0 : BitVec 32 := 16#32
  let v32_r0 : BitVec 32 := Scalar.addi c0_i32_27_r0 c16_i32_28_r0
  let c1_i32_29_r0 : BitVec 32 := 1#32
  ⟨c0_i32_27_r0, v32_r0, c1_i32_29_r0⟩
def k1_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_69_r0 : BitVec 32 := 15#32
  let v83_r0 : BitVec 1 := Scalar.cmpi .sge arg5_r0 c15_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k1_off5 (i : grid1.Coords) (arg10_r0 : BitVec 32) : Fin 2 → Nat :=
  let c0_i32_104_r0 : BitVec 32 := 0#32
  let c256_i32_101_r0 : BitVec 32 := 256#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v76_r0 : BitVec 32 := Scalar.addi v75_r0 v4
  let v145_r0 : BitVec 32 := Scalar.muli c256_i32_101_r0 v76_r0
  ![0, v145_r0.toNat]
def k1_off6 (arg6_r0 : BitVec 32) : Fin 1 → Nat :=
  let c2_i32_100_r0 : BitVec 32 := 2#32
  let v144_r0 : BitVec 32 := Scalar.remui arg6_r0 c2_i32_100_r0
  ![v144_r0.toNat]
def k1_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k1_off8 (i : grid1.Coords) (arg10_r0 : BitVec 32) : Fin 2 → Nat :=
  let c0_i32_104_r0 : BitVec 32 := 0#32
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v144_r0 : BitVec 32 := Scalar.muli c256_i32_100_r0 v66_r0
  ![0, v144_r0.toNat]
def k1_off9 (arg7_r0 : BitVec 32) : Fin 1 → Nat :=
  let c2_i32_101_r0 : BitVec 32 := 2#32
  let v145_r0 : BitVec 32 := Scalar.remui arg7_r0 c2_i32_101_r0
  ![v145_r0.toNat]
def k1_off10 (arg8_r0 : BitVec 32) : Fin 3 → Nat :=
  let c2_i32_82_r0 : BitVec 32 := 2#32
  let v109_r0 : BitVec 32 := Scalar.remui arg8_r0 c2_i32_82_r0
  let c0_i32_100_r1 : BitVec 32 := 0#32
  let c0_i32_101_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_81_r0 : BitVec 32 := 2#32
  let v108_r0 : BitVec 32 := Scalar.remui arg7_r0 c2_i32_81_r0
  let c0_i32_102_r1 : BitVec 32 := 0#32
  let c0_i32_103_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c16_i32_63_r0 : BitVec 32 := 16#32
  let v74_r0 : BitVec 1 := Scalar.cmpi .eq v73_r0 c16_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k1_t1
  let c15_i32_56_r0 : BitVec 32 := 15#32
  let v65_r0 : BitVec 1 := Scalar.cmpi .eq arg5_r0 c15_i32_56_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k1_off13 (i : grid1.Coords) (arg10_r0 : BitVec 32) : Fin 2 → Nat :=
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let v145_r0 : BitVec 32 := Scalar.muli c256_i32_101_r0 v66_r0
  let c0_i32_104_r0 : BitVec 32 := 0#32
  ![v145_r0.toNat, 0]
def k1_off14 (arg8_r0 : BitVec 32) : Fin 1 → Nat :=
  let c2_i32_100_r0 : BitVec 32 := 2#32
  let v144_r0 : BitVec 32 := Scalar.remui arg8_r0 c2_i32_100_r0
  ![v144_r0.toNat]
def k1_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k1_t1
  let c0_i32_55_r0 : BitVec 32 := 0#32
  let v64_r0 : BitVec 1 := Scalar.cmpi .eq arg5_r0 c0_i32_55_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k1_off16 (i : grid1.Coords) (arg10_r0 : BitVec 32) : Fin 2 → Nat :=
  let c256_i32_101_r0 : BitVec 32 := 256#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c15_i32_60_r0 : BitVec 32 := 15#32
  let v70_r0 : BitVec 32 := Scalar.select v69_r0 c15_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v71_r0 : BitVec 32 := Scalar.addi v70_r0 v4
  let v145_r0 : BitVec 32 := Scalar.muli c256_i32_101_r0 v71_r0
  let c0_i32_104_r0 : BitVec 32 := 0#32
  ![v145_r0.toNat, 0]
def k1_off17 (arg9_r0 : BitVec 32) : Fin 1 → Nat :=
  let c2_i32_100_r0 : BitVec 32 := 2#32
  let v144_r0 : BitVec 32 := Scalar.remui arg9_r0 c2_i32_100_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x131072.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x131072.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S131072x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S131072x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x131072.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x131072.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S131072x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S131072x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k1_off19 (i : grid1.Coords) (v33_4_r0 : BitVec 32) : Fin 2 → Nat :=
  let c256_i32_48_r0 : BitVec 32 := 256#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c15_i32_34_r0 : BitVec 32 := 15#32
  let v37_r0 : BitVec 32 := Scalar.select v36_r0 c15_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v38_r0 : BitVec 32 := Scalar.addi v37_r0 v4
  let v55_r0 : BitVec 32 := Scalar.muli c256_i32_48_r0 v38_r0
  let c0_i32_51_r0 : BitVec 32 := 0#32
  ![v55_r0.toNat, 0]

def k1_chk5 (i : grid1.Coords) (v33_4_r0 : BitVec 32) : Prop :=
  (∀ a, (k1_off19 i v33_4_r0) a + S256x128.size a ≤ S131072x128.size a)
theorem k1_off19_inb : ∀ (i : grid1.Coords) (v33_4_r0 : BitVec 32) (k1_hw5 : k1_chk5 i v33_4_r0), ∀ a, (k1_off19 i v33_4_r0) a + S256x128.size a ≤ S131072x128.size a := fun i v33_4_r0 k1_hw5 => k1_hw5

def k1_off20 (v33_3_r0 : BitVec 32) : Fin 1 → Nat :=
  let c2_i32_47_r0 : BitVec 32 := 2#32
  let v54_r0 : BitVec 32 := Scalar.remui v33_3_r0 c2_i32_47_r0
  ![v54_r0.toNat]
def k1_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S8192x3 : Shape := ⟨2, ![8192, 3]⟩
abbrev S8192x64 : Shape := ⟨2, ![8192, 64]⟩
abbrev S8192x16 : Shape := ⟨2, ![8192, 16]⟩
abbrev S_ : Shape := ⟨0, ![]⟩
abbrev S8192x16x1 : Shape := ⟨3, ![8192, 16, 1]⟩
abbrev S8192x16x3 : Shape := ⟨3, ![8192, 16, 3]⟩
abbrev S8192x16x64 : Shape := ⟨3, ![8192, 16, 64]⟩
abbrev S131072x3 : Shape := ⟨2, ![131072, 3]⟩
abbrev S131072x128 : Shape := ⟨2, ![131072, 128]⟩
abbrev S131072x64 : Shape := ⟨2, ![131072, 64]⟩

abbrev nBuf : Space → Nat
  | .hbm => 30
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x64, .f32⟩
  | .hbm, ⟨2, _⟩ => ⟨S8192x16, .i32⟩
  | .hbm, ⟨3, _⟩ => ⟨S8192x16, .i32⟩
  | .hbm, ⟨4, _⟩ => ⟨S_, .i32⟩
  | .hbm, ⟨5, _⟩ => ⟨S8192x16, .i32⟩
  | .hbm, ⟨6, _⟩ => ⟨S8192x16, .i1⟩
  | .hbm, ⟨7, _⟩ => ⟨S_, .i32⟩
  | .hbm, ⟨8, _⟩ => ⟨S8192x16, .i32⟩
  | .hbm, ⟨9, _⟩ => ⟨S8192x16, .i32⟩
  | .hbm, ⟨10, _⟩ => ⟨S8192x16, .i32⟩
  | .hbm, ⟨11, _⟩ => ⟨S8192x16x1, .i32⟩
  | .hbm, ⟨12, _⟩ => ⟨S8192x16x3, .f32⟩
  | .hbm, ⟨13, _⟩ => ⟨S_, .i32⟩
  | .hbm, ⟨14, _⟩ => ⟨S8192x16, .i32⟩
  | .hbm, ⟨15, _⟩ => ⟨S8192x16, .i1⟩
  | .hbm, ⟨16, _⟩ => ⟨S_, .i32⟩
  | .hbm, ⟨17, _⟩ => ⟨S8192x16, .i32⟩
  | .hbm, ⟨18, _⟩ => ⟨S8192x16, .i32⟩
  | .hbm, ⟨19, _⟩ => ⟨S8192x16, .i32⟩
  | .hbm, ⟨20, _⟩ => ⟨S8192x16x1, .i32⟩
  | .hbm, ⟨21, _⟩ => ⟨S8192x16x64, .f32⟩
  | .hbm, ⟨22, _⟩ => ⟨S131072x3, .f32⟩
  | .hbm, ⟨23, _⟩ => ⟨S_, .i32⟩
  | .hbm, ⟨24, _⟩ => ⟨S_, .f32⟩
  | .hbm, ⟨25, _⟩ => ⟨S131072x128, .f32⟩
  | .hbm, ⟨26, _⟩ => ⟨S131072x64, .f32⟩
  | .hbm, ⟨27, _⟩ => ⟨S_, .i32⟩
  | .hbm, ⟨28, _⟩ => ⟨S_, .f32⟩
  | .hbm, ⟨29, _⟩ => ⟨S131072x128, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_call1_v0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== EdgeA.lean ====
abbrev S8192x3 : Shape := ⟨2, ![8192, 3]⟩
abbrev S131072x128 : Shape := ⟨2, ![131072, 128]⟩
abbrev S8192 : Shape := ⟨1, ![8192]⟩
abbrev S6x32 : Shape := ⟨2, ![6, 32]⟩
abbrev S32 : Shape := ⟨1, ![32]⟩
abbrev S32x64 : Shape := ⟨2, ![32, 64]⟩
abbrev S64 : Shape := ⟨1, ![64]⟩
abbrev S8192x1 : Shape := ⟨2, ![8192, 1]⟩
abbrev S_ : Shape := ⟨0, ![]⟩
abbrev S8192x128 : Shape := ⟨2, ![8192, 128]⟩
abbrev S1x32 : Shape := ⟨2, ![1, 32]⟩
abbrev S1x64 : Shape := ⟨2, ![1, 64]⟩
abbrev S8192x64 : Shape := ⟨2, ![8192, 64]⟩
abbrev S8x64 : Shape := ⟨2, ![8, 64]⟩
abbrev S256x128 : Shape := ⟨2, ![256, 128]⟩
abbrev S4096x128 : Shape := ⟨2, ![4096, 128]⟩
abbrev S256x1 : Shape := ⟨2, ![256, 1]⟩
abbrev S256x64 : Shape := ⟨2, ![256, 64]⟩
abbrev S256x3 : Shape := ⟨2, ![256, 3]⟩
abbrev S256x16x128 : Shape := ⟨3, ![256, 16, 128]⟩
abbrev S256x16x3 : Shape := ⟨3, ![256, 16, 3]⟩
abbrev S256x1x3 : Shape := ⟨3, ![256, 1, 3]⟩
abbrev S256x16x6 : Shape := ⟨3, ![256, 16, 6]⟩
abbrev S4096x6 : Shape := ⟨2, ![4096, 6]⟩
abbrev S4096x32 : Shape := ⟨2, ![4096, 32]⟩
abbrev S4096x64 : Shape := ⟨2, ![4096, 64]⟩
abbrev S256x16x64 : Shape := ⟨3, ![256, 16, 64]⟩

abbrev nBuf : Space → Nat
  | .hbm => 15
  | .vmem => 13
  | .smem => 0
  | _ => 0

abbrev bufTy : (tb : Table) → Fin (tcTables nBuf tb) → BufTy
  | .hbm, ⟨0, _⟩ => ⟨S8192x3, .f32⟩
  | .hbm, ⟨1, _⟩ => ⟨S131072x128, .f32⟩
  | .hbm, ⟨2, _⟩ => ⟨S8192, .i32⟩
  | .hbm, ⟨3, _⟩ => ⟨S6x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S8192x1, .i32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S1x32, .f32⟩
  | .hbm, ⟨12, _⟩ => ⟨S1x64, .f32⟩
  | .hbm, ⟨13, _⟩ => ⟨S8192x64, .f32⟩
  | .hbm, ⟨14, _⟩ => ⟨S8x64, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S6x32, .f32⟩
  | .local _ .vmem, ⟨5, _⟩ => ⟨S1x32, .f32⟩
  | .local _ .vmem, ⟨6, _⟩ => ⟨S32x64, .f32⟩
  | .local _ .vmem, ⟨7, _⟩ => ⟨S1x64, .f32⟩
  | .local _ .vmem, ⟨8, _⟩ => ⟨S256x1, .i32⟩
  | .local _ .vmem, ⟨9, _⟩ => ⟨S256x1, .i32⟩
  | .local _ .vmem, ⟨10, _⟩ => ⟨S256x64, .f32⟩
  | .local _ .vmem, ⟨11, _⟩ => ⟨S256x64, .f32⟩
  | .local _ .vmem, ⟨12, _⟩ => ⟨S8x64, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== EdgeARefIdeal.lean ====
abbrev S8192x3 : Shape := ⟨2, ![8192, 3]⟩
abbrev S131072x128 : Shape := ⟨2, ![131072, 128]⟩
abbrev S8192 : Shape := ⟨1, ![8192]⟩
abbrev S6x32 : Shape := ⟨2, ![6, 32]⟩
abbrev S32 : Shape := ⟨1, ![32]⟩
abbrev S32x64 : Shape := ⟨2, ![32, 64]⟩
abbrev S64 : Shape := ⟨1, ![64]⟩
abbrev S8192x16x128 : Shape := ⟨3, ![8192, 16, 128]⟩
abbrev S8192x16x3 : Shape := ⟨3, ![8192, 16, 3]⟩
abbrev S8192x1x3 : Shape := ⟨3, ![8192, 1, 3]⟩
abbrev S8192x16x6 : Shape := ⟨3, ![8192, 16, 6]⟩
abbrev S8192x16x32 : Shape := ⟨3, ![8192, 16, 32]⟩
abbrev S1x1x32 : Shape := ⟨3, ![1, 1, 32]⟩
abbrev S_ : Shape := ⟨0, ![]⟩
abbrev S8192x16x64 : Shape := ⟨3, ![8192, 16, 64]⟩
abbrev S1x1x64 : Shape := ⟨3, ![1, 1, 64]⟩
abbrev S8192x64 : Shape := ⟨2, ![8192, 64]⟩
abbrev S1x8192x1 : Shape := ⟨3, ![1, 8192, 1]⟩
abbrev S8 : Shape := ⟨1, ![8]⟩
abbrev S8x1x1 : Shape := ⟨3, ![8, 1, 1]⟩
abbrev S8x8192x1 : Shape := ⟨3, ![8, 8192, 1]⟩
abbrev S1x8192x64 : Shape := ⟨3, ![1, 8192, 64]⟩
abbrev S8x8192x64 : Shape := ⟨3, ![8, 8192, 64]⟩
abbrev S8x64 : Shape := ⟨2, ![8, 64]⟩

abbrev nBuf : Space → Nat
  | .hbm => 47
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S131072x128, .f32⟩
  | .hbm, ⟨2, _⟩ => ⟨S8192, .i32⟩
  | .hbm, ⟨3, _⟩ => ⟨S6x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S8192x16x128, .f32⟩
  | .hbm, ⟨8, _⟩ => ⟨S8192x16x3, .f32⟩
  | .hbm, ⟨9, _⟩ => ⟨S8192x1x3, .f32⟩
  | .hbm, ⟨10, _⟩ => ⟨S8192x16x3, .f32⟩
  | .hbm, ⟨11, _⟩ => ⟨S8192x16x3, .f32⟩
  | .hbm, ⟨12, _⟩ => ⟨S8192x16x6, .f32⟩
  | .hbm, ⟨13, _⟩ => ⟨S8192x16x32, .f32⟩
  | .hbm, ⟨14, _⟩ => ⟨S1x1x32, .f32⟩
  | .hbm, ⟨15, _⟩ => ⟨S8192x16x32, .f32⟩
  | .hbm, ⟨16, _⟩ => ⟨S8192x16x32, .f32⟩
  | .hbm, ⟨17, _⟩ => ⟨S_, .f32⟩
  | .hbm, ⟨18, _⟩ => ⟨S8192x16x32, .f32⟩
  | .hbm, ⟨19, _⟩ => ⟨S8192x16x32, .f32⟩
  | .hbm, ⟨20, _⟩ => ⟨S8192x16x64, .f32⟩
  | .hbm, ⟨21, _⟩ => ⟨S1x1x64, .f32⟩
  | .hbm, ⟨22, _⟩ => ⟨S8192x16x64, .f32⟩
  | .hbm, ⟨23, _⟩ => ⟨S8192x16x64, .f32⟩
  | .hbm, ⟨24, _⟩ => ⟨S_, .f32⟩
  | .hbm, ⟨25, _⟩ => ⟨S8192x16x64, .f32⟩
  | .hbm, ⟨26, _⟩ => ⟨S8192x16x64, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S8192x64, .f32⟩
  | .hbm, ⟨31, _⟩ => ⟨S8192x64, .f32⟩
  | .hbm, ⟨32, _⟩ => ⟨S1x8192x1, .i32⟩
  | .hbm, ⟨33, _⟩ => ⟨S8, .i32⟩
  | .hbm, ⟨34, _⟩ => ⟨S8x1x1, .i32⟩
  | .hbm, ⟨35, _⟩ => ⟨S8x8192x1, .i32⟩
  | .hbm, ⟨36, _⟩ => ⟨S8x8192x1, .i32⟩
  | .hbm, ⟨37, _⟩ => ⟨S8x8192x1, .i1⟩
  | .hbm, ⟨38, _⟩ => ⟨S1x8192x64, .f32⟩
  | .hbm, ⟨39, _⟩ => ⟨S_, .f32⟩
  | .hbm, ⟨40, _⟩ => ⟨S_, .f32⟩
  | .hbm, ⟨41, _⟩ => ⟨S8x8192x64, .i1⟩
  | .hbm, ⟨42, _⟩ => ⟨S8x8192x64, .f32⟩
  | .hbm, ⟨43, _⟩ => ⟨S8x8192x64, .f32⟩
  | .hbm, ⟨44, _⟩ => ⟨S8x8192x64, .f32⟩
  | .hbm, ⟨45, _⟩ => ⟨S_, .f32⟩
  | .hbm, ⟨46, _⟩ => ⟨S8x64, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== EdgeB.lean ====
abbrev S8192x64 : Shape := ⟨2, ![8192, 64]⟩
abbrev S131072x128 : Shape := ⟨2, ![131072, 128]⟩
abbrev S8192 : Shape := ⟨1, ![8192]⟩
abbrev S128x128 : Shape := ⟨2, ![128, 128]⟩
abbrev S128 : Shape := ⟨1, ![128]⟩
abbrev S128x256 : Shape := ⟨2, ![128, 256]⟩
abbrev S256 : Shape := ⟨1, ![256]⟩
abbrev S8192x1 : Shape := ⟨2, ![8192, 1]⟩
abbrev S_ : Shape := ⟨0, ![]⟩
abbrev S8192x128 : Shape := ⟨2, ![8192, 128]⟩
abbrev S1x128 : Shape := ⟨2, ![1, 128]⟩
abbrev S1x256 : Shape := ⟨2, ![1, 256]⟩
abbrev S8192x256 : Shape := ⟨2, ![8192, 256]⟩
abbrev S8x256 : Shape := ⟨2, ![8, 256]⟩
abbrev S256x128 : Shape := ⟨2, ![256, 128]⟩
abbrev S4096x128 : Shape := ⟨2, ![4096, 128]⟩
abbrev S256x1 : Shape := ⟨2, ![256, 1]⟩
abbrev S256x256 : Shape := ⟨2, ![256, 256]⟩
abbrev S256x64 : Shape := ⟨2, ![256, 64]⟩
abbrev S256x16x128 : Shape := ⟨3, ![256, 16, 128]⟩
abbrev S256x16x64 : Shape := ⟨3, ![256, 16, 64]⟩
abbrev S256x1x64 : Shape := ⟨3, ![256, 1, 64]⟩
abbrev S4096x256 : Shape := ⟨2, ![4096, 256]⟩
abbrev S256x16x256 : Shape := ⟨3, ![256, 16, 256]⟩

abbrev nBuf : Space → Nat
  | .hbm => 15
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S131072x128, .f32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S8192x1, .i32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S1x128, .f32⟩
  | .hbm, ⟨12, _⟩ => ⟨S1x256, .f32⟩
  | .hbm, ⟨13, _⟩ => ⟨S8192x256, .f32⟩
  | .hbm, ⟨14, _⟩ => ⟨S8x256, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S256x1, .i32⟩
  | .local _ .vmem, ⟨9, _⟩ => ⟨S256x1, .i32⟩
  | .local _ .vmem, ⟨10, _⟩ => ⟨S256x256, .f32⟩
  | .local _ .vmem, ⟨11, _⟩ => ⟨S256x256, .f32⟩
  | .local _ .vmem, ⟨12, _⟩ => ⟨S8x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== EdgeBRefIdeal.lean ====
abbrev S8192x64 : Shape := ⟨2, ![8192, 64]⟩
abbrev S131072x128 : Shape := ⟨2, ![131072, 128]⟩
abbrev S8192 : Shape := ⟨1, ![8192]⟩
abbrev S128x128 : Shape := ⟨2, ![128, 128]⟩
abbrev S128 : Shape := ⟨1, ![128]⟩
abbrev S128x256 : Shape := ⟨2, ![128, 256]⟩
abbrev S256 : Shape := ⟨1, ![256]⟩
abbrev S8192x16x128 : Shape := ⟨3, ![8192, 16, 128]⟩
abbrev S8192x16x64 : Shape := ⟨3, ![8192, 16, 64]⟩
abbrev S8192x1x64 : Shape := ⟨3, ![8192, 1, 64]⟩
abbrev S1x1x128 : Shape := ⟨3, ![1, 1, 128]⟩
abbrev S_ : Shape := ⟨0, ![]⟩
abbrev S8192x16x256 : Shape := ⟨3, ![8192, 16, 256]⟩
abbrev S1x1x256 : Shape := ⟨3, ![1, 1, 256]⟩
abbrev S8192x256 : Shape := ⟨2, ![8192, 256]⟩
abbrev S1x8192x1 : Shape := ⟨3, ![1, 8192, 1]⟩
abbrev S8 : Shape := ⟨1, ![8]⟩
abbrev S8x1x1 : Shape := ⟨3, ![8, 1, 1]⟩
abbrev S8x8192x1 : Shape := ⟨3, ![8, 8192, 1]⟩
abbrev S1x8192x256 : Shape := ⟨3, ![1, 8192, 256]⟩
abbrev S8x8192x256 : Shape := ⟨3, ![8, 8192, 256]⟩
abbrev S8x256 : Shape := ⟨2, ![8, 256]⟩

abbrev nBuf : Space → Nat
  | .hbm => 47
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S131072x128, .f32⟩
  | .hbm, ⟨2, _⟩ => ⟨S8192, .i32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S8192x16x128, .f32⟩
  | .hbm, ⟨8, _⟩ => ⟨S8192x16x64, .f32⟩
  | .hbm, ⟨9, _⟩ => ⟨S8192x1x64, .f32⟩
  | .hbm, ⟨10, _⟩ => ⟨S8192x16x64, .f32⟩
  | .hbm, ⟨11, _⟩ => ⟨S8192x16x64, .f32⟩
  | .hbm, ⟨12, _⟩ => ⟨S8192x16x128, .f32⟩
  | .hbm, ⟨13, _⟩ => ⟨S8192x16x128, .f32⟩
  | .hbm, ⟨14, _⟩ => ⟨S1x1x128, .f32⟩
  | .hbm, ⟨15, _⟩ => ⟨S8192x16x128, .f32⟩
  | .hbm, ⟨16, _⟩ => ⟨S8192x16x128, .f32⟩
  | .hbm, ⟨17, _⟩ => ⟨S_, .f32⟩
  | .hbm, ⟨18, _⟩ => ⟨S8192x16x128, .f32⟩
  | .hbm, ⟨19, _⟩ => ⟨S8192x16x128, .f32⟩
  | .hbm, ⟨20, _⟩ => ⟨S8192x16x256, .f32⟩
  | .hbm, ⟨21, _⟩ => ⟨S1x1x256, .f32⟩
  | .hbm, ⟨22, _⟩ => ⟨S8192x16x256, .f32⟩
  | .hbm, ⟨23, _⟩ => ⟨S8192x16x256, .f32⟩
  | .hbm, ⟨24, _⟩ => ⟨S_, .f32⟩
  | .hbm, ⟨25, _⟩ => ⟨S8192x16x256, .f32⟩
  | .hbm, ⟨26, _⟩ => ⟨S8192x16x256, .f32⟩
  | .hbm, ⟨27, _⟩ => ⟨S_, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S1x8192x1, .i32⟩
  | .hbm, ⟨33, _⟩ => ⟨S8, .i32⟩
  | .hbm, ⟨34, _⟩ => ⟨S8x1x1, .i32⟩
  | .hbm, ⟨35, _⟩ => ⟨S8x8192x1, .i32⟩
  | .hbm, ⟨36, _⟩ => ⟨S8x8192x1, .i32⟩
  | .hbm, ⟨37, _⟩ => ⟨S8x8192x1, .i1⟩
  | .hbm, ⟨38, _⟩ => ⟨S1x8192x256, .f32⟩
  | .hbm, ⟨39, _⟩ => ⟨S_, .f32⟩
  | .hbm, ⟨40, _⟩ => ⟨S_, .f32⟩
  | .hbm, ⟨41, _⟩ => ⟨S8x8192x256, .i1⟩
  | .hbm, ⟨42, _⟩ => ⟨S8x8192x256, .f32⟩
  | .hbm, ⟨43, _⟩ => ⟨S8x8192x256, .f32⟩
  | .hbm, ⟨44, _⟩ => ⟨S8x8192x256, .f32⟩
  | .hbm, ⟨45, _⟩ => ⟨S_, .f32⟩
  | .hbm, ⟨46, _⟩ => ⟨S8x256, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Head.lean ====
abbrev S8192x64 : Shape := ⟨2, ![8192, 64]⟩
abbrev S8192x256 : Shape := ⟨2, ![8192, 256]⟩
abbrev S8x256 : Shape := ⟨2, ![8, 256]⟩
abbrev S576x256 : Shape := ⟨2, ![576, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S8x1x256 : Shape := ⟨3, ![8, 1, 256]⟩
abbrev S1x256 : Shape := ⟨2, ![1, 256]⟩
abbrev S1x64 : Shape := ⟨2, ![1, 64]⟩
abbrev S1x1 : Shape := ⟨2, ![1, 1]⟩
abbrev S8192x576 : Shape := ⟨2, ![8192, 576]⟩
abbrev S8192x1 : Shape := ⟨2, ![8192, 1]⟩
abbrev S512x64 : Shape := ⟨2, ![512, 64]⟩
abbrev S512x256 : Shape := ⟨2, ![512, 256]⟩
abbrev S1x1x256 : Shape := ⟨3, ![1, 1, 256]⟩
abbrev S512x576 : Shape := ⟨2, ![512, 576]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192x256, .f32⟩
  | .hbm, ⟨2, _⟩ => ⟨S8x256, .f32⟩
  | .hbm, ⟨3, _⟩ => ⟨S576x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S8x1x256, .f32⟩
  | .hbm, ⟨10, _⟩ => ⟨S1x256, .f32⟩
  | .hbm, ⟨11, _⟩ => ⟨S1x64, .f32⟩
  | .hbm, ⟨12, _⟩ => ⟨S1x1, .f32⟩
  | .hbm, ⟨13, _⟩ => ⟨S8192x576, .f32⟩
  | .hbm, ⟨14, _⟩ => ⟨S8192x1, .f32⟩
  | .local _ .vmem, ⟨0, _⟩ => ⟨S512x64, .f32⟩
  | .local _ .vmem, ⟨1, _⟩ => ⟨S512x64, .f32⟩
  | .local _ .vmem, ⟨2, _⟩ => ⟨S512x256, .f32⟩
  | .local _ .vmem, ⟨3, _⟩ => ⟨S512x256, .f32⟩
  | .local _ .vmem, ⟨4, _⟩ => ⟨S1x1x256, .f32⟩
  | .local _ .vmem, ⟨5, _⟩ => ⟨S1x1x256, .f32⟩
  | .local _ .vmem, ⟨6, _⟩ => ⟨S576x256, .f32⟩
  | .local _ .vmem, ⟨7, _⟩ => ⟨S1x256, .f32⟩
  | .local _ .vmem, ⟨8, _⟩ => ⟨S256x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S512x576, .f32⟩
  | .local _ .vmem, ⟨13, _⟩ => ⟨S512x576, .f32⟩
  | .local _ .vmem, ⟨14, _⟩ => ⟨S512x1, .f32⟩
  | .local _ .vmem, ⟨15, _⟩ => ⟨S512x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S576x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HeadRefIdeal.lean ====
abbrev S8192x64 : Shape := ⟨2, ![8192, 64]⟩
abbrev S8192x256 : Shape := ⟨2, ![8192, 256]⟩
abbrev S8x256 : Shape := ⟨2, ![8, 256]⟩
abbrev S576x256 : Shape := ⟨2, ![576, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S8x1024x256 : Shape := ⟨3, ![8, 1024, 256]⟩
abbrev S8192x576 : Shape := ⟨2, ![8192, 576]⟩
abbrev S1x256 : Shape := ⟨2, ![1, 256]⟩
abbrev S_ : Shape := ⟨0, ![]⟩
abbrev S1x64 : Shape := ⟨2, ![1, 64]⟩
abbrev S8192x1 : Shape := ⟨2, ![8192, 1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x256, .f32⟩
  | .hbm, ⟨2, _⟩ => ⟨S8x256, .f32⟩
  | .hbm, ⟨3, _⟩ => ⟨S576x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S8x1024x256, .f32⟩
  | .hbm, ⟨10, _⟩ => ⟨S8192x256, .f32⟩
  | .hbm, ⟨11, _⟩ => ⟨S8192x576, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x64, .f32⟩
  | .hbm, ⟨20, _⟩ => ⟨S1x64, .f32⟩
  | .hbm, ⟨21, _⟩ => ⟨S8192x64, .f32⟩
  | .hbm, ⟨22, _⟩ => ⟨S8192x64, .f32⟩
  | .hbm, ⟨23, _⟩ => ⟨S8192x1, .f32⟩
  | .hbm, ⟨24, _⟩ => ⟨S1x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Pipe.lean ====
/-
  What a tile holds while its pipeline runs, over any memrefs: a memref's elements at given values (`At`), or at
  any (`Any`); a transfer on its way (`Moving`); the tile's record of its waits (`Thr`). And one rule per step the
  pipeline takes: the transfer's start, its wait, and the indirect gather with its wait.
-/
module

public import Idealize.ShloMosaic.Lib.SparseCore.Stream
public import Idealize.ShloMosaic.Lib.SparseCore.Ops
public import Idealize.ShloMosaic.Lib.Transfers
public import Idealize.ShloMosaic.Lib.VecWindow
public import Idealize.ShloMosaic.Lib.ValueLayout

@[expose] public section

noncomputable section

namespace Cert.Proof.Pipe

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

section Held

variable (c : Thread nD τ) {sp : Space} {s : Shape} {e : EltTy}

/-- The memref's elements under the indices `M`, held at share `q`, reading `X` there. -/
def At (m : Memref sig c.2.kind sp s e) (M : Finset s.Idx) (q : PosShare TreeShare) (X : s.Idx → Elt F e) : sProp 𝕄 :=
  iprop(∃ f : Buf (Elt F) (m.view.loc c), ⌜∀ x ∈ M, m.view.read (Elt F) f x = X x⌝ ∗ (m.view.loc c ↦[m.view.setOn M]{q} f))

/-- The memref's elements under the indices `M`, held outright, at any contents. -/
def Any (m : Memref sig c.2.kind sp s e) (M : Finset s.Idx) : sProp 𝕄 :=
  iprop(∃ f : Buf (Elt F) (m.view.loc c), (m.view.loc c ↦[m.view.setOn M]{fullShare} f))

variable {c}
variable {m : Memref sig c.2.kind sp s e} {M N : Finset s.Idx} {q : PosShare TreeShare} {X Y : s.Idx → Elt F e}

theorem At.any : (At c m M fullShare X : sProp 𝕄) ⊢ Any c m M := by
  unfold At Any
  iintro ⟨%f, -, H⟩
  iexists f; iexact H

theorem At.congr (h : ∀ x ∈ M, X x = Y x) : (At c m M q X : sProp 𝕄) ⊢ At c m M q Y := by
  unfold At
  iintro ⟨%f, %hf, H⟩
  iexists f; isplitr
  · ipureintro; exact fun x hx => (hf x hx).trans (h x hx)
  · iexact H

variable (m) in
theorem disjoint_setOn (h : Disjoint M N) : Disjoint (m.view.setOn M) (m.view.setOn N) :=
  (Finset.disjoint_map m.view.emb).mpr h

theorem setOn_union [DecidableEq s.Idx] : m.view.setOn (M ∪ N) = m.view.setOn M ∪ m.view.setOn N := by
  unfold View.setOn; ext i; simp only [Finset.mem_map, Finset.mem_union]; constructor
  · rintro ⟨a, ha | ha, rfl⟩; exacts [.inl ⟨a, ha, rfl⟩, .inr ⟨a, ha, rfl⟩]
  · rintro (⟨a, ha, rfl⟩ | ⟨a, ha, rfl⟩); exacts [⟨a, .inl ha, rfl⟩, ⟨a, .inr ha, rfl⟩]

/-- What is read under `M` is settled by the contents there. -/
theorem read_congr {f g : Buf (Elt F) (m.view.loc c)} (h : ∀ i ∈ m.view.setOn M, f i = g i) (x : s.Idx) (hx : x ∈ M) :
    m.view.read (Elt F) f x = m.view.read (Elt F) g x := by
  rw [View.read_apply, View.read_apply, h _ (m.view.mem_setOn.mpr hx)]

theorem At.split [DecidableEq s.Idx] (h : Disjoint M N) : (At c m (M ∪ N) q X : sProp 𝕄) ⊢ iprop(At c m M q X ∗ At c m N q X) := by
  unfold At
  iintro ⟨%f, %hf, H⟩
  rw [setOn_union]
  ihave H' := (pointsTo_union (disjoint_setOn m h)).1 $$ H
  icases H' with ⟨H1, H2⟩
  isplitl [H1]
  · iexists f; isplitr
    · ipureintro; exact fun x hx => hf x (Finset.mem_union_left _ hx)
    · iexact H1
  · iexists f; isplitr
    · ipureintro; exact fun x hx => hf x (Finset.mem_union_right _ hx)
    · iexact H2

theorem At.join [DecidableEq s.Idx] (h : Disjoint M N) : iprop(At c m M q X ∗ At c m N q X) ⊢ (At c m (M ∪ N) q X : sProp 𝕄) := by
  unfold At
  iintro ⟨⟨%f, %hf, H1⟩, ⟨%g, %hg, H2⟩⟩
  ihave H := (pointsTo_join (ℓ := m.view.loc c) (disjoint_setOn m h)) $$ [H1 H2]
  · isplitl [H1] <;> iassumption
  iexists (m.view.setOn N).piecewise g f
  isplitr
  · ipureintro
    intro x hx
    by_cases hN : x ∈ N
    · rw [← hg x hN]
      exact read_congr (M := N) (fun i hi => Finset.piecewise_eq_of_mem (m.view.setOn N) g f hi) x hN
    · have hM : x ∈ M := (Finset.mem_union.mp hx).resolve_right hN
      rw [← hf x hM]
      exact read_congr (M := M) (fun i hi => Finset.piecewise_eq_of_notMem (m.view.setOn N) g f (Finset.disjoint_left.mp (disjoint_setOn m h) hi)) x hM
  · rw [setOn_union]; iexact H

theorem Any.split [DecidableEq s.Idx] (h : Disjoint M N) : (Any (F := F) c m (M ∪ N) : sProp 𝕄) ⊢ iprop(Any c m M ∗ Any c m N) := by
  unfold Any
  iintro ⟨%f, H⟩
  rw [setOn_union]
  ihave H' := (pointsTo_union (disjoint_setOn m h)).1 $$ H
  icases H' with ⟨H1, H2⟩
  isplitl [H1]
  · iexists f; iexact H1
  · iexists f; iexact H2

theorem Any.join [DecidableEq s.Idx] (h : Disjoint M N) : iprop(Any c m M ∗ Any c m N) ⊢ (Any (F := F) c m (M ∪ N) : sProp 𝕄) := by
  unfold Any
  iintro ⟨⟨%f, H1⟩, ⟨%g, H2⟩⟩
  ihave H := (pointsTo_join (ℓ := m.view.loc c) (disjoint_setOn m h)) $$ [H1 H2]
  · isplitl [H1] <;> iassumption
  iexists (m.view.setOn N).piecewise g f
  rw [setOn_union]; iexact H

/-- A part of what is held, lent out: it goes back by the wand. -/
theorem At.lend (h : N ⊆ M) : (At c m M q X : sProp 𝕄) ⊢ iprop(At c m N q X ∗ (At c m N q X -∗ At c m M q X)) := by
  classical
  have e : N ∪ (M \ N) = M := Finset.union_sdiff_of_subset h
  have hd : Disjoint N (M \ N) := Finset.disjoint_sdiff
  conv_lhs => rw [← e]
  refine (At.split hd).trans ?_
  iintro ⟨H1, H2⟩
  isplitl [H1]; · iexact H1
  iintro H1
  ihave H := (At.join hd) $$ [H1 H2]
  · isplitl [H1] <;> iassumption
  rw [e]; iexact H

/-- Halving the share. -/
theorem At.halve : (At c m M q X : sProp 𝕄) ⊢ iprop(At c m M q.left X ∗ At c m M q.right X) := by
  unfold At
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

end Held

section Slices

variable {c : Thread nD τ} {sp : Space} {s : Shape} {e : EltTy}

/-- A slice's elements are the memref's under the rectangle. -/
theorem setOn_slice_univ (m : Memref sig c.2.kind sp s e) (r : Rect s) (hr : ∀ a, r.stride a = 1) :
    (m.slice r hr).view.setOn Finset.univ = m.view.setOn r.set := by
  rw [View.setOn_univ]; exact View.set_slice m.view r

theorem At.toSlice {m : Memref sig c.2.kind sp s e} {r : Rect s} {hr : ∀ a, r.stride a = 1} {q : PosShare TreeShare} {X : s.Idx → Elt F e} :
    (At c m r.set q X : sProp 𝕄) ⊢ At c (m.slice r hr) Finset.univ q (fun j => X (r.emb j)) := by
  unfold At
  iintro ⟨%f, %hf, H⟩
  iexists f; isplitr
  · ipureintro
    intro j _
    exact hf (r.emb j) (r.idx_mem j)
  · rw [setOn_slice_univ]; iexact H

theorem At.ofSlice {m : Memref sig c.2.kind sp s e} {r : Rect s} {hr : ∀ a, r.stride a = 1} {q : PosShare TreeShare} {X : s.Idx → Elt F e}
    {Y : r.shape.Idx → Elt F e} (h : ∀ j, Y j = X (r.emb j)) :
    (At c (m.slice r hr) Finset.univ q Y : sProp 𝕄) ⊢ At c m r.set q X := by
  unfold At
  iintro ⟨%f, %hf, H⟩
  iexists f; isplitr
  · ipureintro
    intro x hx
    obtain ⟨j, rfl⟩ := r.exists_idx_of_mem hx
    exact (hf j (Finset.mem_univ j)).trans (h j)
  · rw [setOn_slice_univ]; iexact H

theorem Any.toSlice {m : Memref sig c.2.kind sp s e} {r : Rect s} {hr : ∀ a, r.stride a = 1} :
    (Any (F := F) c m r.set : sProp 𝕄) ⊢ Any c (m.slice r hr) Finset.univ := by
  unfold Any
  iintro ⟨%f, H⟩
  iexists f
  rw [setOn_slice_univ]; iexact H

theorem Any.ofSlice {m : Memref sig c.2.kind sp s e} {r : Rect s} {hr : ∀ a, r.stride a = 1} :
    (Any (F := F) c (m.slice r hr) Finset.univ : sProp 𝕄) ⊢ Any c m r.set := by
  unfold Any
  iintro ⟨%f, H⟩
  iexists f
  rw [setOn_slice_univ]; iexact H

theorem setOn_squeeze_univ (m : Memref sig c.2.kind sp s e) (s' : Shape) (h : s.Squeezes s') :
    (m.squeeze s' h).view.setOn Finset.univ = m.view.setOn Finset.univ := by
  rw [View.setOn_univ, View.setOn_univ]; exact View.set_reshape m.view h.numel_eq

theorem At.toSqueeze {m : Memref sig c.2.kind sp s e} {s' : Shape} {h : s.Squeezes s'} {q : PosShare TreeShare} {X : s.Idx → Elt F e} :
    (At c m Finset.univ q X : sProp 𝕄) ⊢ At c (m.squeeze s' h) Finset.univ q (fun j => X (Shape.reshapeEquiv h.numel_eq j)) := by
  unfold At
  iintro ⟨%f, %hf, H⟩
  iexists f; isplitr
  · ipureintro
    intro j _
    exact hf _ (Finset.mem_univ _)
  · rw [setOn_squeeze_univ]; iexact H

theorem At.ofSqueeze {m : Memref sig c.2.kind sp s e} {s' : Shape} {h : s.Squeezes s'} {q : PosShare TreeShare} {X : s.Idx → Elt F e} :
    (At c (m.squeeze s' h) Finset.univ q (fun j => X (Shape.reshapeEquiv h.numel_eq j)) : sProp 𝕄) ⊢ At c m Finset.univ q X := by
  unfold At
  iintro ⟨%f, %hf, H⟩
  iexists f; isplitr
  · ipureintro
    intro j _
    have := hf ((Shape.reshapeEquiv h.numel_eq).symm j) (Finset.mem_univ _)
    simp only [Equiv.apply_symm_apply] at this
    rw [← this]
    rw [View.read_apply, View.read_apply]
    simp only [Memref.view_squeeze, View.emb_reshape, Function.Embedding.trans_apply, Equiv.coe_toEmbedding, Equiv.apply_symm_apply]
  · rw [setOn_squeeze_univ]; iexact H

theorem Any.toSqueeze {m : Memref sig c.2.kind sp s e} {s' : Shape} {h : s.Squeezes s'} :
    (Any (F := F) c m Finset.univ : sProp 𝕄) ⊢ Any c (m.squeeze s' h) Finset.univ := by
  unfold Any
  iintro ⟨%f, H⟩
  iexists f
  rw [setOn_squeeze_univ]; iexact H

theorem Any.ofSqueeze {m : Memref sig c.2.kind sp s e} {s' : Shape} {h : s.Squeezes s'} :
    (Any (F := F) c (m.squeeze s' h) Finset.univ : sProp 𝕄) ⊢ Any c m Finset.univ := by
  unfold Any
  iintro ⟨%f, H⟩
  iexists f
  rw [setOn_squeeze_univ]; iexact H

/-- The rectangle of the shape's own sizes is every index. -/
theorem set_unit_full {off : Fin s.rank → ℕ} (inb : ∀ a, off a + s.size a ≤ s.size a) : (Rect.unit off s.size inb).set = Finset.univ := by
  ext x; simp only [Finset.mem_univ, iff_true]
  have := (Rect.unit off s.size inb).idx_mem x
  rwa [show (Rect.unit off s.size inb).idx x = x from Rect.emb_unit_full inb x] at this

theorem At.toFull {m : Memref sig c.2.kind sp s e} {off : Fin s.rank → ℕ} {inb : ∀ a, off a + s.size a ≤ s.size a} {hr} {q : PosShare TreeShare} {X : s.Idx → Elt F e} :
    (At c m Finset.univ q X : sProp 𝕄) ⊢ At c (m.slice (Rect.unit off s.size inb) hr) Finset.univ q X := by
  conv_lhs => rw [← set_unit_full inb]
  refine At.toSlice.trans (At.congr fun x _ => ?_)
  rw [Rect.emb_unit_full]

theorem At.ofFull {m : Memref sig c.2.kind sp s e} {off : Fin s.rank → ℕ} {inb : ∀ a, off a + s.size a ≤ s.size a} {hr} {q : PosShare TreeShare} {X : s.Idx → Elt F e} :
    (At c (m.slice (Rect.unit off s.size inb) hr) Finset.univ q X : sProp 𝕄) ⊢ At c m Finset.univ q X := by
  refine (At.ofSlice (X := X) fun x => ?_).trans ?_
  · rw [Rect.emb_unit_full]
  · rw [set_unit_full]

end Slices

section Rules

variable [Preorder Lvl] {Λ : Labels} {defs : Defs nD τ sig (Elt F) Λ} (EC : UEmb Counters (MT nD τ sig Ix (Elt F) Name U Lvl))
variable (𝒱 : Variants) (c : Thread nD τ) (bd : Option 𝒱.V) (ι : Ix)
variable {Q : PUnit → sProp (MT nD τ sig Ix (Elt F) Name U Lvl)} {sp sp' : Space} {s : Shape} {e : EltTy}

/-- The thread's waits: it may wait on its cells owing `O`, and has recorded the waits `W` and others at index `ι`. -/
def Thr (O : CellTallies nD τ sig Ix) (W : Waits sig Ix) : sProp 𝕄 :=
  iprop(□ Transfers.MayWaits c ι O ∗ ∃ W', ⌜∀ p ∈ W', p ∈ W ∨ p.2 = ι⌝ ∗ owes c O W')

theorem Thr.intro {P : sProp (MT nD τ sig Ix (Elt F) Name U Lvl)} {O : CellTallies nD τ sig Ix} {W : Waits sig Ix} (h : P ⊢ Transfers.MayWaits c ι O) :
    iprop(□ P ∗ owes c O W) ⊢ Thr (F := F) c ι O W := by
  unfold Thr
  iintro ⟨#HP, HO⟩
  isplitr
  · imodintro; iapply h $$ HP
  iexists W
  isplitr
  · ipureintro; exact fun p hp => .inl hp
  iexact HO

/-- A transfer of `src`, reading `X`, onto `dst`, on its way. -/
def Moving (src : Memref sig c.2.kind sp s e) (dst : Memref sig c.2.kind sp' s e) (sem : DmaSem sig) (q : PosShare TreeShare) (X : s.Idx → Elt F e) : sProp 𝕄 :=
  Transfers.Flight EC c (.dma sem) ι dst.view.dmaCredit iprop(At c dst Finset.univ fullShare X ∗ At c src Finset.univ q X)

include EC in
theorem wp_dma [Infinite Name] [EC.LandsIn (upEmb : UEmb _ 𝕄)] {src : Memref sig c.2.kind sp s e} {dst : Memref sig c.2.kind sp' s e} {sem : DmaSem sig} {q : PosShare TreeShare} {X : s.Idx → Elt F e}
    {hsrc : src.view.WordExact} {hdst : dst.view.WordExact} {hsem : DmaTarget.Typed (nD := nD) sp (.dma sem) (.here dst)}
    (hs : 0 < s.numel) :
    iprop(At c src Finset.univ q X ∗ Any c dst Finset.univ ∗ semVal (c, SemLoc.dma sem) 0)
      ⊢ iprop((Moving EC c ι src dst sem q X -∗ Q ⟨⟩)
          -∗ wp frame (wpE defs 𝒱 c bd) Set.univ (Prog.lift (.enqueueDmaAs src (.here dst) .same (.dma sem) hsrc hdst hsem)) Q) := by
  unfold At Any
  iintro ⟨⟨%f, %hf, Hs⟩, ⟨%g, Hd⟩, Hv⟩ Hk
  rw [View.setOn_univ, View.setOn_univ]
  iapply (Transfers.wp_dmaLocal EC 𝒱 c bd (src := src) (dst := dst) (sm := .dma sem) (fs := f) (fd := g) ι dst.view.dmaCredit rfl
    (dst.view.dmaCredit_pos hs) (Finset.Subset.refl _)) $$ [Hs Hd Hv]
  · isplitl [Hs]; · iexact Hs
    isplitl [Hd]; · iexact Hd
    iexact Hv
  iintro HF
  rw [wp_ret]
  imodintro
  iapply Hk
  unfold Moving
  iapply (Transfers.Flight_mono EC c ?_) $$ HF
  unfold At
  iintro ⟨Hd, Hs⟩
  isplitl [Hd]
  · iexists _; isplitr
    swap; · rw [View.setOn_univ]; iexact Hd
    ipureintro
    intro x _
    rw [View.read_write_univ]
    exact hf x (Finset.mem_univ x)
  · iexists f; isplitr
    · ipureintro; exact hf
    · rw [View.setOn_univ]; iexact Hs

include EC in
theorem wp_wait [Infinite Name] [EC.LandsIn (upEmb : UEmb _ 𝕄)] {src : Memref sig c.2.kind sp s e} {dst : Memref sig c.2.kind sp' s e} {sem : DmaSem sig} {q : PosShare TreeShare} {X : s.Idx → Elt F e}
    {srcw : Memref sig c.2.kind sp s e}
    {hsrc : srcw.view.WordExact} {hdst : dst.view.WordExact} {O : CellTallies nD τ sig Ix} {W : Waits sig Ix} :
    iprop(Moving EC c ι src dst sem q X ∗ Thr c ι O W)
      ⊢ iprop((iprop(At c dst Finset.univ fullShare X ∗ At c src Finset.univ q X ∗ semVal (c, SemLoc.dma sem) 0 ∗ Thr c ι O W) -∗ Q ⟨⟩)
          -∗ wp frame (wpE defs 𝒱 c bd) Set.univ (Prog.lift (.waitDma2 sem srcw dst hsrc hdst)) Q) := by
  unfold Moving Thr
  iintro ⟨HF, ⟨#Hmw, %W', %hW, HO⟩⟩ Hk
  iapply (Transfers.wp_waitLocalO EC 𝒱 c bd ι (rfl : dst.view.dmaCredit = _)) $$ [HF HO]
  · isplitl [HF]; · iexact HF
    isplitl [HO]; · iexact HO
    iapply (Transfers.MayWaits.elim (SemLoc.dma sem)) $$ Hmw
  iintro ⟨⟨Hd, Hs⟩, Hv, HO⟩
  rw [wp_ret]
  imodintro
  iapply Hk
  isplitl [Hd]; · iexact Hd
  isplitl [Hs]; · iexact Hs
  isplitl [Hv]; · iexact Hv
  isplitr; · iexact Hmw
  iexists _; isplitr
  swap; · iexact HO
  ipureintro
  intro p hp
  rcases Finset.mem_insert.mp hp with hp | hp
  · exact .inr (hp ▸ rfl)
  · exact hW p hp

include EC in
/-- The indirect gather and its wait: the destination ends at the rows of the source the list names. -/
theorem wp_gather [Infinite Name] [EC.LandsIn (upEmb : UEmb _ 𝕄)] {s₀ si : Shape} {a : Nat} {src srcw : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {hsrc' : srcw.view.WordExact} {hdst' : dst.view.WordExact}
    {q : PosShare TreeShare} {X : s₀.Idx → Elt F e} {I : si.Idx → Elt F .i32} {O : CellTallies nD τ sig Ix} {W : Waits sig Ix}
    (hcr : ∀ s', sig.dmaCredit c.2.kind (c.2.kind.table .vmem) dst.view.buf s' e = s'.numel * e.bits)
    (hs : 0 < s.numel) (hin : ∀ x, (I x).toNat < s₀.size hg.axis) :
    iprop(At c src Finset.univ q X ∗ Any c dst Finset.univ ∗ At c offs Finset.univ fullShare I ∗ semVal (c, SemLoc.dma sem) 0 ∗ Thr c ι O W)
      ⊢ iprop((iprop(At c dst Finset.univ fullShare (SparseCore.gatherPayload hg X (SparseCore.rows I hn hin)) ∗ At c src Finset.univ q X
              ∗ At c offs Finset.univ fullShare I ∗ semVal (c, SemLoc.dma sem) 0 ∗ Thr c ι O W) -∗ Q ⟨⟩)
          -∗ wp frame (wpE defs 𝒱 c bd) Set.univ (SparseCore.enqueueIndirectGather hp src dst hg offs hn sem hsrc he hsp hr)
              fun _ => wp frame (wpE defs 𝒱 c bd) Set.univ (SparseCore.waitIndirectGather sem srcw dst hsrc' hdst') Q) := by
  unfold At Any Thr
  iintro ⟨⟨%f, %hf, Hs⟩, ⟨%g, Hd⟩, ⟨%o, %ho, Ho⟩, Hv, ⟨#Hmw, %W', %hW, HO⟩⟩ Hk
  rw [View.setOn_univ, View.setOn_univ, View.setOn_univ]
  have hf' : src.view.read (Elt F) f = X := funext fun x => hf x (Finset.mem_univ x)
  have ho' : offs.view.read (Elt F) o = I := funext fun x => ho x (Finset.mem_univ x)
  subst hf' ho'
  rw [← bind_pure (SparseCore.enqueueIndirectGather hp src dst hg offs hn sem hsrc he hsp hr)]
  iapply (SparseCore.wp_indirectGatherLocal EC 𝒱 c bd (hg := hg) ι dst.view.dmaCredit (SparseCore.sum_rowCredit_eq_dmaCredit dst hg.axis' hcr) hs hin) $$ [Hs Hd Ho Hv]
  · isplitl [Hs]; · iexact Hs
    isplitl [Hd]; · iexact Hd
    isplitl [Ho]; · iexact Ho
    iexact Hv
  iintro HF
  rw [wp_pure]
  imodintro
  iapply (Transfers.wp_waitLocalO EC 𝒱 c bd ι (rfl : dst.view.dmaCredit = _)) $$ [HF HO]
  · isplitl [HF]; · iexact HF
    isplitl [HO]; · iexact HO
    iapply (Transfers.MayWaits.elim (SemLoc.dma sem)) $$ Hmw
  iintro ⟨⟨Hd, Hs, Ho⟩, Hv, HO⟩
  rw [wp_ret]
  imodintro
  iapply Hk
  isplitl [Hd]
  · iexists _; isplitr
    swap; · iexact Hd
    ipureintro
    intro x _
    rw [View.read_write_univ]
  isplitl [Hs]
  · iexists f; isplitr
    · ipureintro; exact fun _ _ => rfl
    · iexact Hs
  isplitl [Ho]
  · iexists o; isplitr
    · ipureintro; exact fun _ _ => rfl
    · iexact Ho
  isplitl [Hv]; · iexact Hv
  isplitr; · iexact Hmw
  iexists _; isplitr
  swap; · iexact HO
  ipureintro
  intro p hp
  rcases Finset.mem_insert.mp hp with hp | hp
  · exact .inr (hp ▸ rfl)
  · exact hW p hp

include EC in
/-- The transfer's start, the program's views given by equal ones. -/
theorem wp_dma_of [Infinite Name] [EC.LandsIn (upEmb : UEmb _ 𝕄)] {src src' : Memref sig c.2.kind sp s e} {dst dst' : Memref sig c.2.kind sp' s e} {sem sem' : DmaSem sig}
    {q : PosShare TreeShare} {X : s.Idx → Elt F e}
    {hsrc : src'.view.WordExact} {hdst : dst'.view.WordExact} {hsem : DmaTarget.Typed (nD := nD) sp (.dma sem') (.here dst')}
    (es : src' = src) (ed : dst' = dst) (em : sem' = sem) (hs : 0 < s.numel) :
    iprop(At c src Finset.univ q X ∗ Any c dst Finset.univ ∗ semVal (c, SemLoc.dma sem) 0)
      ⊢ iprop((Moving EC c ι src dst sem q X -∗ Q ⟨⟩)
          -∗ wp frame (wpE defs 𝒱 c bd) Set.univ (Prog.lift (.enqueueDmaAs src' (.here dst') .same (.dma sem') hsrc hdst hsem)) Q) := by
  subst es ed em
  exact wp_dma EC 𝒱 c bd ι hs

include EC in
/-- The transfer's wait, the program's views given by equal ones. -/
theorem wp_wait_of [Infinite Name] [EC.LandsIn (upEmb : UEmb _ 𝕄)] {src : Memref sig c.2.kind sp s e} {dst dst' : Memref sig c.2.kind sp' s e} {sem sem' : DmaSem sig}
    {q : PosShare TreeShare} {X : s.Idx → Elt F e} {srcw : Memref sig c.2.kind sp s e}
    {hsrc : srcw.view.WordExact} {hdst : dst'.view.WordExact} {O : CellTallies nD τ sig Ix} {W : Waits sig Ix}
    (ed : dst' = dst) (em : sem' = sem) :
    iprop(Moving EC c ι src dst sem q X ∗ Thr c ι O W)
      ⊢ iprop((iprop(At c dst Finset.univ fullShare X ∗ At c src Finset.univ q X ∗ semVal (c, SemLoc.dma sem) 0 ∗ Thr c ι O W) -∗ Q ⟨⟩)
          -∗ wp frame (wpE defs 𝒱 c bd) Set.univ (Prog.lift (.waitDma2 sem' srcw dst' hsrc hdst)) Q) := by
  subst ed em
  exact wp_wait EC 𝒱 c bd ι

include EC in
/-- The gather and its wait, the program's views given by equal ones. -/
theorem wp_gather_of [Infinite Name] [EC.LandsIn (upEmb : UEmb _ 𝕄)] {s₀ si : Shape} {a : Nat} {src src' srcw : Memref sig c.2.kind sp s₀ e}
    {dst dst' : Memref sig c.2.kind .vmem s e} {hg : s₀.Gathers a s}
    {offs offs' : Memref sig c.2.kind .vmem si .i32} {hn : si.numel = s.size hg.axis'} {sem : DmaSem sig}
    {hp : c.2.kind = .scVector} {hsrc : src'.view.WordExact} {he : e.bits = 32} {hsp : sp = .hbm ∨ sp = .shared} {hr : s₀.StreamRows a}
    {hsrc' : srcw.view.WordExact} {hdst' : dst'.view.WordExact}
    {q : PosShare TreeShare} {X : s₀.Idx → Elt F e} {I : si.Idx → Elt F .i32} {O : CellTallies nD τ sig Ix} {W : Waits sig Ix}
    (es : src' = src) (ed : dst' = dst) (eo : offs' = offs)
    (hcr : ∀ s', sig.dmaCredit c.2.kind (c.2.kind.table .vmem) dst.view.buf s' e = s'.numel * e.bits)
    (hs : 0 < s.numel) (hin : ∀ x, (I x).toNat < s₀.size hg.axis) :
    iprop(At c src Finset.univ q X ∗ Any c dst Finset.univ ∗ At c offs Finset.univ fullShare I ∗ semVal (c, SemLoc.dma sem) 0 ∗ Thr c ι O W)
      ⊢ iprop((iprop(At c dst Finset.univ fullShare (SparseCore.gatherPayload hg X (SparseCore.rows I hn hin)) ∗ At c src Finset.univ q X
              ∗ At c offs Finset.univ fullShare I ∗ semVal (c, SemLoc.dma sem) 0 ∗ Thr c ι O W) -∗ Q ⟨⟩)
          -∗ wp frame (wpE defs 𝒱 c bd) Set.univ (SparseCore.enqueueIndirectGather hp src' dst' hg offs' hn sem hsrc he hsp hr)
              fun _ => wp frame (wpE defs 𝒱 c bd) Set.univ (SparseCore.waitIndirectGather sem srcw dst' hsrc' hdst') Q) := by
  subst es ed eo
  exact wp_gather EC 𝒱 c bd ι hcr hs hin

/-- A branch whose two ways are one. -/
theorem wp_both {α : Type} {p : Prog (TpuEff nD τ sig (Elt F) Λ c.2) α} {P : Prop} [Decidable P] {Q : α → sProp 𝕄} :
    wp frame (wpE defs 𝒱 c bd) Set.univ p Q ⊢ wp frame (wpE defs 𝒱 c bd) Set.univ (if P then p else p) Q := by
  rw [ite_self]

/-- A side condition the program assumes, which holds. -/
theorem wp_check {P : Prop} {dec : Decidable P} {Q : PLift P → sProp 𝕄} (h : P) :
    Q ⟨h⟩ ⊢ wp frame (wpE defs 𝒱 c bd) Set.univ (Prog.lift (.assume P dec)) Q := by
  iintro H
  iapply (wp_assume 𝒱 c bd Set.univ (k := Prog.ret) h)
  rw [wp_ret]
  imodintro
  iexact H

end Rules

section Whole

variable {Ix : Type} [DecidableEq Ix] {Name : Type} [DecidableEq Name] {U : Type} [URA U] {Lvl : Type} {c : Thread nD τ}

theorem setOn_whole (r : Ref sig c.2.kind) (M : Finset r.ty.shape.Idx) : (Memref.whole r : Memref sig c.2.kind _ _ _).view.setOn M = M := by
  show M.map (Function.Embedding.refl _) = M
  exact Finset.map_refl

/-- A whole buffer's elements, as the buffer holds them. -/
theorem At.ofWhole (r : Ref sig c.2.kind) (M : Finset r.ty.shape.Idx) (q : PosShare TreeShare) (X : r.ty.shape.Idx → Elt F r.ty.elt) :
    ((c.loc r ↦[M]{q} X : sProp (MT nD τ sig Ix (Elt F) Name U Lvl))) ⊢ At (F := F) c (Memref.whole r) M q X := by
  unfold At
  iintro H
  iexists X
  isplitr
  · ipureintro; exact fun _ _ => rfl
  rw [setOn_whole]; iexact H

theorem At.toWhole (r : Ref sig c.2.kind) (M : Finset r.ty.shape.Idx) (q : PosShare TreeShare) (X : r.ty.shape.Idx → Elt F r.ty.elt) :
    (At (F := F) c (Memref.whole r) M q X) ⊢ ((c.loc r ↦[M]{q} X : sProp (MT nD τ sig Ix (Elt F) Name U Lvl))) := by
  unfold At
  iintro ⟨%f, %hf, H⟩
  rw [setOn_whole]
  rw [← pointsTo_congr (ℓ := c.loc r) (I := M) (q := q) (f := f) (g := X) (fun x hx => hf x hx)]
  iexact H

theorem Any.ofWhole (r : Ref sig c.2.kind) (M : Finset r.ty.shape.Idx) (f : Buf (Elt F) (c.loc r)) :
    ((c.loc r ↦[M]{fullShare} f : sProp (MT nD τ sig Ix (Elt F) Name U Lvl))) ⊢ Any (F := F) c (Memref.whole r) M := by
  unfold Any
  iintro H
  iexists f
  rw [setOn_whole]; iexact H

theorem Any.toWhole (r : Ref sig c.2.kind) (M : Finset r.ty.shape.Idx) :
    (Any (F := F) c (Memref.whole r) M) ⊢ (iprop(∃ f, c.loc r ↦[M]{fullShare} f) : sProp (MT nD τ sig Ix (Elt F) Name U Lvl)) := by
  unfold Any
  iintro ⟨%f, H⟩
  rw [setOn_whole]
  iexists f; iexact H

/-- Both halves of a whole buffer's share at once. -/
theorem At.unhalve (r : Ref sig c.2.kind) (M : Finset r.ty.shape.Idx) (q : PosShare TreeShare) (X : r.ty.shape.Idx → Elt F r.ty.elt) :
    iprop(At (F := F) c (Memref.whole r) M q.left X ∗ At (F := F) c (Memref.whole r) M q.right X) ⊢ (At (F := F) c (Memref.whole r) M q X : sProp (MT nD τ sig Ix (Elt F) Name U Lvl)) := by
  iintro ⟨H1, H2⟩
  ihave H1 := (At.toWhole r M q.left X) $$ H1
  ihave H2 := (At.toWhole r M q.right X) $$ H2
  iapply (At.ofWhole r M q X)
  iapply (pointsTo_share (PosShare.mem_left_op_right q)).2
  isplitl [H1] <;> iassumption

end Whole

end Cert.Proof.Pipe

end
-- ==== Proof.Common.lean ====
/-
  The program as the launch of its two SparseCore calls sees it: its configuration, its buffers, and the resources
  its proof is over.
-/
module

public import proofs.«01_k».proof.Defs
public import proofs.«01_k».proof.Proof.Pipe
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit

@[expose] public section

noncomputable section

namespace Cert.Proof.Common

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters. -/
abbrev UH : Type := URounds (GSem nD τ sig) ℕ
abbrev UU : Type := UH × Counters

abbrev EH : Emb UH (MT nD τ sig (HIx 2) (Elt F) ℕ UU ℕ) := embL

/-- A buffer of the device, as its TensorCore names it. -/
abbrev tcLoc (d : Dev nD) (b : Ref sig .tc) : Loc nD τ sig := (SparseCore.T d).loc b

end Cert.Proof.Common

end
-- ==== Proof.Words0.lean ====
/-
  The words gather 0's tile computes at each trip of its loop: the offsets, the conditions and the words it carries,
  each in closed form — checked over every tile and every trip.
-/
module

public import proofs.«01_k».proof.Proof.Gen.KernelIdeal.Skeleton

@[expose] public section

namespace Cert.Proof.Words0

open Idealize.ShloMosaic Idealize.SL.Sem
open Cert.KernelIdeal Cert.KernelIdeal.Gen

/-- The first index of the tile's part of the list. -/
def base (i : grid0.Coords) : ℕ := 4096 * (i 1).val + 65536 * (i 0).val

theorem base_le (i : grid0.Coords) : base i + 4096 ≤ 131072 := by
  have h0 : (i 0).val < 2 := (i 0).isLt
  have h1 : (i 1).val < 16 := (i 1).isLt
  unfold base; omega

/-- The word the tile's index starts its windows at. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 32#32

theorem trips : k0_t1_loop.trips = 32 := by decide +kernel

section Slots

theorem off1 : k0_off1 = ![0, 0, 0] := by decide +kernel
theorem off3 : k0_off3 = ![0] := by decide +kernel
theorem off2 : ∀ i : grid0.Coords, k0_off2 i = ![0, base i + 128 * 0] := by decide +kernel

theorem off4 : ∀ k : Fin 33, k0_off4 (BitVec.ofNat 32 k.val) = ![k.val % 2, 0, 0] := by decide +kernel
theorem off6 : ∀ k : Fin 33, k0_off6 (BitVec.ofNat 32 k.val) = ![k.val % 2] := by decide +kernel
theorem off7 : ∀ k : Fin 33, k0_off7 (BitVec.ofNat 32 k.val) = ![k.val % 2, 0, 0] := by decide +kernel
theorem off9 : ∀ k : Fin 33, k0_off9 (BitVec.ofNat 32 k.val) = ![k.val % 2] := by decide +kernel
theorem off10 : ∀ k : Fin 33, k0_off10 (BitVec.ofNat 32 k.val) = ![k.val % 2, 0, 0] := by decide +kernel
theorem off11 : ∀ k : Fin 33, k0_off11 (BitVec.ofNat 32 k.val) = ![k.val % 2, 0, 0] := by decide +kernel
theorem off12 : ∀ k : Fin 33, k0_off12 (BitVec.ofNat 32 k.val) = ![k.val % 2, 0, 0] := by decide +kernel
theorem off14 : ∀ k : Fin 33, k0_off14 (BitVec.ofNat 32 k.val) = ![k.val % 2] := by decide +kernel
theorem off15 : ∀ k : Fin 33, k0_off15 (BitVec.ofNat 32 k.val) = ![k.val % 2, 0, 0] := by decide +kernel
theorem off17 : ∀ k : Fin 33, k0_off17 (BitVec.ofNat 32 k.val) = ![k.val % 2] := by decide +kernel
theorem off20 : ∀ k : Fin 33, k0_off20 (BitVec.ofNat 32 k.val) = ![k.val % 2] := by decide +kernel
theorem off21 : ∀ k : Fin 33, k0_off21 (BitVec.ofNat 32 k.val) = ![k.val % 2, 0, 0] := by decide +kernel

end Slots

section Windows

theorem off5 : ∀ (i : grid0.Coords) (k : Fin 32), k.val + 1 < 32 → k0_off5 i (BitVec.ofNat 32 k.val) = ![0, base i + 128 * (k.val + 1)] := by
  decide +kernel
theorem off8 : ∀ (i : grid0.Coords) (k : Fin 32), k0_off8 i (BitVec.ofNat 32 k.val) = ![0, base i + 128 * k.val] := by decide +kernel
theorem off13 : ∀ (i : grid0.Coords) (k : Fin 32), k0_off13 i (BitVec.ofNat 32 k.val) = ![base i + 128 * k.val, 0] := by decide +kernel
theorem off16 : ∀ (i : grid0.Coords) (k : Fin 32), 0 < k.val → k0_off16 i (BitVec.ofNat 32 k.val) = ![base i + 128 * (k.val - 1), 0] := by
  decide +kernel
theorem off19 : ∀ i : grid0.Coords, k0_off19 i 0#32 = ![base i + 128 * (32 - 1), 0] := by decide +kernel

end Windows

section Conditions

theorem cond1 : ∀ (i : grid0.Coords) (k : Fin k0_t1_loop.trips), k0_cond1 i k (BitVec.ofNat 32 k.val) = 1#1 ↔ k.val + 1 < 32 := by decide +kernel
theorem cond2 : ∀ (i : grid0.Coords) (k : Fin k0_t1_loop.trips), k0_cond2 i k (BitVec.ofNat 32 k.val) = 1#1 := by decide +kernel
theorem cond5 : ∀ (i : grid0.Coords) (k : Fin k0_t1_loop.trips), k0_cond5 i k (BitVec.ofNat 32 k.val) = 1#1 := by decide +kernel
theorem cond7 : ∀ (i : grid0.Coords) (k : Fin k0_t1_loop.trips), k0_cond7 i k (BitVec.ofNat 32 k.val) = 1#1 ↔ 0 < k.val := by decide +kernel

end Conditions

section Carried

/-- The carried words before trip `k`: the windows fetched, read, gathered, written back and the window's number. -/
def acc (k : ℕ) : BitVec 32 × BitVec 32 × BitVec 32 × BitVec 32 × BitVec 32 :=
  (BitVec.ofNat 32 (min (k + 1) 32), BitVec.ofNat 32 k, BitVec.ofNat 32 k, BitVec.ofNat 32 (k - 1), BitVec.ofNat 32 (if k = 32 then 0 else k))

/-- The words of trip `k`, as the body computes them from the words it carries. -/
def w66 (i : grid0.Coords) (k : ℕ) : BitVec 32 := Scalar.addi (BitVec.ofNat 32 k) (v4w i)
def w71 (i : grid0.Coords) (k : ℕ) : BitVec 32 :=
  Scalar.addi (Scalar.select (Scalar.cmpi .eq (Scalar.select 1#1 (Scalar.subi (BitVec.ofNat 32 k) 1#32) (BitVec.ofNat 32 k)) 4294967295#32) 31#32
    (Scalar.select 1#1 (Scalar.subi (BitVec.ofNat 32 k) 1#32) (BitVec.ofNat 32 k))) (v4w i)
def w76 (i : grid0.Coords) (k : ℕ) : BitVec 32 :=
  Scalar.addi (Scalar.select (Scalar.cmpi .eq (Scalar.select 1#1 (Scalar.addi (BitVec.ofNat 32 k) 1#32) (BitVec.ofNat 32 k)) 32#32) 0#32
    (Scalar.select 1#1 (Scalar.addi (BitVec.ofNat 32 k) 1#32) (BitVec.ofNat 32 k))) (v4w i)
def w91 (i : grid0.Coords) (k : Fin k0_t1_loop.trips) : BitVec 32 :=
  Scalar.select (Scalar.andi (Scalar.andi (Scalar.cmpi .ne (w66 i k.val) (w76 i k.val))
    (Scalar.xori (Scalar.cmpi .sge (Scf.iv 0#32 1#32 k) 31#32) 1#1)) 1#1) (Scalar.addi (BitVec.ofNat 32 (min (k.val + 1) 32)) 1#32) (BitVec.ofNat 32 (min (k.val + 1) 32))

theorem next91 : ∀ (i : grid0.Coords) (k : Fin k0_t1_loop.trips), w91 i k = BitVec.ofNat 32 (min (k.val + 1 + 1) 32) := by decide +kernel

theorem next139 : ∀ (i : grid0.Coords) (k : Fin k0_t1_loop.trips),
    Scalar.select (Scalar.ori (Scalar.cmpi .ne (w66 i k.val) (w76 i k.val)) (Scalar.cmpi .eq (Scf.iv 0#32 1#32 k) 31#32))
      (Scalar.addi (BitVec.ofNat 32 k.val) 1#32) (BitVec.ofNat 32 k.val) = BitVec.ofNat 32 (k.val + 1) := by decide +kernel

theorem next121 : ∀ (i : grid0.Coords) (k : Fin k0_t1_loop.trips),
    Scalar.select (Scalar.andi (Scalar.ori (Scalar.cmpi .ne (w66 i k.val) (w76 i k.val)) (Scalar.cmpi .eq (Scf.iv 0#32 1#32 k) 31#32)) 1#1)
      (Scalar.addi (BitVec.ofNat 32 k.val) 1#32) (BitVec.ofNat 32 k.val) = BitVec.ofNat 32 (k.val + 1) := by decide +kernel

theorem next135 : ∀ (i : grid0.Coords) (k : Fin k0_t1_loop.trips),
    Scalar.select (Scalar.andi (Scalar.andi (Scalar.cmpi .ne (w66 i k.val) (w71 i k.val)) (Scalar.xori (Scalar.cmpi .eq (Scf.iv 0#32 1#32 k) 0#32) 1#1)) 1#1)
      (Scalar.addi (BitVec.ofNat 32 (k.val - 1)) 1#32) (BitVec.ofNat 32 (k.val - 1)) = BitVec.ofNat 32 (k.val + 1 - 1) := by decide +kernel

theorem next143 : ∀ k : Fin k0_t1_loop.trips,
    Scalar.select (Scalar.cmpi .eq (Scalar.select 1#1 (Scalar.addi (BitVec.ofNat 32 k.val) 1#32) (BitVec.ofNat 32 k.val)) 32#32) 0#32
      (Scalar.select 1#1 (Scalar.addi (BitVec.ofNat 32 k.val) 1#32) (BitVec.ofNat 32 k.val)) = BitVec.ofNat 32 (if k.val + 1 = 32 then 0 else k.val + 1) := by
  decide +kernel

end Carried

section Checks

theorem slot_inb {d e : ℕ} {off : Fin 3 → ℕ} {n : ℕ} (h : off = ![n % 2, 0, 0]) : ∀ a, off a + (⟨3, ![1, d, e]⟩ : Shape).size a ≤ (⟨3, ![2, d, e]⟩ : Shape).size a := by
  subst h
  intro a
  have := Nat.mod_lt n (show 0 < 2 by omega)
  fin_cases a
  · show n % 2 + 1 ≤ 2; omega
  · show 0 + d ≤ d; omega
  · show 0 + e ≤ e; omega

theorem sem_inb {off : Fin 1 → ℕ} {n : ℕ} (h : off = ![n % 2]) : ∀ a, off a + S1.size a ≤ S2.size a := by
  subst h
  intro a
  have := Nat.mod_lt n (show 0 < 2 by omega)
  fin_cases a
  show n % 2 + 1 ≤ 2; omega

theorem idx_inb (i : grid0.Coords) {off : Fin 2 → ℕ} {n : ℕ} (hn : n < 32) (h : off = ![0, base i + 128 * n]) : ∀ a, off a + S1x128.size a ≤ S1x131072.size a := by
  subst h
  intro a
  have := base_le i
  fin_cases a
  · show 0 + 1 ≤ 1; omega
  · show base i + 128 * n + 128 ≤ 131072; omega

theorem out_inb (i : grid0.Coords) {off : Fin 2 → ℕ} {n : ℕ} (hn : n < 32) (h : off = ![base i + 128 * n, 0]) : ∀ a, off a + S128x128.size a ≤ S131072x128.size a := by
  subst h
  intro a
  have := base_le i
  fin_cases a
  · show base i + 128 * n + 128 ≤ 131072; omega
  · show 0 + 128 ≤ 128; omega

theorem chk3 (k : Fin 32) : k0_chk3 (BitVec.ofNat 32 k.val) := slot_inb (off11 k.castSucc)
theorem chk2 (k : Fin 32) : k0_chk2 (BitVec.ofNat 32 k.val) := slot_inb (off10 k.castSucc)

theorem chk1 (i : grid0.Coords) (k : Fin k0_t1_loop.trips) :
    k0_chk1 i k (BitVec.ofNat 32 (min (k.val + 1) 32)) (BitVec.ofNat 32 k.val) (BitVec.ofNat 32 k.val) (BitVec.ofNat 32 (k.val - 1)) (BitVec.ofNat 32 k.val) := by
  have hk : k.val < 32 := lt_of_lt_of_eq k.isLt trips
  refine ⟨fun _ => ?_, fun h => ?_, fun _ => ?_, fun _ => ?_, fun _ => ?_, fun _ => ?_, fun _ => ?_, fun _ => ?_, fun _ => ?_, fun _ => ?_, fun h => ?_, fun _ => ?_⟩
  · exact slot_inb (off4 ⟨min (k.val + 1) 32, by omega⟩)
  · have := (cond1 i k).mp h; exact idx_inb i this (off5 i ⟨k.val, hk⟩ this)
  · exact sem_inb (off6 ⟨min (k.val + 1) 32, by omega⟩)
  · exact slot_inb (off7 ⟨k.val, by omega⟩)
  · exact idx_inb i hk (off8 i ⟨k.val, hk⟩)
  · exact sem_inb (off9 ⟨k.val, by omega⟩)
  · exact slot_inb (off12 ⟨k.val, by omega⟩)
  · exact out_inb i hk (off13 i ⟨k.val, hk⟩)
  · exact sem_inb (off14 ⟨k.val, by omega⟩)
  · exact slot_inb (off15 ⟨k.val - 1, by omega⟩)
  · have := (cond7 i k).mp h; exact out_inb i (n := k.val - 1) (by omega) (off16 i ⟨k.val, hk⟩ this)
  · exact sem_inb (off17 ⟨k.val - 1, by omega⟩)

theorem chk5 (i : grid0.Coords) : k0_chk5 i 0#32 := out_inb i (by omega) (off19 i)
theorem chk4 : k0_chk4 (BitVec.ofNat 32 (32 - 1)) := ⟨slot_inb (n := 32 - 1) (by decide +kernel), sem_inb (off20 ⟨32 - 1, by omega⟩), slot_inb (off21 ⟨32 - 1, by omega⟩)⟩

end Checks

end Cert.Proof.Words0
-- ==== Proof.Hold0.lean ====
/-
  What gather 0's tile holds between the trips of its loop: the two windows of the index list and the two of the rows,
  each free or on its way, the rows written so far, and the value every row ends at.
-/
module

public import proofs.«01_k».proof.Proof.Words0
public import proofs.«01_k».proof.Proof.Pipe

@[expose] public section

noncomputable section

namespace Cert.Proof.Hold0

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen Cert.Proof.Words0 Cert.Proof.Pipe

section Views

abbrev tabM : Memref sig .scVector .hbm S8192x128 .f32 := Memref.whole main_v0_scv
abbrev idxM : Memref sig .scVector .hbm S1x131072 .i32 := Memref.whole main_v1_scv
abbrev outM : Memref sig .scVector .hbm S131072x128 .f32 := Memref.whole main_v2_scv
abbrev inB : Memref sig .scVector .vmem S2x1x128 .i32 := Memref.whole cc0_scoped0
abbrev outB : Memref sig .scVector .vmem S2x128x128 .f32 := Memref.whole cc0_scoped2

/-- The window's buffer for the list, of window `k`. -/
def inSlot (k : ℕ) : Memref sig .scVector .vmem S1x128 .i32 :=
  (inB.slice (Rect.unit (s := S2x1x128) ![k % 2, 0, 0] S1x1x128.size (slot_inb rfl)) (fun _ => rfl)).squeeze S1x128 squeezes_S1x1x128_S1x128

/-- The window's buffer for the rows, of window `k`. -/
def outSlot (k : ℕ) : Memref sig .scVector .vmem S128x128 .f32 :=
  (outB.slice (Rect.unit (s := S2x128x128) ![k % 2, 0, 0] S1x128x128.size (slot_inb rfl)) (fun _ => rfl)).squeeze S128x128 squeezes_S1x128x128_S128x128

def inSem (k : ℕ) : DmaSem sig := ((cc0_scoped1.slice (Rect.unit (s := S2) ![k % 2] S1.size (sem_inb rfl))).squeeze S_ squeezes_S1_S_).sem
def outSem (k : ℕ) : DmaSem sig := ((cc0_scoped3.slice (Rect.unit (s := S2) ![k % 2] S1.size (sem_inb rfl))).squeeze S_ squeezes_S1_S_).sem

/-- Window `n` of the tile's part of the list, and of its rows. -/
def idxRect (i : grid0.Coords) (n : ℕ) (hn : n < 32) : Rect S1x131072 := Rect.unit (s := S1x131072) ![0, base i + 128 * n] S1x128.size (idx_inb i hn rfl)
def outRect (i : grid0.Coords) (n : ℕ) (hn : n < 32) : Rect S131072x128 := Rect.unit (s := S131072x128) ![base i + 128 * n, 0] S128x128.size (out_inb i hn rfl)
def idxWin (i : grid0.Coords) (n : ℕ) (hn : n < 32) : Memref sig .scVector .hbm S1x128 .i32 := idxM.slice (idxRect i n hn) (fun _ => rfl)
def outWin (i : grid0.Coords) (n : ℕ) (hn : n < 32) : Memref sig .scVector .hbm S128x128 .f32 := outM.slice (outRect i n hn) (fun _ => rfl)

theorem inSlot_eq {off : Fin 3 → ℕ} {k : ℕ} (h : off = ![k % 2, 0, 0]) (p) :
    (inB.slice (Rect.unit (s := S2x1x128) off S1x1x128.size p) (fun _ => rfl)).squeeze S1x128 squeezes_S1x1x128_S1x128 = inSlot k := by subst h; rfl
theorem outSlot_eq {off : Fin 3 → ℕ} {k : ℕ} (h : off = ![k % 2, 0, 0]) (p) :
    (outB.slice (Rect.unit (s := S2x128x128) off S1x128x128.size p) (fun _ => rfl)).squeeze S128x128 squeezes_S1x128x128_S128x128 = outSlot k := by subst h; rfl
theorem inSem_eq {off : Fin 1 → ℕ} {k : ℕ} (h : off = ![k % 2]) (p) :
    ((cc0_scoped1.slice (Rect.unit (s := S2) off S1.size p)).squeeze S_ squeezes_S1_S_).sem = inSem k := by subst h; rfl
theorem outSem_eq {off : Fin 1 → ℕ} {k : ℕ} (h : off = ![k % 2]) (p) :
    ((cc0_scoped3.slice (Rect.unit (s := S2) off S1.size p)).squeeze S_ squeezes_S1_S_).sem = outSem k := by subst h; rfl
theorem idxWin_eq {i : grid0.Coords} {off : Fin 2 → ℕ} {n : ℕ} (hn : n < 32) (h : off = ![0, base i + 128 * n]) (p) :
    idxM.slice (Rect.unit (s := S1x131072) off S1x128.size p) (fun _ => rfl) = idxWin i n hn := by subst h; rfl
theorem outWin_eq {i : grid0.Coords} {off : Fin 2 → ℕ} {n : ℕ} (hn : n < 32) (h : off = ![base i + 128 * n, 0]) (p) :
    outM.slice (Rect.unit (s := S131072x128) off S128x128.size p) (fun _ => rfl) = outWin i n hn := by subst h; rfl

theorem inSlot_mod {k n : ℕ} (h : k % 2 = n % 2) : inSlot k = inSlot n := inSlot_eq (by rw [h]) _
theorem outSlot_mod {k n : ℕ} (h : k % 2 = n % 2) : outSlot k = outSlot n := outSlot_eq (by rw [h]) _
theorem inSem_mod {k n : ℕ} (h : k % 2 = n % 2) : inSem k = inSem n := inSem_eq (by rw [h]) _
theorem outSem_mod {k n : ℕ} (h : k % 2 = n % 2) : outSem k = outSem n := outSem_eq (by rw [h]) _

/-- The list a gather reads its rows by: the window, whole, as a vector. -/
abbrev offs (k : ℕ) : Memref sig .scVector .vmem S128 .i32 :=
  ((inSlot k).slice (Rect.unit (s := S1x128) ![0, 0] S1x128.size inb_S1x128_S1x128_0_0) (fun _ => rfl)).squeeze S128 squeezes_S1x128_S128

end Views

section Values

variable {F : FTy → Type}

/-- What every row ends at: the table's row at the index the list gives. -/
def gathered (I : S1x131072.Idx → BitVec 32) (Tb : S8192x128.Idx → F .f32) : S131072x128.Idx → F .f32 :=
  fun x => Tb (ix2 (Fin.ofNat 8192 (I (ix2 0 (x 0))).toNat) (x 1))

variable (I : S1x131072.Idx → BitVec 32) (Tb : S8192x128.Idx → F .f32) (i : grid0.Coords) (n : ℕ) (hn : n < 32)

/-- The window's part of the list. -/
def idxV : S1x128.Idx → BitVec 32 := fun j => I ((idxRect i n hn).emb j)
/-- The window's rows. -/
def outV : S128x128.Idx → F .f32 := fun j => gathered I Tb ((outRect i n hn).emb j)
/-- The window's part of the list as a vector. -/
def offV : S128.Idx → BitVec 32 := fun j => idxV I i n hn (Shape.reshapeEquiv squeezes_S1x128_S128.numel_eq j)

theorem offV_lt (hI : ∀ x, (I x).toNat < 8192) (x : S128.Idx) : (offV I i n hn x).toNat < 8192 := hI _

/-- What the gather leaves in the window is its rows. -/
theorem payload_eq (hg : S8192x128.Gathers 0 S128x128) (hs : S128.numel = S128x128.size hg.axis') (hin : ∀ x, (offV I i n hn x).toNat < S8192x128.size hg.axis) :
    SparseCore.gatherPayload (F := F) (e := .f32) hg Tb (SparseCore.rows (F := F) (offV I i n hn) hs hin) = outV I Tb i n hn := by
  funext j
  have hk : ∀ k : Fin 128, S128.rowMajor.symm (k.cast hs.symm) = ix1 k := fun k => by
    rw [Equiv.symm_apply_eq]; apply Fin.ext
    exact (Shape.rowMajor_val_one (ix1 k)).symm
  have hrow : (SparseCore.rows (F := F) (offV I i n hn) hs hin (j 0)).val = (I (ix2 0 ⟨base i + 128 * n + (j 0).val, by
      have := idx_inb i hn rfl 1; exact lt_of_lt_of_le (Nat.add_lt_add_left (j 0).isLt _) this⟩)).toNat := by
    show (offV I i n hn (S128.rowMajor.symm ((j 0).cast hs.symm))).toNat = _
    rw [hk (j 0)]
    unfold offV idxV
    rw [Shape.reshapeEquiv_cons_one]
    congr 2
    funext a
    apply Fin.ext
    refine (Rect.emb_apply _ _ _).trans ?_
    fin_cases a
    · rfl
    · show base i + 128 * n + 1 * (j 0).val = _; rw [Nat.one_mul]
  show Tb (hg.idx _ j) = Tb (ix2 (Fin.ofNat 8192 _) _)
  congr 1
  funext a
  apply Fin.ext
  fin_cases a
  · refine (congrArg Fin.val (Shape.Gathers.idx_axis hg _ j)).trans ?_
    have hlt := (SparseCore.rows (F := F) (offV I i n hn) hs hin (j 0)).isLt
    rw [hrow] at hlt
    refine hrow.trans ((Nat.mod_eq_of_lt hlt).symm.trans ?_)
    show _ = (I (ix2 0 ((outRect i n hn).emb j 0))).toNat % 8192
    have he : (⟨base i + 128 * n + (j 0).val, by
        have := idx_inb i hn rfl 1; exact lt_of_lt_of_le (Nat.add_lt_add_left (j 0).isLt _) this⟩ : Fin 131072) = (outRect i n hn).emb j 0 := by
      apply Fin.ext
      refine Eq.trans ?_ (Rect.emb_apply (outRect i n hn) j 0).symm
      show _ = base i + 128 * n + 1 * (j 0).val
      rw [Nat.one_mul]
    rw [← he]
    rfl
  · refine (Shape.Gathers.idx_of_ne hg _ j 1 (by decide)).trans ?_
    refine Eq.trans ?_ (Rect.emb_apply (outRect i n hn) j 1).symm
    show (j 1).val = 0 + 1 * (j 1).val
    omega

end Values

section Rows

/-- The result's rows from `lo` up to `hi`. -/
def rowsIn (lo hi : ℕ) : Finset S131072x128.Idx := Finset.univ.filter fun x => lo ≤ (x 0).val ∧ (x 0).val < hi

theorem mem_rowsIn {lo hi : ℕ} {x : S131072x128.Idx} : x ∈ rowsIn lo hi ↔ lo ≤ (x 0).val ∧ (x 0).val < hi := by
  unfold rowsIn; rw [Finset.mem_filter]; exact ⟨fun h => h.2, fun h => ⟨Finset.mem_univ _, h⟩⟩

theorem rowsIn_union {a b c : ℕ} (h₁ : a ≤ b) (h₂ : b ≤ c) : rowsIn a c = rowsIn a b ∪ rowsIn b c := by
  ext x; rw [Finset.mem_union, mem_rowsIn, mem_rowsIn, mem_rowsIn]; omega

theorem rowsIn_disjoint {a b c : ℕ} : Disjoint (rowsIn a b) (rowsIn b c) :=
  Finset.disjoint_left.mpr fun x h₁ h₂ => by rw [mem_rowsIn] at h₁ h₂; omega

theorem rowsIn_self {a : ℕ} : rowsIn a a = ∅ := by
  ext x; rw [mem_rowsIn]; simp only [Finset.notMem_empty, iff_false]; omega

theorem outRect_set (i : grid0.Coords) (n : ℕ) (hn : n < 32) : (outRect i n hn).set = rowsIn (base i + 128 * n) (base i + 128 * (n + 1)) := by
  ext x
  rw [mem_rowsIn]
  unfold outRect
  rw [Rect.mem_set_unit]
  constructor
  · intro h
    have := h 0
    change base i + 128 * n ≤ (x 0).val ∧ (x 0).val < base i + 128 * n + 128 at this
    omega
  · intro h a
    fin_cases a
    · show base i + 128 * n ≤ (x 0).val ∧ (x 0).val < base i + 128 * n + 128; omega
    · show 0 ≤ (x 1).val ∧ (x 1).val < 0 + 128
      have : (x 1).val < 128 := (x 1).isLt
      omega

end Rows

section State

variable {F : FTy → Type} {Ix : Type} [DecidableEq Ix] {Name : Type} [DecidableEq Name] {U : Type} [URA U] {Lvl : Type} [Preorder Lvl]

local notation "𝕄" => MT nD τ sig Ix (Elt F) Name U Lvl

/-- The tile. -/
abbrev thr (d : Dev nD) (i : grid0.Coords) : Thread nD τ := (d, .scVector ((i 0).castLE hcore0) ((i 1).castLE hsub0))

variable (EC : UEmb Counters (MT nD τ sig Ix (Elt F) Name U Lvl)) (ι : Ix) (d : Dev nD) (i : grid0.Coords)
variable (I : S1x131072.Idx → BitVec 32) (Tb : S8192x128.Idx → F .f32) (q : PosShare TreeShare)

theorem idxWin_back {k : ℕ} (hk : k < 32) {q : PosShare TreeShare} :
    (At (F := F) (e := .i32) (thr d i) (idxWin i k hk) Finset.univ q (idxV I i k hk) : sProp 𝕄) ⊢ At (F := F) (e := .i32) (thr d i) idxM (idxRect i k hk).set q I :=
  At.ofSlice (c := thr d i) (m := idxM) (r := idxRect i k hk) (hr := fun _ => rfl) (fun _ => rfl)

theorem idxWin_lend {k : ℕ} (hk : k < 32) {q : PosShare TreeShare} :
    (At (F := F) (e := .i32) (thr d i) idxM Finset.univ q I : sProp 𝕄)
      ⊢ iprop(At (F := F) (e := .i32) (thr d i) (idxWin i k hk) Finset.univ q (idxV I i k hk)
        ∗ (At (F := F) (e := .i32) (thr d i) (idxWin i k hk) Finset.univ q (idxV I i k hk) -∗ At (F := F) (e := .i32) (thr d i) idxM Finset.univ q I)) := by
  refine (At.lend (c := thr d i) (m := idxM) (Finset.subset_univ (idxRect i k hk).set)).trans ?_
  iintro ⟨Hx, Hb⟩
  isplitl [Hx]
  · iapply (At.toSlice (c := thr d i) (m := idxM) (r := idxRect i k hk) (hr := fun _ => rfl)) $$ Hx
  iintro Hx
  iapply Hb
  iapply (idxWin_back d i I hk) $$ Hx

theorem outWin_back {k : ℕ} (hk : k < 32) :
    (At (F := F) (e := .f32) (thr d i) (outWin i k hk) Finset.univ fullShare (outV I Tb i k hk) : sProp 𝕄)
      ⊢ At (F := F) (e := .f32) (thr d i) outM (rowsIn (base i + 128 * k) (base i + 128 * (k + 1))) fullShare (gathered I Tb) := by
  rw [← outRect_set i k hk]
  exact At.ofSlice (c := thr d i) (m := outM) (r := outRect i k hk) (hr := fun _ => rfl) (fun _ => rfl)

theorem outWin_take {k : ℕ} (hk : k < 32) :
    (Any (F := F) (thr d i) outM (rowsIn (base i + 128 * k) (base i + 128 * (k + 1))) : sProp 𝕄) ⊢ Any (F := F) (thr d i) (outWin i k hk) Finset.univ := by
  rw [← outRect_set i k hk]
  exact Any.toSlice (c := thr d i) (m := outM) (r := outRect i k hk) (hr := fun _ => rfl)

/-- The share of the list a window's transfer reads under. -/
def half (k : ℕ) : PosShare TreeShare := if k % 2 = 0 then q.left else q.right

/-- The list's window `k` is free: its buffer at any contents, its semaphore at zero, its share of the list whole. -/
def InFree (k : ℕ) : sProp 𝕄 :=
  iprop(Any (F := F) (thr d i) (inSlot k) Finset.univ ∗ semVal (thr d i, SemLoc.dma (inSem k)) 0
    ∗ At (F := F) (e := .i32) (thr d i) idxM Finset.univ (half q k) I)

/-- The list's window `k` is on its way. -/
def InBusy (k : ℕ) (hk : k < 32) : sProp 𝕄 :=
  iprop(Moving (F := F) (e := .i32) EC (thr d i) ι (idxWin i k hk) (inSlot k) (inSem k) (half q k) (idxV I i k hk)
    ∗ (At (F := F) (e := .i32) (thr d i) (idxWin i k hk) Finset.univ (half q k) (idxV I i k hk) -∗ At (F := F) (e := .i32) (thr d i) idxM Finset.univ (half q k) I))

/-- The list's window `k` before trip `k`: on its way, or free past the last. -/
def InPart (k : ℕ) : sProp 𝕄 := if hk : k < 32 then InBusy EC ι d i I q k hk else InFree d i I q k

/-- The rows' window `k` is free. -/
def OutFree (k : ℕ) : sProp 𝕄 :=
  iprop(Any (F := F) (thr d i) (outSlot k) Finset.univ ∗ semVal (thr d i, SemLoc.dma (outSem k)) 0)

/-- The rows' window `k` is on its way out. -/
def OutBusy (k : ℕ) (hk : k < 32) : sProp 𝕄 :=
  Moving (F := F) (e := .f32) EC (thr d i) ι (outSlot k) (outWin i k hk) (outSem k) fullShare (outV I Tb i k hk)

/-- The rows' other window before trip `k`: free at the first, else on its way out. -/
def OutPrev (k : ℕ) : sProp 𝕄 := if hk : 0 < k ∧ k - 1 < 32 then OutBusy EC ι d i I Tb (k - 1) hk.2 else OutFree (F := F) d i (k + 1)

/-- The rows written, and those to come. -/
def Done (k : ℕ) : sProp 𝕄 := At (F := F) (e := .f32) (thr d i) outM (rowsIn (base i) (base i + 128 * k)) fullShare (gathered I Tb)
def Todo (k : ℕ) : sProp 𝕄 := Any (F := F) (thr d i) outM (rowsIn (base i + 128 * k) (base i + 4096))

/-- The share of the table, and the gather's semaphore. -/
def Tab (qt : PosShare TreeShare) : sProp 𝕄 :=
  iprop(At (F := F) (e := .f32) (thr d i) tabM Finset.univ qt Tb ∗ semVal (thr d i, SemLoc.dma cc0_scoped4.sem) 0)

theorem half_mod {k n : ℕ} (h : k % 2 = n % 2) : half q k = half q n := by unfold half; rw [h]

theorem InFree_mod {k n : ℕ} (h : k % 2 = n % 2) : (InFree d i I q k : sProp 𝕄) = InFree d i I q n := by
  unfold InFree; rw [inSlot_mod h, inSem_mod h, half_mod q h]

theorem OutFree_mod {k n : ℕ} (h : k % 2 = n % 2) : (OutFree (F := F) d i k : sProp 𝕄) = OutFree d i n := by
  unfold OutFree; rw [outSlot_mod h, outSem_mod h]

/-- Everything before trip `k`. -/
def TripInv (qt : PosShare TreeShare) (O : CellTallies nD τ sig Ix) (W : Waits sig Ix) (k : ℕ) : sProp 𝕄 :=
  iprop(InPart EC ι d i I q k ∗ InFree d i I q (k + 1) ∗ OutFree (F := F) d i k ∗ OutPrev EC ι d i I Tb k
    ∗ Done d i I Tb (k - 1) ∗ Todo (F := F) d i k ∗ Tab d i Tb qt ∗ Thr (F := F) (thr d i) ι O W)

end State

end Cert.Proof.Hold0

end
-- ==== Proof.Steps0.lean ====
/-
  Gather 0's trip, part by part: the next window's fetch, this window's wait and gather, its write back, the last
  window's wait; and the loop, over the state before each trip.
-/
module

public import proofs.«01_k».proof.Proof.Hold0

@[expose] public section

noncomputable section

namespace Cert.Proof.Steps0

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words0 Cert.Proof.Pipe Cert.Proof.Hold0

variable {F : FTy → Type} [FloatOps F] {Ix : Type} [DecidableEq Ix] {Name : Type} [DecidableEq Name] [Infinite Name] {U : Type} [URA U] {Lvl : Type} [Preorder Lvl]

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable (𝒱 : Variants) (bd : Option 𝒱.V) (ι : Ix) (d : Dev nD) (i : grid0.Coords)
variable (I : S1x131072.Idx → BitVec 32) (Tb : S8192x128.Idx → F .f32) (q qt : PosShare TreeShare)
variable (O : CellTallies nD τ sig Ix) (W : Waits sig Ix)

local notation "wpB" => wp frame (wpE (defs₀ (F := F)) 𝒱 (thr d i) bd) Set.univ

/-- Fetching window `k`. -/
theorem fetch {k : ℕ} (hk : k < 32) {src' : Memref sig (thr d i).2.kind .hbm S1x128 .i32} {dst' : Memref sig (thr d i).2.kind .vmem S1x128 .i32} {sem' : DmaSem sig}
    {hsrc : src'.view.WordExact} {hdst : dst'.view.WordExact} {hsem : DmaTarget.Typed (nD := nD) .hbm (.dma sem') (.here dst')}
    (es : src' = idxWin i k hk) (ed : dst' = inSlot k) (em : sem' = inSem k) {Q : PUnit → sProp 𝕄} :
    (InFree d i I q k : sProp 𝕄)
      ⊢ iprop((InBusy EC ι d i I q k hk -∗ Q ⟨⟩) -∗ wpB (Prog.lift (.enqueueDmaAs src' (.here dst') .same (.dma sem') hsrc hdst hsem)) Q) := by
  unfold InFree InBusy
  iintro ⟨Hs, Hv, Hx⟩ Hk
  ihave Hx' := (idxWin_lend d i I hk) $$ Hx
  icases Hx' with ⟨Hx, Hb⟩
  iapply (wp_dma_of EC 𝒱 (thr d i) bd ι (X := idxV I i k hk) (q := half q k) es ed em (by decide)) $$ [Hs Hv Hx]
  · isplitl [Hx]; · iexact Hx
    isplitl [Hs]; · iexact Hs
    iexact Hv
  iintro HM
  iapply Hk
  isplitl [HM]; · iexact HM
  iexact Hb

/-- The first window's fetch. -/
theorem part3 {Q : BitVec 32 → sProp 𝕄} :
    (InFree d i I q 0 : sProp 𝕄) ⊢ iprop((InPart EC ι d i I q 0 -∗ Q (v4w i))
      -∗ wpB (k0_part3 (F := F) i tabM (Memref.isWhole_whole _) idxM (Memref.isWhole_whole _) outM (Memref.isWhole_whole _) inB (Memref.isWhole_whole _) cc0_scoped1 outB (Memref.isWhole_whole _) cc0_scoped3 cc0_scoped4) Q) := by
  rw [k0_part3_eq_skeleton]
  unfold k0_part3_skel v4w
  iintro H Hk
  simp only [wp_bind]
  iapply (fetch EC 𝒱 bd ι d i I q (k := 0) (by omega) (idxWin_eq _ (off2 i) _) (inSlot_eq off1 _) (inSem_eq off3 _)) $$ H
  iintro H
  rw [wp_pure]
  imodintro
  iapply Hk
  unfold InPart
  rw [dif_pos (show 0 < 32 by omega)]
  iexact H

/-- What the gather's part gives to the trip. -/
theorem part1 (k : Fin k0_t1_loop.trips) {Q : (Σ' (_ : k0_chk3 (BitVec.ofNat 32 k.val)) (_ : k0_chk2 (BitVec.ofNat 32 k.val))
      (_ : k0_chk1 i k (BitVec.ofNat 32 (min (k.val + 1) 32)) (BitVec.ofNat 32 k.val) (BitVec.ofNat 32 k.val) (BitVec.ofNat 32 (k.val - 1)) (BitVec.ofNat 32 k.val))
      (_ : BitVec 32) (_ : BitVec 1) (_ : BitVec 1) (_ : BitVec 32) (_ : BitVec 32) (_ : BitVec 32) (_ : BitVec 32), BitVec 1) → sProp 𝕄} (h3) (h2) (h1) :
    (InFree d i I q (k.val + 1) : sProp 𝕄) ⊢ iprop((InPart EC ι d i I q (k.val + 1)
        -∗ Q ⟨h3, h2, h1, Scf.iv 0#32 1#32 k, Scalar.cmpi .eq (Scf.iv 0#32 1#32 k) 0#32, Scalar.cmpi .eq (Scf.iv 0#32 1#32 k) 31#32, w66 i k.val, w71 i k.val, w76 i k.val, w91 i k, Scalar.cmpi .ne (w66 i k.val) (w71 i k.val)⟩)
      -∗ wpB (k0_part1 (F := F) i tabM (Memref.isWhole_whole _) idxM (Memref.isWhole_whole _) outM (Memref.isWhole_whole _) inB (Memref.isWhole_whole _) cc0_scoped1 outB (Memref.isWhole_whole _) cc0_scoped3 cc0_scoped4
          (v4w i) 0#32 1#32 k (BitVec.ofNat 32 (min (k.val + 1) 32)) (BitVec.ofNat 32 k.val) (BitVec.ofNat 32 k.val) (BitVec.ofNat 32 (k.val - 1)) (BitVec.ofNat 32 k.val)) Q) := by
  have hk : k.val < 32 := lt_of_lt_of_eq k.isLt trips
  rw [k0_part1_eq_skeleton]
  unfold k0_part1_skel w91 w76 w71 w66
  iintro H Hk
  simp only [wp_bind]
  iapply (wp_check 𝒱 (thr d i) bd h3)
  iapply (wp_check 𝒱 (thr d i) bd h2)
  iapply (wp_check 𝒱 (thr d i) bd h1)
  by_cases hc : k0_cond1 i k (BitVec.ofNat 32 k.val) = 1#1
  · have hk1 : k.val + 1 < 32 := (cond1 i k).mp hc
    rw [dif_pos hc]
    simp only [wp_bind]
    iapply (fetch EC 𝒱 bd ι d i I q (k := k.val + 1) hk1 (idxWin_eq hk1 (off5 i ⟨k.val, hk⟩ hk1) _)
      (inSlot_eq (by rw [Nat.min_eq_left (by omega)]; exact off4 ⟨k.val + 1, by omega⟩) _) (inSem_eq (by rw [Nat.min_eq_left (by omega)]; exact off6 ⟨k.val + 1, by omega⟩) _)) $$ H
    iintro H
    rw [wp_pure]
    imodintro
    iapply Hk
    unfold InPart
    rw [dif_pos hk1]
    iexact H
  · have hk1 : ¬ k.val + 1 < 32 := fun h => hc ((cond1 i k).mpr h)
    rw [dif_neg hc]
    rw [wp_pure]
    imodintro
    iapply Hk
    unfold InPart
    rw [dif_neg hk1]
    iexact H

/-- The window's wait and its gather. -/
theorem part2 (k : Fin k0_t1_loop.trips) {Q : PUnit → sProp 𝕄} (hI : ∀ x, (I x).toNat < 8192) (h3) (h2) (h1) (a5 b64 b65 c66 c71 c76 b96) :
    iprop(InPart EC ι d i I q k.val ∗ OutFree (F := F) d i k.val ∗ Tab d i Tb qt ∗ Thr (F := F) (thr d i) ι O W)
      ⊢ iprop((iprop(InFree d i I q k.val ∗ At (F := F) (e := .f32) (thr d i) (outSlot k.val) Finset.univ fullShare (outV I Tb i k.val (lt_of_lt_of_eq k.isLt trips))
            ∗ semVal (thr d i, SemLoc.dma (outSem k.val)) 0 ∗ Tab d i Tb qt ∗ Thr (F := F) (thr d i) ι O W) -∗ Q ⟨⟩)
        -∗ wpB (k0_part2 (F := F) i tabM (Memref.isWhole_whole _) idxM (Memref.isWhole_whole _) outM (Memref.isWhole_whole _) inB (Memref.isWhole_whole _) cc0_scoped1 outB (Memref.isWhole_whole _) cc0_scoped3 cc0_scoped4
          k (BitVec.ofNat 32 (min (k.val + 1) 32)) (BitVec.ofNat 32 k.val) (BitVec.ofNat 32 k.val) (BitVec.ofNat 32 (k.val - 1)) (BitVec.ofNat 32 k.val)
          h3 h2 h1 a5 b64 b65 c66 c71 c76 b96) Q) := by
  have hk : k.val < 32 := lt_of_lt_of_eq k.isLt trips
  rw [k0_part2_eq_skeleton]
  unfold k0_part2_skel InPart InBusy OutFree Tab
  rw [dif_pos hk]
  iintro ⟨⟨HM, Hb⟩, ⟨Hs, Hv⟩, ⟨Ht, Hg⟩, HT⟩ Hk
  simp only [wp_bind]
  rw [dif_pos (cond2 i k)]
  simp only [wp_bind]
  iapply (wp_wait_of EC 𝒱 (thr d i) bd ι (inSlot_eq (off7 ⟨k.val, by omega⟩) _) (inSem_eq (off9 ⟨k.val, by omega⟩) _)) $$ [HM HT]
  · isplitl [HM]; · iexact HM
    iexact HT
  iintro ⟨Hd, Hx, Hm, HT⟩
  ihave Hx := Hb $$ Hx
  iapply (wp_both 𝒱 (thr d i) bd)
  simp only [wp_bind]
  ihave Hd := (At.toFull (off := ![0, 0]) (inb := inb_S1x128_S1x128_0_0) (hr := fun _ => rfl)) $$ Hd
  ihave Hd := (At.toSqueeze (h := squeezes_S1x128_S128)) $$ Hd
  ihave Ht := (At.toFull (off := ![0, 0]) (inb := inb_S8192x128_S8192x128_0_0) (hr := fun _ => rfl)) $$ Ht
  iapply (wp_gather_of EC 𝒱 (thr d i) bd ι (s₀ := S8192x128) (s := S128x128) (hg := gathers_S8192x128_S128x128) (offs := offs k.val) (I := offV I i k.val hk) rfl (outSlot_eq (off10 ⟨k.val, by omega⟩) _)
    (congrArg (fun m : Memref sig .scVector .vmem S1x128 .i32 => (m.slice (Rect.unit (s := S1x128) ![0, 0] S1x128.size inb_S1x128_S1x128_0_0) (fun _ => rfl)).squeeze S128 squeezes_S1x128_S128)
      (inSlot_eq (off11 ⟨k.val, by omega⟩) _)) (fun _ => rfl) (by decide) (offV_lt I i k.val hk hI)) $$ [Ht Hs Hd Hg HT]
  · isplitl [Ht]; · iexact Ht
    isplitl [Hs]; · iexact Hs
    isplitl [Hd]; · iexact Hd
    isplitl [Hg]; · iexact Hg
    iexact HT
  iintro ⟨Hs, Ht, Hd, Hg, HT⟩
  iapply (wp_both 𝒱 (thr d i) bd)
  rw [wp_pure]
  imodintro
  iapply Hk
  ihave Hs := (At.congr (Y := outV I Tb i k.val hk) (fun x _ => congrFun (payload_eq I Tb i k.val hk _ _ _) x)) $$ Hs
  isplitl [Hd Hm Hx]
  · unfold InFree
    isplitl [Hd]
    · iapply At.any
      iapply (At.ofFull (off := ![0, 0]) (inb := inb_S1x128_S1x128_0_0) (hr := fun _ => rfl))
      iapply (At.ofSqueeze (h := squeezes_S1x128_S128))
      iexact Hd
    isplitl [Hm]; · iexact Hm
    iexact Hx
  isplitl [Hs]; · iexact Hs
  isplitl [Hv]; · iexact Hv
  isplitl [Ht Hg]
  · isplitl [Ht]
    · iapply (At.ofFull (off := ![0, 0]) (inb := inb_S8192x128_S8192x128_0_0) (hr := fun _ => rfl)) $$ Ht
    iexact Hg
  iexact HT

/-- The rows written, with the window that just left. -/
theorem Done_next {k : ℕ} (h0 : 0 < k) (hk : k ≤ 32) :
    iprop(Done d i I Tb (k - 1) ∗ At (F := F) (e := .f32) (thr d i) (outWin i (k - 1) (by omega)) Finset.univ fullShare (outV I Tb i (k - 1) (by omega))) ⊢ (Done d i I Tb k : sProp 𝕄) := by
  unfold Done
  rw [rowsIn_union (a := base i) (b := base i + 128 * (k - 1)) (c := base i + 128 * k) (by omega) (by omega)]
  refine Laws.sep_mono (entails_refl _) ?_ |>.trans (At.join rowsIn_disjoint)
  refine (outWin_back d i I Tb (by omega)).trans ?_
  rw [show k - 1 + 1 = k by omega]

/-- The state before a trip, piece by piece. -/
theorem trip_start {k : ℕ} :
    (TripInv EC ι d i I Tb q qt O W k : sProp 𝕄) ⊢ iprop(InPart EC ι d i I q k ∗ InFree d i I q (k + 1) ∗ OutFree (F := F) d i k ∗ OutPrev EC ι d i I Tb k
      ∗ Done d i I Tb (k - 1) ∗ Todo (F := F) d i k ∗ Tab d i Tb qt ∗ Thr (F := F) (thr d i) ι O W) := by
  unfold TripInv
  iintro H
  iexact H

/-- Past the first trip the rows' other window is on its way out. -/
theorem OutPrev_busy {k : ℕ} (hp : 0 < k ∧ k - 1 < 32) :
    (OutPrev EC ι d i I Tb k : sProp 𝕄) ⊢ Moving (F := F) (e := .f32) EC (thr d i) ι (outSlot (k - 1)) (outWin i (k - 1) hp.2) (outSem (k - 1)) fullShare (outV I Tb i (k - 1) hp.2) := by
  unfold OutPrev OutBusy
  rw [dif_pos hp]

theorem OutPrev_free {k : ℕ} (hp : ¬ (0 < k ∧ k - 1 < 32)) : (OutPrev EC ι d i I Tb k : sProp 𝕄) ⊢ OutFree (F := F) d i (k + 1) := by
  unfold OutPrev
  rw [dif_neg hp]

/-- The state before the next trip, from what this one leaves. -/
theorem trip_end {k : ℕ} (hk : k < 32) :
    iprop(InPart EC ι d i I q (k + 1) ∗ InFree d i I q k ∗ OutFree (F := F) d i (k + 1) ∗ OutBusy EC ι d i I Tb k hk
      ∗ Done d i I Tb k ∗ Todo (F := F) d i (k + 1) ∗ Tab d i Tb qt ∗ Thr (F := F) (thr d i) ι O W) ⊢ (TripInv EC ι d i I Tb q qt O W (k + 1) : sProp 𝕄) := by
  unfold TripInv OutPrev
  rw [dif_pos (show 0 < k + 1 ∧ k + 1 - 1 < 32 from ⟨by omega, by omega⟩), InFree_mod d i I q (show k % 2 = (k + 1 + 1) % 2 by omega)]
  exact entails_refl _

/-- One trip takes the state before it to the state before the next, and the carried words with it. -/
theorem trip (k : Fin k0_t1_loop.trips) (hI : ∀ x, (I x).toNat < 8192) :
    (TripInv EC ι d i I Tb q qt O W k.val : sProp 𝕄)
      ⊢ wpB (k0_t1_body (F := F) i tabM (Memref.isWhole_whole _) idxM (Memref.isWhole_whole _) outM (Memref.isWhole_whole _) inB (Memref.isWhole_whole _) cc0_scoped1 outB (Memref.isWhole_whole _) cc0_scoped3 cc0_scoped4
          (v4w i) k (acc k.val)) fun a => iprop(⌜a = acc (k.val + 1)⌝ ∗ TripInv EC ι d i I Tb q qt O W (k.val + 1)) := by
  have hk : k.val < 32 := lt_of_lt_of_eq k.isLt trips
  have hacc : acc k.val = (BitVec.ofNat 32 (min (k.val + 1) 32), BitVec.ofNat 32 k.val, BitVec.ofNat 32 k.val, BitVec.ofNat 32 (k.val - 1), BitVec.ofNat 32 k.val) := by
    unfold acc; rw [if_neg (by omega)]
  rw [hacc]
  unfold k0_t1_body
  refine entails_trans (trip_start EC ι d i I Tb q qt O W) ?_
  iintro ⟨HI, HF, HO, HP, Hdone, Htodo, Ht, HT⟩
  simp only [wp_bind]
  iapply (part1 EC 𝒱 bd ι d i I q k (chk3 ⟨k.val, hk⟩) (chk2 ⟨k.val, hk⟩) (chk1 i k)) $$ HF
  iintro HN
  iapply (part2 EC 𝒱 bd ι d i I Tb q qt O W k hI) $$ [HI HO Ht HT]
  · isplitl [HI]; · iexact HI
    isplitl [HO]; · iexact HO
    isplitl [Ht]; · iexact Ht
    iexact HT
  iintro ⟨HF, Hs, Hv, Ht, HT⟩
  rw [dif_pos (cond5 i k)]
  simp only [wp_bind]
  ihave Htodo' := (show Todo (F := F) d i k.val ⊢ iprop(Any (F := F) (thr d i) outM (rowsIn (base i + 128 * k.val) (base i + 128 * (k.val + 1))) ∗ Todo (F := F) d i (k.val + 1)) from by
    unfold Todo
    rw [rowsIn_union (b := base i + 128 * (k.val + 1)) (by omega) (by omega)]
    exact Any.split rowsIn_disjoint) $$ Htodo
  icases Htodo' with ⟨Hrow, Htodo⟩
  ihave Hrow := (outWin_take d i hk) $$ Hrow
  iapply (wp_dma_of EC 𝒱 (thr d i) bd ι (outSlot_eq (off12 ⟨k.val, by omega⟩) _) (outWin_eq hk (off13 i ⟨k.val, hk⟩) _) (outSem_eq (off14 ⟨k.val, by omega⟩) _) (by decide)) $$ [Hs Hrow Hv]
  · isplitl [Hs]; · iexact Hs
    isplitl [Hrow]; · iexact Hrow
    iexact Hv
  iintro HM
  by_cases hc : k0_cond7 i k (BitVec.ofNat 32 k.val) = 1#1
  · have h0 : 0 < k.val := (cond7 i k).mp hc
    have hp : 0 < k.val ∧ k.val - 1 < 32 := ⟨h0, by omega⟩
    iapply (wp_both 𝒱 (thr d i) bd)
    simp only [wp_bind]
    rw [dif_pos hc]
    simp only [wp_bind]
    ihave HP := (OutPrev_busy EC ι d i I Tb hp) $$ HP
    iapply (wp_wait_of EC 𝒱 (thr d i) bd ι (outWin_eq hp.2 (off16 i ⟨k.val, hk⟩ h0) _) (outSem_eq (off17 ⟨k.val - 1, by omega⟩) _)) $$ [HP HT]
    · isplitl [HP]; · iexact HP
      iexact HT
    iintro ⟨Hw, Hs, Hm, HT⟩
    rw [wp_pure]
    imodintro
    isplitr
    · ipureintro
      exact Prod.ext (next91 i k) (Prod.ext (next139 i k) (Prod.ext (next121 i k) (Prod.ext (next135 i k) (next143 k))))
    iapply (trip_end EC ι d i I Tb q qt O W hk)
    isplitl [HN]; · iexact HN
    isplitl [HF]; · iexact HF
    isplitl [Hs Hm]
    · rw [← OutFree_mod (F := F) d i (show (k.val - 1) % 2 = (k.val + 1) % 2 by omega)]
      unfold OutFree
      isplitl [Hs]; · iapply At.any $$ Hs
      iexact Hm
    isplitl [HM]; · unfold OutBusy; iexact HM
    isplitl [Hw Hdone]
    · iapply (Done_next d i I Tb h0 hk.le)
      isplitl [Hdone]; · iexact Hdone
      iexact Hw
    isplitl [Htodo]; · iexact Htodo
    isplitl [Ht]; · iexact Ht
    iexact HT
  · have h0 : ¬ 0 < k.val := fun h => hc ((cond7 i k).mpr h)
    have hz : k.val = 0 := by omega
    iapply (wp_both 𝒱 (thr d i) bd)
    simp only [wp_bind]
    rw [dif_neg hc]
    rw [wp_pure]
    imodintro
    isplitr
    · ipureintro
      exact Prod.ext (next91 i k) (Prod.ext (next139 i k) (Prod.ext (next121 i k) (Prod.ext (next135 i k) (next143 k))))
    iapply (trip_end EC ι d i I Tb q qt O W hk)
    isplitl [HN]; · iexact HN
    isplitl [HF]; · iexact HF
    isplitl [HP]
    · iapply (OutPrev_free EC ι d i I Tb (fun h => h0 h.1)) $$ HP
    isplitl [HM]; · unfold OutBusy; iexact HM
    isplitl [Hdone]
    · rw [show Done d i I Tb k.val = (Done d i I Tb (k.val - 1) : sProp 𝕄) from by rw [hz]]
      iexact Hdone
    isplitl [Htodo]; · iexact Htodo
    isplitl [Ht]; · iexact Ht
    iexact HT

/-- The loop, and the checks after it. -/
theorem part4 {Q : (Σ' (a : BitVec 32) (b : BitVec 32) (_ : k0_chk5 i b), k0_chk4 a) → sProp 𝕄} (hI : ∀ x, (I x).toNat < 8192) :
    (TripInv EC ι d i I Tb q qt O W 0 : sProp 𝕄)
      ⊢ iprop((TripInv EC ι d i I Tb q qt O W 32 -∗ Q ⟨BitVec.ofNat 32 (32 - 1), 0#32, chk5 i, chk4⟩)
        -∗ wpB (k0_part4 (F := F) i tabM (Memref.isWhole_whole _) idxM (Memref.isWhole_whole _) outM (Memref.isWhole_whole _) inB (Memref.isWhole_whole _) cc0_scoped1 outB (Memref.isWhole_whole _) cc0_scoped3 cc0_scoped4
          (v4w i)) Q) := by
  rw [k0_part4_eq_skeleton]
  unfold k0_part4_skel
  iintro H Hk
  simp only [wp_bind]
  iapply (Scf.wp_for frame (wpE (defs₀ (F := F)) 𝒱 (thr d i) bd) Set.univ _ _ _ k0_t1_ok _ _ (fun k a => iprop(⌜a = acc k⌝ ∗ TripInv EC ι d i I Tb q qt O W k))
    (fun k a => by
      iintro ⟨%ha, H⟩
      subst ha
      iapply (trip EC 𝒱 bd ι d i I Tb q qt O W k hI) $$ H))
  isplitl [H]
  · isplitr
    · ipureintro; rfl
    iexact H
  iintro %a ⟨%ha, H⟩
  have hT : Scf.trips k0_t1_loop.lb k0_t1_loop.ub k0_t1_loop.st = 32 := trips
  rw [hT] at ha ⊢
  have ha' : a = (BitVec.ofNat 32 32, BitVec.ofNat 32 32, BitVec.ofNat 32 32, BitVec.ofNat 32 (32 - 1), 0#32) := ha
  subst ha'
  iapply (wp_check 𝒱 (thr d i) bd (chk5 i))
  iapply (wp_check 𝒱 (thr d i) bd chk4)
  rw [wp_pure]
  imodintro
  iapply Hk
  iexact H

include EC in
/-- The whole gather on one tile: from free windows and any rows to free windows and the tile's rows gathered. -/
theorem whole (hI : ∀ x, (I x).toNat < 8192) :
    (iprop(InFree d i I q 0 ∗ InFree d i I q 1 ∗ OutFree (F := F) d i 0 ∗ OutFree (F := F) d i 1 ∗ Done d i I Tb 0 ∗ Todo (F := F) d i 0
        ∗ Tab d i Tb qt ∗ Thr (F := F) (thr d i) ι O W) : sProp 𝕄)
      ⊢ wpB (cc0__k (F := F) i tabM (Memref.isWhole_whole _) idxM (Memref.isWhole_whole _) outM (Memref.isWhole_whole _) inB (Memref.isWhole_whole _) cc0_scoped1 outB (Memref.isWhole_whole _) cc0_scoped3 cc0_scoped4)
        fun _ => iprop(InFree d i I q 0 ∗ InFree d i I q 1 ∗ OutFree (F := F) d i 0 ∗ OutFree (F := F) d i 1 ∗ Done d i I Tb 32
          ∗ Tab d i Tb qt ∗ Thr (F := F) (thr d i) ι O W) := by
  rw [cc0__k_eq_skeleton]
  unfold cc0__k_skel
  iintro ⟨H0, H1, HO, HP, Hdone, Htodo, Ht, HT⟩
  simp only [wp_bind]
  iapply (part3 EC 𝒱 bd ι d i I q) $$ H0
  iintro H0
  iapply (part4 EC 𝒱 bd ι d i I Tb q qt O W hI) $$ [H0 H1 HO HP Hdone Htodo Ht HT]
  · unfold TripInv OutPrev
    rw [dif_neg (show ¬ (0 < 0 ∧ 0 - 1 < 32) from fun h => absurd h.1 (by decide))]
    isplitl [H0]; · iexact H0
    isplitl [H1]; · iexact H1
    isplitl [HO]; · iexact HO
    isplitl [HP]; · iexact HP
    isplitl [Hdone]; · iexact Hdone
    isplitl [Htodo]; · iexact Htodo
    isplitl [Ht]; · iexact Ht
    iexact HT
  unfold TripInv OutPrev InPart
  rw [dif_pos (show 0 < 32 ∧ 32 - 1 < 32 from ⟨by decide, by decide⟩), dif_neg (show ¬ 32 < 32 by decide),
    InFree_mod d i I q (show 32 % 2 = 0 % 2 by decide), InFree_mod d i I q (show (32 + 1) % 2 = 1 % 2 by decide), OutFree_mod (F := F) d i (show 32 % 2 = 0 % 2 by decide)]
  iintro ⟨H0, H1, HO, HP, Hdone, Htodo, Ht, HT⟩
  unfold OutBusy
  iapply (wp_wait_of EC 𝒱 (thr d i) bd ι (outWin_eq (n := 32 - 1) (by decide) (off19 i) _) (outSem_eq (off20 ⟨32 - 1, by decide⟩) _)) $$ [HP HT]
  · isplitl [HP]; · iexact HP
    iexact HT
  iintro ⟨Hw, Hs, Hm, HT⟩
  rw [wp_pure]
  imodintro
  isplitl [H0]; · iexact H0
  isplitl [H1]; · iexact H1
  isplitl [HO]; · iexact HO
  isplitl [Hs Hm]
  · rw [← OutFree_mod (F := F) d i (show (32 - 1) % 2 = 1 % 2 by decide)]
    unfold OutFree
    isplitl [Hs]; · iapply At.any $$ Hs
    iexact Hm
  isplitl [Hw Hdone]
  · iapply (Done_next d i I Tb (k := 32) (by decide) (by decide))
    isplitl [Hdone]; · iexact Hdone
    iexact Hw
  isplitl [Ht]; · iexact Ht
  iexact HT

end Cert.Proof.Steps0

end
-- ==== Proof.Tile0.lean ====
/-
  Gather 0 on one tile, from what the tile is handed to what it hands back: its shares of the list and of the table,
  its rows of the result, its own windows and semaphores.
-/
module

public import proofs.«01_k».proof.Proof.Common
public import proofs.«01_k».proof.Proof.Steps0

@[expose] public section

noncomputable section

namespace Cert.Proof.Tile0

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words0 Cert.Proof.Pipe Cert.Proof.Hold0 Cert.Proof.Steps0 Cert.Proof.Common

variable {F : FTy → Type}

local notation "𝕄" => MT nD τ sig (HIx 2) (Elt F) ℕ UU ℕ

variable (d : Dev nD) (i : grid0.Coords)

section Windows

/-- Slot `k` of the two. -/
def slotI (k : ℕ) : Rect S2x1x128 := Rect.unit (s := S2x1x128) ![k % 2, 0, 0] S1x1x128.size (slot_inb rfl)
def slotO (k : ℕ) : Rect S2x128x128 := Rect.unit (s := S2x128x128) ![k % 2, 0, 0] S1x128x128.size (slot_inb rfl)

theorem mem_slotI {k : ℕ} {x : S2x1x128.Idx} : x ∈ (slotI k).set ↔ (x 0).val = k % 2 := by
  unfold slotI
  rw [Rect.mem_set_unit]
  constructor
  · intro h
    have := h 0
    change k % 2 ≤ (x 0).val ∧ (x 0).val < k % 2 + 1 at this
    omega
  · intro h a
    fin_cases a
    · show k % 2 ≤ (x 0).val ∧ (x 0).val < k % 2 + 1; omega
    · show 0 ≤ (x 1).val ∧ (x 1).val < 0 + 1; have : (x 1).val < 1 := (x 1).isLt; omega
    · show 0 ≤ (x 2).val ∧ (x 2).val < 0 + 128; have : (x 2).val < 128 := (x 2).isLt; omega

theorem mem_slotO {k : ℕ} {x : S2x128x128.Idx} : x ∈ (slotO k).set ↔ (x 0).val = k % 2 := by
  unfold slotO
  rw [Rect.mem_set_unit]
  constructor
  · intro h
    have := h 0
    change k % 2 ≤ (x 0).val ∧ (x 0).val < k % 2 + 1 at this
    omega
  · intro h a
    fin_cases a
    · show k % 2 ≤ (x 0).val ∧ (x 0).val < k % 2 + 1; omega
    · show 0 ≤ (x 1).val ∧ (x 1).val < 0 + 128; have : (x 1).val < 128 := (x 1).isLt; omega
    · show 0 ≤ (x 2).val ∧ (x 2).val < 0 + 128; have : (x 2).val < 128 := (x 2).isLt; omega

theorem slotI_disjoint : Disjoint (slotI 0).set (slotI 1).set := Finset.disjoint_left.mpr fun x h₁ h₂ => by rw [mem_slotI] at h₁ h₂; omega
theorem slotO_disjoint : Disjoint (slotO 0).set (slotO 1).set := Finset.disjoint_left.mpr fun x h₁ h₂ => by rw [mem_slotO] at h₁ h₂; omega
theorem slotI_union : Finset.univ = (slotI 0).set ∪ (slotI 1).set := by
  ext x; rw [Finset.mem_union, mem_slotI, mem_slotI]; have : (x 0).val < 2 := (x 0).isLt; simp only [Finset.mem_univ, true_iff]; omega
theorem slotO_union : Finset.univ = (slotO 0).set ∪ (slotO 1).set := by
  ext x; rw [Finset.mem_union, mem_slotO, mem_slotO]; have : (x 0).val < 2 := (x 0).isLt; simp only [Finset.mem_univ, true_iff]; omega

/-- The list's windows are the two halves of their buffer. -/
theorem inB_split : (Any (F := F) (thr d i) inB Finset.univ : sProp 𝕄) ⊢ iprop(Any (F := F) (thr d i) (inSlot 0) Finset.univ ∗ Any (F := F) (thr d i) (inSlot 1) Finset.univ) := by
  rw [slotI_union]
  refine (Any.split slotI_disjoint).trans (Laws.sep_mono ?_ ?_)
  · exact (Any.toSlice (c := thr d i) (m := inB) (r := slotI 0) (hr := fun _ => rfl)).trans (Any.toSqueeze (h := squeezes_S1x1x128_S1x128))
  · exact (Any.toSlice (c := thr d i) (m := inB) (r := slotI 1) (hr := fun _ => rfl)).trans (Any.toSqueeze (h := squeezes_S1x1x128_S1x128))

theorem inB_join : iprop(Any (F := F) (thr d i) (inSlot 0) Finset.univ ∗ Any (F := F) (thr d i) (inSlot 1) Finset.univ) ⊢ (Any (F := F) (thr d i) inB Finset.univ : sProp 𝕄) := by
  rw [slotI_union]
  refine (Laws.sep_mono ?_ ?_).trans (Any.join slotI_disjoint)
  · exact (Any.ofSqueeze (h := squeezes_S1x1x128_S1x128)).trans (Any.ofSlice (c := thr d i) (m := inB) (r := slotI 0) (hr := fun _ => rfl))
  · exact (Any.ofSqueeze (h := squeezes_S1x1x128_S1x128)).trans (Any.ofSlice (c := thr d i) (m := inB) (r := slotI 1) (hr := fun _ => rfl))

theorem outB_split : (Any (F := F) (thr d i) outB Finset.univ : sProp 𝕄) ⊢ iprop(Any (F := F) (thr d i) (outSlot 0) Finset.univ ∗ Any (F := F) (thr d i) (outSlot 1) Finset.univ) := by
  rw [slotO_union]
  refine (Any.split slotO_disjoint).trans (Laws.sep_mono ?_ ?_)
  · exact (Any.toSlice (c := thr d i) (m := outB) (r := slotO 0) (hr := fun _ => rfl)).trans (Any.toSqueeze (h := squeezes_S1x128x128_S128x128))
  · exact (Any.toSlice (c := thr d i) (m := outB) (r := slotO 1) (hr := fun _ => rfl)).trans (Any.toSqueeze (h := squeezes_S1x128x128_S128x128))

theorem outB_join : iprop(Any (F := F) (thr d i) (outSlot 0) Finset.univ ∗ Any (F := F) (thr d i) (outSlot 1) Finset.univ) ⊢ (Any (F := F) (thr d i) outB Finset.univ : sProp 𝕄) := by
  rw [slotO_union]
  refine (Laws.sep_mono ?_ ?_).trans (Any.join slotO_disjoint)
  · exact (Any.ofSqueeze (h := squeezes_S1x128x128_S128x128)).trans (Any.ofSlice (c := thr d i) (m := outB) (r := slotO 0) (hr := fun _ => rfl))
  · exact (Any.ofSqueeze (h := squeezes_S1x128x128_S128x128)).trans (Any.ofSlice (c := thr d i) (m := outB) (r := slotO 1) (hr := fun _ => rfl))

end Windows

section Own

/-- The tile's five cells. -/
abbrev cellA : GSem nD τ sig := (thr d i, .dma (inSem 0))
abbrev cellB : GSem nD τ sig := (thr d i, .dma (inSem 1))
abbrev cellC : GSem nD τ sig := (thr d i, .dma (outSem 0))
abbrev cellD : GSem nD τ sig := (thr d i, .dma (outSem 1))
abbrev cellE : GSem nD τ sig := (thr d i, .dma cc0_scoped4.sem)

theorem cell_ne {a b : DmaSem sig} (h : a ≠ b) : ((thr d i, .dma a) : GSem nD τ sig) ≠ (thr d i, .dma b) :=
  fun e => h (SemLoc.dma.inj (Prod.mk.inj e).2)

theorem cell_own {a : DmaSem sig} (h : (SemLoc.dma a : SemLoc sig).isScoped .scVector = true) : ((thr d i, .dma a) : GSem nD τ sig) ∈ ownCells (thr d i) :=
  mem_ownCells.mpr ⟨rfl, h⟩

/-- The other cells, and the other buffers. -/
def restCells : Finset (GSem nD τ sig) := (((((ownCells (thr d i)).erase (cellA d i)).erase (cellB d i)).erase (cellC d i)).erase (cellD d i)).erase (cellE d i)
def restRefs : Finset (DevRef τ sig) :=
  ((ownRefs (τ := τ) (sig := sig) (thr d i).2).erase ((thr d i).2.devRef cc0_scoped0)).erase ((thr d i).2.devRef cc0_scoped2)

theorem ownSems_split :
    (ownSems0 (thr d i) : sProp 𝕄) = iprop(semVal (cellA d i) 0 ∗ semVal (cellB d i) 0 ∗ semVal (cellC d i) 0 ∗ semVal (cellD d i) 0 ∗ semVal (cellE d i) 0
      ∗ bigSep (restCells d i) fun g => semVal g 0) := by
  unfold SparseCore.Cfg.ownSems0 restCells
  rw [SparseCore.bigSep_erase' (cell_own d i (a := inSem 0) (by decide +kernel)),
    SparseCore.bigSep_erase' (Finset.mem_erase.mpr ⟨cell_ne d i (a := inSem 1) (by decide +kernel), cell_own d i (by decide +kernel)⟩),
    SparseCore.bigSep_erase' (Finset.mem_erase.mpr ⟨cell_ne d i (a := outSem 0) (by decide +kernel), Finset.mem_erase.mpr ⟨cell_ne d i (by decide +kernel), cell_own d i (by decide +kernel)⟩⟩),
    SparseCore.bigSep_erase' (Finset.mem_erase.mpr ⟨cell_ne d i (a := outSem 1) (by decide +kernel), Finset.mem_erase.mpr ⟨cell_ne d i (by decide +kernel),
      Finset.mem_erase.mpr ⟨cell_ne d i (by decide +kernel), cell_own d i (by decide +kernel)⟩⟩⟩),
    SparseCore.bigSep_erase' (Finset.mem_erase.mpr ⟨cell_ne d i (a := cc0_scoped4.sem) (by decide +kernel), Finset.mem_erase.mpr ⟨cell_ne d i (by decide +kernel),
      Finset.mem_erase.mpr ⟨cell_ne d i (by decide +kernel), Finset.mem_erase.mpr ⟨cell_ne d i (by decide +kernel), cell_own d i (by decide +kernel)⟩⟩⟩⟩)]

theorem ownBufs_split :
    (ownBufs (thr d i) : sProp 𝕄) = iprop((∃ f, (thr d i).loc cc0_scoped0 ↦{fullShare} f) ∗ (∃ f, (thr d i).loc cc0_scoped2 ↦{fullShare} f)
      ∗ bigSep (restRefs d i) fun b => iprop(∃ f, ((d, b) : Loc nD τ sig) ↦{fullShare} f)) := by
  unfold SparseCore.Cfg.ownBufs restRefs
  refine (SparseCore.bigSep_erase' (SparseCore.Cfg.mem_ownRefs_of_owner (p := (thr d i).2) (b := (thr d i).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d i).2) (b := (thr d i).2.devRef cc0_scoped2) rfl⟩)]

end Own

variable (I : S1x131072.Idx → BitVec 32) (Tb : S8192x128.Idx → F .f32) (q qt : PosShare TreeShare)

/-- What the tile is handed of the arrays, and what it hands back. -/
def Given : sProp 𝕄 := iprop(((thr d i).loc main_v1_scv ↦{q} (I : Buf (Elt F) ((thr d i).loc main_v1_scv))) ∗ ((thr d i).loc main_v0_scv ↦{qt} (Tb : Buf (Elt F) ((thr d i).loc main_v0_scv)))
  ∗ ∃ f, (thr d i).loc main_v2_scv ↦[rowsIn (base i) (base i + 4096)]{fullShare} f)
def Back : sProp 𝕄 := iprop(((thr d i).loc main_v1_scv ↦{q} (I : Buf (Elt F) ((thr d i).loc main_v1_scv))) ∗ ((thr d i).loc main_v0_scv ↦{qt} (Tb : Buf (Elt F) ((thr d i).loc main_v0_scv)))
  ∗ ((thr d i).loc main_v2_scv ↦[rowsIn (base i) (base i + 4096)]{fullShare} (gathered I Tb : Buf (Elt F) ((thr d i).loc main_v2_scv))))

/-- Before the first trip no row is written. -/
theorem nothing_done (f : Buf (Elt F) ((thr d i).loc main_v2_scv)) :
    ((thr d i).loc main_v2_scv ↦[∅]{fullShare} f : sProp 𝕄) ⊢ Done d i I Tb 0 := by
  unfold Done
  refine (At.ofWhole (c := thr d i) main_v2_scv ∅ fullShare f).trans ?_
  rw [show rowsIn (base i) (base i + 128 * 0) = ∅ from rowsIn_self]
  exact At.congr fun x hx => absurd hx (Finset.notMem_empty x)

theorem todo_zero : (Todo (F := F) d i 0 : sProp 𝕄) = Any (F := F) (thr d i) outM (rowsIn (base i) (base i + 4096)) := by
  unfold Todo; rw [Nat.mul_zero, Nat.add_zero]

theorem done_all : (Done d i I Tb 32 : sProp 𝕄) = At (F := F) (e := .f32) (thr d i) outM (rowsIn (base i) (base i + 4096)) fullShare (gathered I Tb) := rfl

variable [FloatOps F]

/-- The gather on one tile. -/
theorem tile_body (hI : ∀ x, (I x).toNat < 8192) (O : CellTallies nD τ sig (HIx 2)) (W : Waits sig (HIx 2)) (hO : ∀ g, O g none = 0) :
    iprop(levAts (K (F := F)).L (K (F := F)).lev ∗ emp ∗ Given d i I Tb q qt ∗ scopedBufs (thr d i) ∗ scopedSems0 (thr d i) ∗ owes (thr d i) O W)
      ⊢ wp frame (wpE (defs₀ (F := F)) 𝒱₀ (thr d i) none) Set.univ
          (cc0__k (F := F) i tabM (Memref.isWhole_whole _) idxM (Memref.isWhole_whole _) outM (Memref.isWhole_whole _) inB (Memref.isWhole_whole _) cc0_scoped1 outB (Memref.isWhole_whole _) cc0_scoped3 cc0_scoped4)
          fun _ => iprop(Back d i I Tb q qt ∗ scopedBufs (thr d i) ∗ scopedSems0 (thr d i)
            ∗ ∃ W', ⌜∀ p ∈ W', p ∈ W ∨ p.2 = none⌝ ∗ owes (thr d i) O W') := by
  rw [(K (F := F)).scopedBufs_V facts d _ _, SparseCore.Cfg.scopedSems0_V (Val := Elt F) d _ _, ownSems_split, ownBufs_split]
  unfold Given Back
  iintro ⟨#Hlv, -, ⟨Hx, Ht, %fo, Ho⟩, ⟨⟨%fs, Hs⟩, ⟨%fr, Hr⟩, Hbufs⟩, ⟨HA, HB, HC, HD, HE, Hsems⟩, HO⟩
  ihave HT := (Thr.intro (F := F) (thr d i) (default : HIx 2) (O := O) (W := W) ((K (F := F)).mayWaits_none (thr := thr d i) hO)) $$ [HO]
  · isplitr
    · imodintro; iexact Hlv
    iexact HO
  ihave Hx := (At.ofWhole (c := thr d i) main_v1_scv Finset.univ q I) $$ Hx
  ihave Hx := At.halve $$ Hx
  icases Hx with ⟨Hx0, Hx1⟩
  ihave Ht := (At.ofWhole (c := thr d i) main_v0_scv Finset.univ qt Tb) $$ Ht
  ihave Hs := (Any.ofWhole (c := thr d i) cc0_scoped0 Finset.univ fs) $$ Hs
  ihave Hs := (inB_split d i) $$ Hs
  icases Hs with ⟨Hs0, Hs1⟩
  ihave Hr := (Any.ofWhole (c := thr d i) cc0_scoped2 Finset.univ fr) $$ Hr
  ihave Hr := (outB_split d i) $$ Hr
  icases Hr with ⟨Hr0, Hr1⟩
  ihave Ho := (pointsTo_split_subset (q := fullShare) (f := fo) (S := rowsIn (base i) (base i + 4096)) (Finset.empty_subset _)).1 $$ Ho
  icases Ho with ⟨Hd, Ho⟩
  rw [Finset.sdiff_empty]
  ihave Hd := (nothing_done d i I Tb fo) $$ Hd
  ihave Ho := (Any.ofWhole (c := thr d i) main_v2_scv (rowsIn (base i) (base i + 4096)) fo) $$ Ho
  ihave Hwp := (whole countersEmb 𝒱₀ none (default : HIx 2) d i I Tb q qt O W hI) $$ [Hx0 Hx1 Ht Hs0 Hs1 Hr0 Hr1 HA HB HC HD HE HT Hd Ho]
  · unfold InFree OutFree Tab
    isplitl [Hs0 HA Hx0]
    · isplitl [Hs0]; · iexact Hs0
      isplitl [HA]; · iexact HA
      iexact Hx0
    isplitl [Hs1 HB Hx1]
    · isplitl [Hs1]; · iexact Hs1
      isplitl [HB]; · iexact HB
      iexact Hx1
    isplitl [Hr0 HC]
    · isplitl [Hr0]; · iexact Hr0
      iexact HC
    isplitl [Hr1 HD]
    · isplitl [Hr1]; · iexact Hr1
      iexact HD
    isplitl [Hd]; · iexact Hd
    isplitl [Ho]; · iapply (Entails.of_eq (todo_zero (F := F) d i).symm); iexact Ho
    isplitl [Ht HE]
    · isplitl [Ht]; · iexact Ht
      iexact HE
    iexact HT
  iapply (wp_wand_r _ _) $$ [Hwp Hbufs Hsems]
  isplitl [Hwp]; · iexact Hwp
  iintro %_ H
  unfold InFree OutFree Tab Thr
  icases H with ⟨⟨Hs0, HA, Hx0⟩, ⟨Hs1, HB, Hx1⟩, ⟨Hr0, HC⟩, ⟨Hr1, HD⟩, Hd, ⟨Ht, HE⟩, -, HT⟩
  isplitl [Hx0 Hx1 Ht Hd]
  · isplitl [Hx0 Hx1]
    · iapply (At.toWhole (c := thr d i) main_v1_scv Finset.univ q I)
      iapply (At.unhalve (c := thr d i) main_v1_scv Finset.univ q I)
      isplitl [Hx0]; · iexact Hx0
      iexact Hx1
    isplitl [Ht]
    · iapply (At.toWhole (c := thr d i) main_v0_scv Finset.univ qt Tb); iexact Ht
    iapply (At.toWhole (c := thr d i) main_v2_scv (rowsIn (base i) (base i + 4096)) fullShare (gathered I Tb)); iapply (Entails.of_eq (done_all d i I Tb)); iexact Hd
  isplitl [Hs0 Hs1 Hr0 Hr1 Hbufs]
  · isplitl [Hs0 Hs1]
    · iapply (Any.toWhole (c := thr d i) cc0_scoped0 Finset.univ)
      iapply (inB_join d i)
      isplitl [Hs0]; · iexact Hs0
      iexact Hs1
    isplitl [Hr0 Hr1]
    · iapply (Any.toWhole (c := thr d i) cc0_scoped2 Finset.univ)
      iapply (outB_join d i)
      isplitl [Hr0]; · iexact Hr0
      iexact Hr1
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  iexact HT

end Cert.Proof.Tile0

end
-- ==== Proof.Deal0.lean ====
/-
  How gather 0's arrays are dealt: the list and the table by shares to the two cores and on to their tiles, the result by
  its rows; and how they come back, every row at what it gathered.
-/
module

public import proofs.«01_k».proof.Proof.Tile0

@[expose] public section

noncomputable section

namespace Cert.Proof.Deal0

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words0 Cert.Proof.Hold0 Cert.Proof.Tile0 Cert.Proof.Common

variable {F : FTy → Type}

local notation "𝕄" => MT nD τ sig (HIx 2) (Elt F) ℕ UU ℕ

/-- Tile `s` of core `c`. -/
def tileAt (c : Fin (grid0.bound 0)) (s : Fin (grid0.bound 1)) : grid0.Coords :=
  fun | 0 => c | 1 => s | ⟨_ + 2, h⟩ => absurd h (Nat.not_lt.2 (Nat.le_add_left _ _))

theorem base_tileAt (c : Fin (grid0.bound 0)) (s : Fin (grid0.bound 1)) : base (tileAt c s) = 4096 * s.val + 65536 * c.val := rfl

/-- The share of a core, and of a tile, of what all of them read. -/
def coreShare (c : Fin (grid0.bound 0)) : PosShare TreeShare := pieceOf fullShare (grid0.bound 0) (by decide) c
def tileShare (c : Fin (grid0.bound 0)) (s : Fin (grid0.bound 1)) : PosShare TreeShare := pieceOf (coreShare c) (grid0.bound 1) (by decide) s

/-- A core's rows, and a tile's. -/
def coreRows (c : Fin (grid0.bound 0)) : Finset S131072x128.Idx := rowsIn (65536 * c.val) (65536 * (c.val + 1))
def tileRows (c : Fin (grid0.bound 0)) (s : Fin (grid0.bound 1)) : Finset S131072x128.Idx := rowsIn (base (tileAt c s)) (base (tileAt c s) + 4096)

theorem coreRows_disjoint : ∀ c ∈ (Finset.univ : Finset (Fin (grid0.bound 0))), ∀ c' ∈ (Finset.univ : Finset (Fin (grid0.bound 0))), c ≠ c' → Disjoint (coreRows c) (coreRows c') :=
  fun c _ c' _ h => Finset.disjoint_left.mpr fun x h₁ h₂ => h (Fin.ext (by
    unfold coreRows at h₁ h₂; rw [mem_rowsIn] at h₁ h₂; omega))

theorem tileRows_disjoint (c : Fin (grid0.bound 0)) :
    ∀ s ∈ (Finset.univ : Finset (Fin (grid0.bound 1))), ∀ s' ∈ (Finset.univ : Finset (Fin (grid0.bound 1))), s ≠ s' → Disjoint (tileRows c s) (tileRows c s') :=
  fun s _ s' _ h => Finset.disjoint_left.mpr fun x h₁ h₂ => h (Fin.ext (by
    unfold tileRows at h₁ h₂; rw [mem_rowsIn, base_tileAt] at h₁ h₂; omega))

theorem coreRows_cover : (Finset.univ : Finset (Fin (grid0.bound 0))).biUnion coreRows = Finset.univ := by
  ext x
  have hx : (x 0).val < 131072 := (x 0).isLt
  simp only [Finset.mem_biUnion, Finset.mem_univ, true_and, iff_true]
  refine ⟨⟨(x 0).val / 65536, show (x 0).val / 65536 < 2 by omega⟩, ?_⟩
  unfold coreRows; rw [mem_rowsIn]; dsimp only; omega

theorem tileRows_cover (c : Fin (grid0.bound 0)) : (Finset.univ : Finset (Fin (grid0.bound 1))).biUnion (tileRows c) = coreRows c := by
  ext x
  simp only [Finset.mem_biUnion, Finset.mem_univ, true_and]
  unfold coreRows tileRows
  rw [mem_rowsIn]
  constructor
  · rintro ⟨s, h⟩
    rw [mem_rowsIn, base_tileAt] at h
    have hs : s.val < 16 := s.isLt
    omega
  · intro h
    refine ⟨⟨((x 0).val - 65536 * c.val) / 4096, show ((x 0).val - 65536 * c.val) / 4096 < 16 by omega⟩, ?_⟩
    rw [mem_rowsIn, base_tileAt]; dsimp only; omega

variable (d : Dev nD) (I : S1x131072.Idx → BitVec 32) (Tb : S8192x128.Idx → F .f32)

/-- The call's arrays before and after it. -/
def Before : sProp 𝕄 := iprop((tcLoc d main_v1 ↦{fullShare} (I : Buf (Elt F) (tcLoc d main_v1))) ∗ (tcLoc d main_v0 ↦{fullShare} (Tb : Buf (Elt F) (tcLoc d main_v0)))
  ∗ ∃ f, tcLoc d main_v2 ↦{fullShare} f)
def After : sProp 𝕄 := iprop((tcLoc d main_v1 ↦{fullShare} (I : Buf (Elt F) (tcLoc d main_v1))) ∗ (tcLoc d main_v0 ↦{fullShare} (Tb : Buf (Elt F) (tcLoc d main_v0)))
  ∗ (tcLoc d main_v2 ↦{fullShare} (gathered I Tb : Buf (Elt F) (tcLoc d main_v2))))

/-- A core's part before and after the call. -/
def CoreIn (c : Fin (grid0.bound 0)) : sProp 𝕄 := iprop((tcLoc d main_v1 ↦{coreShare c} (I : Buf (Elt F) (tcLoc d main_v1))) ∗ (tcLoc d main_v0 ↦{coreShare c} (Tb : Buf (Elt F) (tcLoc d main_v0)))
  ∗ ∃ f, tcLoc d main_v2 ↦[coreRows c]{fullShare} f)
def CoreOut (c : Fin (grid0.bound 0)) : sProp 𝕄 := iprop((tcLoc d main_v1 ↦{coreShare c} (I : Buf (Elt F) (tcLoc d main_v1))) ∗ (tcLoc d main_v0 ↦{coreShare c} (Tb : Buf (Elt F) (tcLoc d main_v0)))
  ∗ (tcLoc d main_v2 ↦[coreRows c]{fullShare} (gathered I Tb : Buf (Elt F) (tcLoc d main_v2))))

/-- A tile's part before and after the call. -/
def TileIn (c : Fin (grid0.bound 0)) (s : Fin (grid0.bound 1)) : sProp 𝕄 := Given d (tileAt c s) I Tb (tileShare c s) (tileShare c s)
def TileOut (c : Fin (grid0.bound 0)) (s : Fin (grid0.bound 1)) : sProp 𝕄 := Back d (tileAt c s) I Tb (tileShare c s) (tileShare c s)

instance CoreIn_storable (c : Fin (grid0.bound 0)) : BI.Storable (upEmb : UEmb _ 𝕄) (CoreIn d I Tb c) := by unfold CoreIn; infer_instance
instance CoreOut_storable (c : Fin (grid0.bound 0)) : BI.Storable (upEmb : UEmb _ 𝕄) (CoreOut d I Tb c) := by unfold CoreOut; infer_instance
instance TileIn_storable (c : Fin (grid0.bound 0)) (s : Fin (grid0.bound 1)) : BI.Storable (upEmb : UEmb _ 𝕄) (TileIn d I Tb c s) := by unfold TileIn Given; infer_instance
instance TileOut_storable (c : Fin (grid0.bound 0)) (s : Fin (grid0.bound 1)) : BI.Storable (upEmb : UEmb _ 𝕄) (TileOut d I Tb c s) := by unfold TileOut Back; infer_instance

/-- The same, the arrays named as the device's. -/
theorem TileIn_eq (c : Fin (grid0.bound 0)) (s : Fin (grid0.bound 1)) :
    (TileIn d I Tb c s : sProp 𝕄) = iprop((tcLoc d main_v1 ↦{tileShare c s} (I : Buf (Elt F) (tcLoc d main_v1))) ∗ (tcLoc d main_v0 ↦{tileShare c s} (Tb : Buf (Elt F) (tcLoc d main_v0)))
      ∗ ∃ f, tcLoc d main_v2 ↦[tileRows c s]{fullShare} f) := rfl
theorem TileOut_eq (c : Fin (grid0.bound 0)) (s : Fin (grid0.bound 1)) :
    (TileOut d I Tb c s : sProp 𝕄) = iprop((tcLoc d main_v1 ↦{tileShare c s} (I : Buf (Elt F) (tcLoc d main_v1))) ∗ (tcLoc d main_v0 ↦{tileShare c s} (Tb : Buf (Elt F) (tcLoc d main_v0)))
      ∗ (tcLoc d main_v2 ↦[tileRows c s]{fullShare} (gathered I Tb : Buf (Elt F) (tcLoc d main_v2)))) := rfl

section Shares

variable {ℓ : Loc nD τ sig} (f : Buf (Elt F) ℓ)

theorem shares_core : (ℓ ↦{fullShare} f : sProp 𝕄) = bigSep Finset.univ fun c : Fin (grid0.bound 0) => ℓ ↦{coreShare c} f :=
  pointsTo_piecesOf Finset.univ f _ fullShare
theorem shares_tile (c : Fin (grid0.bound 0)) : (ℓ ↦{coreShare c} f : sProp 𝕄) = bigSep Finset.univ fun s : Fin (grid0.bound 1) => ℓ ↦{tileShare c s} f :=
  pointsTo_piecesOf Finset.univ f _ (coreShare c)

end Shares

section Rows

variable (f : Buf (Elt F) (tcLoc d main_v2))

theorem rows_core : (tcLoc d main_v2 ↦{fullShare} f : sProp 𝕄) = bigSep Finset.univ fun c : Fin (grid0.bound 0) => tcLoc d main_v2 ↦[coreRows c]{fullShare} f := by
  rw [← pointsTo_biUnion Finset.univ (ℓ := tcLoc d main_v2) coreRows coreRows_disjoint, coreRows_cover]
theorem rows_tile (c : Fin (grid0.bound 0)) :
    (tcLoc d main_v2 ↦[coreRows c]{fullShare} f : sProp 𝕄) = bigSep Finset.univ fun s : Fin (grid0.bound 1) => tcLoc d main_v2 ↦[tileRows c s]{fullShare} f := by
  rw [← pointsTo_biUnion Finset.univ (ℓ := tcLoc d main_v2) (tileRows c) (tileRows_disjoint c), tileRows_cover]

/-- Known contents are some contents. -/
theorem rows_any {n : ℕ} (M : Fin n → Finset S131072x128.Idx) :
    (bigSep Finset.univ fun c : Fin n => tcLoc d main_v2 ↦[M c]{fullShare} f : sProp 𝕄) ⊢ bigSep Finset.univ fun c : Fin n => iprop(∃ g : Buf (Elt F) (tcLoc d main_v2), tcLoc d main_v2 ↦[M c]{fullShare} g) := by
  have h (c : Fin n) : (tcLoc d main_v2 ↦[M c]{fullShare} f : sProp 𝕄) ⊢ iprop(∃ g : Buf (Elt F) (tcLoc d main_v2), tcLoc d main_v2 ↦[M c]{fullShare} g) := by
    iintro H; iexists f; iexact H
  exact bigSep_mono fun c _ => h c

end Rows

theorem cores_in : (Before d I Tb : sProp 𝕄) ⊢ bigSep Finset.univ fun c => CoreIn d I Tb c := by
  unfold Before CoreIn
  rw [bigSep_sep', bigSep_sep', shares_core, shares_core]
  iintro ⟨Hi, Ht, %f, Ho⟩
  isplitl [Hi]; · iexact Hi
  isplitl [Ht]; · iexact Ht
  ihave Ho := (Entails.of_eq (rows_core d f)) $$ Ho
  iapply (rows_any d f coreRows); iexact Ho

theorem cores_out : (bigSep Finset.univ fun c => CoreOut d I Tb c) ⊢ (After d I Tb : sProp 𝕄) := by
  unfold After CoreOut
  rw [bigSep_sep', bigSep_sep', shares_core, shares_core, rows_core]

theorem tiles_in (c : Fin (grid0.bound 0)) : (CoreIn d I Tb c : sProp 𝕄) ⊢ bigSep Finset.univ fun s => TileIn d I Tb c s := by
  unfold CoreIn
  simp only [TileIn_eq]
  rw [bigSep_sep', bigSep_sep', shares_tile, shares_tile]
  iintro ⟨Hi, Ht, %f, Ho⟩
  isplitl [Hi]; · iexact Hi
  isplitl [Ht]; · iexact Ht
  ihave Ho := (Entails.of_eq (rows_tile d f c)) $$ Ho
  iapply (rows_any d f (tileRows c)); iexact Ho

theorem tiles_out (c : Fin (grid0.bound 0)) : (bigSep Finset.univ fun s => TileOut d I Tb c s) ⊢ (CoreOut d I Tb c : sProp 𝕄) := by
  unfold CoreOut
  simp only [TileOut_eq]
  rw [bigSep_sep', bigSep_sep', shares_tile, shares_tile, rows_tile]

end Cert.Proof.Deal0

end
-- ==== Proof.Words1.lean ====
/-
  The words gather 1's tile computes at each trip of its loop: the offsets, the conditions and the words it carries,
  each in closed form — checked over every tile and every trip.
-/
module

public import proofs.«01_k».proof.Proof.Gen.KernelIdeal.Skeleton

@[expose] public section

namespace Cert.Proof.Words1

open Idealize.ShloMosaic Idealize.SL.Sem
open Cert.KernelIdeal Cert.KernelIdeal.Gen

/-- The first index of the tile's part of the list. -/
def base (i : grid1.Coords) : ℕ := 4096 * (i 1).val + 65536 * (i 0).val

theorem base_le (i : grid1.Coords) : base i + 4096 ≤ 131072 := by
  have h0 : (i 0).val < 2 := (i 0).isLt
  have h1 : (i 1).val < 16 := (i 1).isLt
  unfold base; omega

/-- The word the tile's index starts its windows at. -/
def v4w (i : grid1.Coords) : BitVec 32 :=
  Scalar.muli (Scalar.addi (Scalar.addi 0#32 (Scalar.muli (BitVec.ofNat 32 (i 1).val) 1#32)) (Scalar.muli (BitVec.ofNat 32 (i 0).val) 16#32)) 16#32

theorem trips : k1_t1_loop.trips = 16 := by decide +kernel

section Slots

theorem off1 : k1_off1 = ![0, 0, 0] := by decide +kernel
theorem off3 : k1_off3 = ![0] := by decide +kernel
theorem off2 : ∀ i : grid1.Coords, k1_off2 i = ![0, base i + 256 * 0] := by decide +kernel

theorem off4 : ∀ k : Fin 17, k1_off4 (BitVec.ofNat 32 k.val) = ![k.val % 2, 0, 0] := by decide +kernel
theorem off6 : ∀ k : Fin 17, k1_off6 (BitVec.ofNat 32 k.val) = ![k.val % 2] := by decide +kernel
theorem off7 : ∀ k : Fin 17, k1_off7 (BitVec.ofNat 32 k.val) = ![k.val % 2, 0, 0] := by decide +kernel
theorem off9 : ∀ k : Fin 17, k1_off9 (BitVec.ofNat 32 k.val) = ![k.val % 2] := by decide +kernel
theorem off10 : ∀ k : Fin 17, k1_off10 (BitVec.ofNat 32 k.val) = ![k.val % 2, 0, 0] := by decide +kernel
theorem off11 : ∀ k : Fin 17, k1_off11 (BitVec.ofNat 32 k.val) = ![k.val % 2, 0, 0] := by decide +kernel
theorem off12 : ∀ k : Fin 17, k1_off12 (BitVec.ofNat 32 k.val) = ![k.val % 2, 0, 0] := by decide +kernel
theorem off14 : ∀ k : Fin 17, k1_off14 (BitVec.ofNat 32 k.val) = ![k.val % 2] := by decide +kernel
theorem off15 : ∀ k : Fin 17, k1_off15 (BitVec.ofNat 32 k.val) = ![k.val % 2, 0, 0] := by decide +kernel
theorem off17 : ∀ k : Fin 17, k1_off17 (BitVec.ofNat 32 k.val) = ![k.val % 2] := by decide +kernel
theorem off20 : ∀ k : Fin 17, k1_off20 (BitVec.ofNat 32 k.val) = ![k.val % 2] := by decide +kernel
theorem off21 : ∀ k : Fin 17, k1_off21 (BitVec.ofNat 32 k.val) = ![k.val % 2, 0, 0] := by decide +kernel

end Slots

section Windows

theorem off5 : ∀ (i : grid1.Coords) (k : Fin 16), k.val + 1 < 16 → k1_off5 i (BitVec.ofNat 32 k.val) = ![0, base i + 256 * (k.val + 1)] := by
  decide +kernel
theorem off8 : ∀ (i : grid1.Coords) (k : Fin 16), k1_off8 i (BitVec.ofNat 32 k.val) = ![0, base i + 256 * k.val] := by decide +kernel
theorem off13 : ∀ (i : grid1.Coords) (k : Fin 16), k1_off13 i (BitVec.ofNat 32 k.val) = ![base i + 256 * k.val, 0] := by decide +kernel
theorem off16 : ∀ (i : grid1.Coords) (k : Fin 16), 0 < k.val → k1_off16 i (BitVec.ofNat 32 k.val) = ![base i + 256 * (k.val - 1), 0] := by
  decide +kernel
theorem off19 : ∀ i : grid1.Coords, k1_off19 i 0#32 = ![base i + 256 * (16 - 1), 0] := by decide +kernel

end Windows

section Conditions

theorem cond1 : ∀ (i : grid1.Coords) (k : Fin k1_t1_loop.trips), k1_cond1 i k (BitVec.ofNat 32 k.val) = 1#1 ↔ k.val + 1 < 16 := by decide +kernel
theorem cond2 : ∀ (i : grid1.Coords) (k : Fin k1_t1_loop.trips), k1_cond2 i k (BitVec.ofNat 32 k.val) = 1#1 := by decide +kernel
theorem cond5 : ∀ (i : grid1.Coords) (k : Fin k1_t1_loop.trips), k1_cond5 i k (BitVec.ofNat 32 k.val) = 1#1 := by decide +kernel
theorem cond7 : ∀ (i : grid1.Coords) (k : Fin k1_t1_loop.trips), k1_cond7 i k (BitVec.ofNat 32 k.val) = 1#1 ↔ 0 < k.val := by decide +kernel

end Conditions

section Carried

/-- The carried words before trip `k`: the windows fetched, read, gathered, written back and the window's number. -/
def acc (k : ℕ) : BitVec 32 × BitVec 32 × BitVec 32 × BitVec 32 × BitVec 32 :=
  (BitVec.ofNat 32 (min (k + 1) 16), BitVec.ofNat 32 k, BitVec.ofNat 32 k, BitVec.ofNat 32 (k - 1), BitVec.ofNat 32 (if k = 16 then 0 else k))

/-- The words of trip `k`, as the body computes them from the words it carries. -/
def w66 (i : grid1.Coords) (k : ℕ) : BitVec 32 := Scalar.addi (BitVec.ofNat 32 k) (v4w i)
def w71 (i : grid1.Coords) (k : ℕ) : BitVec 32 :=
  Scalar.addi (Scalar.select (Scalar.cmpi .eq (Scalar.select 1#1 (Scalar.subi (BitVec.ofNat 32 k) 1#32) (BitVec.ofNat 32 k)) 4294967295#32) 15#32
    (Scalar.select 1#1 (Scalar.subi (BitVec.ofNat 32 k) 1#32) (BitVec.ofNat 32 k))) (v4w i)
def w76 (i : grid1.Coords) (k : ℕ) : BitVec 32 :=
  Scalar.addi (Scalar.select (Scalar.cmpi .eq (Scalar.select 1#1 (Scalar.addi (BitVec.ofNat 32 k) 1#32) (BitVec.ofNat 32 k)) 16#32) 0#32
    (Scalar.select 1#1 (Scalar.addi (BitVec.ofNat 32 k) 1#32) (BitVec.ofNat 32 k))) (v4w i)
def w91 (i : grid1.Coords) (k : Fin k1_t1_loop.trips) : BitVec 32 :=
  Scalar.select (Scalar.andi (Scalar.andi (Scalar.cmpi .ne (w66 i k.val) (w76 i k.val))
    (Scalar.xori (Scalar.cmpi .sge (Scf.iv 0#32 1#32 k) 15#32) 1#1)) 1#1) (Scalar.addi (BitVec.ofNat 32 (min (k.val + 1) 16)) 1#32) (BitVec.ofNat 32 (min (k.val + 1) 16))

theorem next91 : ∀ (i : grid1.Coords) (k : Fin k1_t1_loop.trips), w91 i k = BitVec.ofNat 32 (min (k.val + 1 + 1) 16) := by decide +kernel

theorem next139 : ∀ (i : grid1.Coords) (k : Fin k1_t1_loop.trips),
    Scalar.select (Scalar.ori (Scalar.cmpi .ne (w66 i k.val) (w76 i k.val)) (Scalar.cmpi .eq (Scf.iv 0#32 1#32 k) 15#32))
      (Scalar.addi (BitVec.ofNat 32 k.val) 1#32) (BitVec.ofNat 32 k.val) = BitVec.ofNat 32 (k.val + 1) := by decide +kernel

theorem next121 : ∀ (i : grid1.Coords) (k : Fin k1_t1_loop.trips),
    Scalar.select (Scalar.andi (Scalar.ori (Scalar.cmpi .ne (w66 i k.val) (w76 i k.val)) (Scalar.cmpi .eq (Scf.iv 0#32 1#32 k) 15#32)) 1#1)
      (Scalar.addi (BitVec.ofNat 32 k.val) 1#32) (BitVec.ofNat 32 k.val) = BitVec.ofNat 32 (k.val + 1) := by decide +kernel

theorem next135 : ∀ (i : grid1.Coords) (k : Fin k1_t1_loop.trips),
    Scalar.select (Scalar.andi (Scalar.andi (Scalar.cmpi .ne (w66 i k.val) (w71 i k.val)) (Scalar.xori (Scalar.cmpi .eq (Scf.iv 0#32 1#32 k) 0#32) 1#1)) 1#1)
      (Scalar.addi (BitVec.ofNat 32 (k.val - 1)) 1#32) (BitVec.ofNat 32 (k.val - 1)) = BitVec.ofNat 32 (k.val + 1 - 1) := by decide +kernel

theorem next143 : ∀ k : Fin k1_t1_loop.trips,
    Scalar.select (Scalar.cmpi .eq (Scalar.select 1#1 (Scalar.addi (BitVec.ofNat 32 k.val) 1#32) (BitVec.ofNat 32 k.val)) 16#32) 0#32
      (Scalar.select 1#1 (Scalar.addi (BitVec.ofNat 32 k.val) 1#32) (BitVec.ofNat 32 k.val)) = BitVec.ofNat 32 (if k.val + 1 = 16 then 0 else k.val + 1) := by
  decide +kernel

end Carried

section Checks

theorem slot_inb {d e : ℕ} {off : Fin 3 → ℕ} {n : ℕ} (h : off = ![n % 2, 0, 0]) : ∀ a, off a + (⟨3, ![1, d, e]⟩ : Shape).size a ≤ (⟨3, ![2, d, e]⟩ : Shape).size a := by
  subst h
  intro a
  have := Nat.mod_lt n (show 0 < 2 by omega)
  fin_cases a
  · show n % 2 + 1 ≤ 2; omega
  · show 0 + d ≤ d; omega
  · show 0 + e ≤ e; omega

theorem sem_inb {off : Fin 1 → ℕ} {n : ℕ} (h : off = ![n % 2]) : ∀ a, off a + S1.size a ≤ S2.size a := by
  subst h
  intro a
  have := Nat.mod_lt n (show 0 < 2 by omega)
  fin_cases a
  show n % 2 + 1 ≤ 2; omega

theorem idx_inb (i : grid1.Coords) {off : Fin 2 → ℕ} {n : ℕ} (hn : n < 16) (h : off = ![0, base i + 256 * n]) : ∀ a, off a + S1x256.size a ≤ S1x131072.size a := by
  subst h
  intro a
  have := base_le i
  fin_cases a
  · show 0 + 1 ≤ 1; omega
  · show base i + 256 * n + 256 ≤ 131072; omega

theorem out_inb (i : grid1.Coords) {off : Fin 2 → ℕ} {n : ℕ} (hn : n < 16) (h : off = ![base i + 256 * n, 0]) : ∀ a, off a + S256x128.size a ≤ S131072x128.size a := by
  subst h
  intro a
  have := base_le i
  fin_cases a
  · show base i + 256 * n + 256 ≤ 131072; omega
  · show 0 + 128 ≤ 128; omega

theorem chk3 (k : Fin 16) : k1_chk3 (BitVec.ofNat 32 k.val) := slot_inb (off11 k.castSucc)
theorem chk2 (k : Fin 16) : k1_chk2 (BitVec.ofNat 32 k.val) := slot_inb (off10 k.castSucc)

theorem chk1 (i : grid1.Coords) (k : Fin k1_t1_loop.trips) :
    k1_chk1 i k (BitVec.ofNat 32 (min (k.val + 1) 16)) (BitVec.ofNat 32 k.val) (BitVec.ofNat 32 k.val) (BitVec.ofNat 32 (k.val - 1)) (BitVec.ofNat 32 k.val) := by
  have hk : k.val < 16 := lt_of_lt_of_eq k.isLt trips
  refine ⟨fun _ => ?_, fun h => ?_, fun _ => ?_, fun _ => ?_, fun _ => ?_, fun _ => ?_, fun _ => ?_, fun _ => ?_, fun _ => ?_, fun _ => ?_, fun h => ?_, fun _ => ?_⟩
  · exact slot_inb (off4 ⟨min (k.val + 1) 16, by omega⟩)
  · have := (cond1 i k).mp h; exact idx_inb i this (off5 i ⟨k.val, hk⟩ this)
  · exact sem_inb (off6 ⟨min (k.val + 1) 16, by omega⟩)
  · exact slot_inb (off7 ⟨k.val, by omega⟩)
  · exact idx_inb i hk (off8 i ⟨k.val, hk⟩)
  · exact sem_inb (off9 ⟨k.val, by omega⟩)
  · exact slot_inb (off12 ⟨k.val, by omega⟩)
  · exact out_inb i hk (off13 i ⟨k.val, hk⟩)
  · exact sem_inb (off14 ⟨k.val, by omega⟩)
  · exact slot_inb (off15 ⟨k.val - 1, by omega⟩)
  · have := (cond7 i k).mp h; exact out_inb i (n := k.val - 1) (by omega) (off16 i ⟨k.val, hk⟩ this)
  · exact sem_inb (off17 ⟨k.val - 1, by omega⟩)

theorem chk5 (i : grid1.Coords) : k1_chk5 i 0#32 := out_inb i (by omega) (off19 i)
theorem chk4 : k1_chk4 (BitVec.ofNat 32 (16 - 1)) := ⟨slot_inb (n := 16 - 1) (by decide +kernel), sem_inb (off20 ⟨16 - 1, by omega⟩), slot_inb (off21 ⟨16 - 1, by omega⟩)⟩

end Checks

end Cert.Proof.Words1
-- ==== Proof.Hold1.lean ====
/-
  What gather 1's tile holds between the trips of its loop: the two windows of the index list and the two of the rows,
  each free or on its way, the rows written so far, and the value every row ends at.
-/
module

public import proofs.«01_k».proof.Proof.Words1
public import proofs.«01_k».proof.Proof.Pipe

@[expose] public section

noncomputable section

namespace Cert.Proof.Hold1

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen Cert.Proof.Words1 Cert.Proof.Pipe

section Views

abbrev tabM : Memref sig .scVector .hbm S8192x128 .f32 := Memref.whole main_v3_scv
abbrev idxM : Memref sig .scVector .hbm S1x131072 .i32 := Memref.whole main_v4_scv
abbrev outM : Memref sig .scVector .hbm S131072x128 .f32 := Memref.whole main_v5_scv
abbrev inB : Memref sig .scVector .vmem S2x1x256 .i32 := Memref.whole cc1_scoped0
abbrev outB : Memref sig .scVector .vmem S2x256x128 .f32 := Memref.whole cc1_scoped2

/-- The window's buffer for the list, of window `k`. -/
def inSlot (k : ℕ) : Memref sig .scVector .vmem S1x256 .i32 :=
  (inB.slice (Rect.unit (s := S2x1x256) ![k % 2, 0, 0] S1x1x256.size (slot_inb rfl)) (fun _ => rfl)).squeeze S1x256 squeezes_S1x1x256_S1x256

/-- The window's buffer for the rows, of window `k`. -/
def outSlot (k : ℕ) : Memref sig .scVector .vmem S256x128 .f32 :=
  (outB.slice (Rect.unit (s := S2x256x128) ![k % 2, 0, 0] S1x256x128.size (slot_inb rfl)) (fun _ => rfl)).squeeze S256x128 squeezes_S1x256x128_S256x128

def inSem (k : ℕ) : DmaSem sig := ((cc1_scoped1.slice (Rect.unit (s := S2) ![k % 2] S1.size (sem_inb rfl))).squeeze S_ squeezes_S1_S_).sem
def outSem (k : ℕ) : DmaSem sig := ((cc1_scoped3.slice (Rect.unit (s := S2) ![k % 2] S1.size (sem_inb rfl))).squeeze S_ squeezes_S1_S_).sem

/-- Window `n` of the tile's part of the list, and of its rows. -/
def idxRect (i : grid1.Coords) (n : ℕ) (hn : n < 16) : Rect S1x131072 := Rect.unit (s := S1x131072) ![0, base i + 256 * n] S1x256.size (idx_inb i hn rfl)
def outRect (i : grid1.Coords) (n : ℕ) (hn : n < 16) : Rect S131072x128 := Rect.unit (s := S131072x128) ![base i + 256 * n, 0] S256x128.size (out_inb i hn rfl)
def idxWin (i : grid1.Coords) (n : ℕ) (hn : n < 16) : Memref sig .scVector .hbm S1x256 .i32 := idxM.slice (idxRect i n hn) (fun _ => rfl)
def outWin (i : grid1.Coords) (n : ℕ) (hn : n < 16) : Memref sig .scVector .hbm S256x128 .f32 := outM.slice (outRect i n hn) (fun _ => rfl)

theorem inSlot_eq {off : Fin 3 → ℕ} {k : ℕ} (h : off = ![k % 2, 0, 0]) (p) :
    (inB.slice (Rect.unit (s := S2x1x256) off S1x1x256.size p) (fun _ => rfl)).squeeze S1x256 squeezes_S1x1x256_S1x256 = inSlot k := by subst h; rfl
theorem outSlot_eq {off : Fin 3 → ℕ} {k : ℕ} (h : off = ![k % 2, 0, 0]) (p) :
    (outB.slice (Rect.unit (s := S2x256x128) off S1x256x128.size p) (fun _ => rfl)).squeeze S256x128 squeezes_S1x256x128_S256x128 = outSlot k := by subst h; rfl
theorem inSem_eq {off : Fin 1 → ℕ} {k : ℕ} (h : off = ![k % 2]) (p) :
    ((cc1_scoped1.slice (Rect.unit (s := S2) off S1.size p)).squeeze S_ squeezes_S1_S_).sem = inSem k := by subst h; rfl
theorem outSem_eq {off : Fin 1 → ℕ} {k : ℕ} (h : off = ![k % 2]) (p) :
    ((cc1_scoped3.slice (Rect.unit (s := S2) off S1.size p)).squeeze S_ squeezes_S1_S_).sem = outSem k := by subst h; rfl
theorem idxWin_eq {i : grid1.Coords} {off : Fin 2 → ℕ} {n : ℕ} (hn : n < 16) (h : off = ![0, base i + 256 * n]) (p) :
    idxM.slice (Rect.unit (s := S1x131072) off S1x256.size p) (fun _ => rfl) = idxWin i n hn := by subst h; rfl
theorem outWin_eq {i : grid1.Coords} {off : Fin 2 → ℕ} {n : ℕ} (hn : n < 16) (h : off = ![base i + 256 * n, 0]) (p) :
    outM.slice (Rect.unit (s := S131072x128) off S256x128.size p) (fun _ => rfl) = outWin i n hn := by subst h; rfl

theorem inSlot_mod {k n : ℕ} (h : k % 2 = n % 2) : inSlot k = inSlot n := inSlot_eq (by rw [h]) _
theorem outSlot_mod {k n : ℕ} (h : k % 2 = n % 2) : outSlot k = outSlot n := outSlot_eq (by rw [h]) _
theorem inSem_mod {k n : ℕ} (h : k % 2 = n % 2) : inSem k = inSem n := inSem_eq (by rw [h]) _
theorem outSem_mod {k n : ℕ} (h : k % 2 = n % 2) : outSem k = outSem n := outSem_eq (by rw [h]) _

/-- The list a gather reads its rows by: the window, whole, as a vector. -/
abbrev offs (k : ℕ) : Memref sig .scVector .vmem S256 .i32 :=
  ((inSlot k).slice (Rect.unit (s := S1x256) ![0, 0] S1x256.size inb_S1x256_S1x256_0_0) (fun _ => rfl)).squeeze S256 squeezes_S1x256_S256

end Views

section Values

variable {F : FTy → Type}

/-- What every row ends at: the table's row at the index the list gives. -/
def gathered (I : S1x131072.Idx → BitVec 32) (Tb : S8192x128.Idx → F .f32) : S131072x128.Idx → F .f32 :=
  fun x => Tb (ix2 (Fin.ofNat 8192 (I (ix2 0 (x 0))).toNat) (x 1))

variable (I : S1x131072.Idx → BitVec 32) (Tb : S8192x128.Idx → F .f32) (i : grid1.Coords) (n : ℕ) (hn : n < 16)

/-- The window's part of the list. -/
def idxV : S1x256.Idx → BitVec 32 := fun j => I ((idxRect i n hn).emb j)
/-- The window's rows. -/
def outV : S256x128.Idx → F .f32 := fun j => gathered I Tb ((outRect i n hn).emb j)
/-- The window's part of the list as a vector. -/
def offV : S256.Idx → BitVec 32 := fun j => idxV I i n hn (Shape.reshapeEquiv squeezes_S1x256_S256.numel_eq j)

theorem offV_lt (hI : ∀ x, (I x).toNat < 8192) (x : S256.Idx) : (offV I i n hn x).toNat < 8192 := hI _

/-- What the gather leaves in the window is its rows. -/
theorem payload_eq (hg : S8192x128.Gathers 0 S256x128) (hs : S256.numel = S256x128.size hg.axis') (hin : ∀ x, (offV I i n hn x).toNat < S8192x128.size hg.axis) :
    SparseCore.gatherPayload (F := F) (e := .f32) hg Tb (SparseCore.rows (F := F) (offV I i n hn) hs hin) = outV I Tb i n hn := by
  funext j
  have hk : ∀ k : Fin 256, S256.rowMajor.symm (k.cast hs.symm) = ix1 k := fun k => by
    rw [Equiv.symm_apply_eq]; apply Fin.ext
    exact (Shape.rowMajor_val_one (ix1 k)).symm
  have hrow : (SparseCore.rows (F := F) (offV I i n hn) hs hin (j 0)).val = (I (ix2 0 ⟨base i + 256 * n + (j 0).val, by
      have := idx_inb i hn rfl 1; exact lt_of_lt_of_le (Nat.add_lt_add_left (j 0).isLt _) this⟩)).toNat := by
    show (offV I i n hn (S256.rowMajor.symm ((j 0).cast hs.symm))).toNat = _
    rw [hk (j 0)]
    unfold offV idxV
    rw [Shape.reshapeEquiv_cons_one]
    congr 2
    funext a
    apply Fin.ext
    refine (Rect.emb_apply _ _ _).trans ?_
    fin_cases a
    · rfl
    · show base i + 256 * n + 1 * (j 0).val = _; rw [Nat.one_mul]
  show Tb (hg.idx _ j) = Tb (ix2 (Fin.ofNat 8192 _) _)
  congr 1
  funext a
  apply Fin.ext
  fin_cases a
  · refine (congrArg Fin.val (Shape.Gathers.idx_axis hg _ j)).trans ?_
    have hlt := (SparseCore.rows (F := F) (offV I i n hn) hs hin (j 0)).isLt
    rw [hrow] at hlt
    refine hrow.trans ((Nat.mod_eq_of_lt hlt).symm.trans ?_)
    show _ = (I (ix2 0 ((outRect i n hn).emb j 0))).toNat % 8192
    have he : (⟨base i + 256 * n + (j 0).val, by
        have := idx_inb i hn rfl 1; exact lt_of_lt_of_le (Nat.add_lt_add_left (j 0).isLt _) this⟩ : Fin 131072) = (outRect i n hn).emb j 0 := by
      apply Fin.ext
      refine Eq.trans ?_ (Rect.emb_apply (outRect i n hn) j 0).symm
      show _ = base i + 256 * n + 1 * (j 0).val
      rw [Nat.one_mul]
    rw [← he]
    rfl
  · refine (Shape.Gathers.idx_of_ne hg _ j 1 (by decide)).trans ?_
    refine Eq.trans ?_ (Rect.emb_apply (outRect i n hn) j 1).symm
    show (j 1).val = 0 + 1 * (j 1).val
    omega

end Values

section Rows

/-- The result's rows from `lo` up to `hi`. -/
def rowsIn (lo hi : ℕ) : Finset S131072x128.Idx := Finset.univ.filter fun x => lo ≤ (x 0).val ∧ (x 0).val < hi

theorem mem_rowsIn {lo hi : ℕ} {x : S131072x128.Idx} : x ∈ rowsIn lo hi ↔ lo ≤ (x 0).val ∧ (x 0).val < hi := by
  unfold rowsIn; rw [Finset.mem_filter]; exact ⟨fun h => h.2, fun h => ⟨Finset.mem_univ _, h⟩⟩

theorem rowsIn_union {a b c : ℕ} (h₁ : a ≤ b) (h₂ : b ≤ c) : rowsIn a c = rowsIn a b ∪ rowsIn b c := by
  ext x; rw [Finset.mem_union, mem_rowsIn, mem_rowsIn, mem_rowsIn]; omega

theorem rowsIn_disjoint {a b c : ℕ} : Disjoint (rowsIn a b) (rowsIn b c) :=
  Finset.disjoint_left.mpr fun x h₁ h₂ => by rw [mem_rowsIn] at h₁ h₂; omega

theorem rowsIn_self {a : ℕ} : rowsIn a a = ∅ := by
  ext x; rw [mem_rowsIn]; simp only [Finset.notMem_empty, iff_false]; omega

theorem outRect_set (i : grid1.Coords) (n : ℕ) (hn : n < 16) : (outRect i n hn).set = rowsIn (base i + 256 * n) (base i + 256 * (n + 1)) := by
  ext x
  rw [mem_rowsIn]
  unfold outRect
  rw [Rect.mem_set_unit]
  constructor
  · intro h
    have := h 0
    change base i + 256 * n ≤ (x 0).val ∧ (x 0).val < base i + 256 * n + 256 at this
    omega
  · intro h a
    fin_cases a
    · show base i + 256 * n ≤ (x 0).val ∧ (x 0).val < base i + 256 * n + 256; omega
    · show 0 ≤ (x 1).val ∧ (x 1).val < 0 + 128
      have : (x 1).val < 128 := (x 1).isLt
      omega

end Rows

section State

variable {F : FTy → Type} {Ix : Type} [DecidableEq Ix] {Name : Type} [DecidableEq Name] {U : Type} [URA U] {Lvl : Type} [Preorder Lvl]

local notation "𝕄" => MT nD τ sig Ix (Elt F) Name U Lvl

/-- The tile. -/
abbrev thr (d : Dev nD) (i : grid1.Coords) : Thread nD τ := (d, .scVector ((i 0).castLE hcore0) ((i 1).castLE hsub0))

variable (EC : UEmb Counters (MT nD τ sig Ix (Elt F) Name U Lvl)) (ι : Ix) (d : Dev nD) (i : grid1.Coords)
variable (I : S1x131072.Idx → BitVec 32) (Tb : S8192x128.Idx → F .f32) (q : PosShare TreeShare)

theorem idxWin_back {k : ℕ} (hk : k < 16) {q : PosShare TreeShare} :
    (At (F := F) (e := .i32) (thr d i) (idxWin i k hk) Finset.univ q (idxV I i k hk) : sProp 𝕄) ⊢ At (F := F) (e := .i32) (thr d i) idxM (idxRect i k hk).set q I :=
  At.ofSlice (c := thr d i) (m := idxM) (r := idxRect i k hk) (hr := fun _ => rfl) (fun _ => rfl)

theorem idxWin_lend {k : ℕ} (hk : k < 16) {q : PosShare TreeShare} :
    (At (F := F) (e := .i32) (thr d i) idxM Finset.univ q I : sProp 𝕄)
      ⊢ iprop(At (F := F) (e := .i32) (thr d i) (idxWin i k hk) Finset.univ q (idxV I i k hk)
        ∗ (At (F := F) (e := .i32) (thr d i) (idxWin i k hk) Finset.univ q (idxV I i k hk) -∗ At (F := F) (e := .i32) (thr d i) idxM Finset.univ q I)) := by
  refine (At.lend (c := thr d i) (m := idxM) (Finset.subset_univ (idxRect i k hk).set)).trans ?_
  iintro ⟨Hx, Hb⟩
  isplitl [Hx]
  · iapply (At.toSlice (c := thr d i) (m := idxM) (r := idxRect i k hk) (hr := fun _ => rfl)) $$ Hx
  iintro Hx
  iapply Hb
  iapply (idxWin_back d i I hk) $$ Hx

theorem outWin_back {k : ℕ} (hk : k < 16) :
    (At (F := F) (e := .f32) (thr d i) (outWin i k hk) Finset.univ fullShare (outV I Tb i k hk) : sProp 𝕄)
      ⊢ At (F := F) (e := .f32) (thr d i) outM (rowsIn (base i + 256 * k) (base i + 256 * (k + 1))) fullShare (gathered I Tb) := by
  rw [← outRect_set i k hk]
  exact At.ofSlice (c := thr d i) (m := outM) (r := outRect i k hk) (hr := fun _ => rfl) (fun _ => rfl)

theorem outWin_take {k : ℕ} (hk : k < 16) :
    (Any (F := F) (thr d i) outM (rowsIn (base i + 256 * k) (base i + 256 * (k + 1))) : sProp 𝕄) ⊢ Any (F := F) (thr d i) (outWin i k hk) Finset.univ := by
  rw [← outRect_set i k hk]
  exact Any.toSlice (c := thr d i) (m := outM) (r := outRect i k hk) (hr := fun _ => rfl)

/-- The share of the list a window's transfer reads under. -/
def half (k : ℕ) : PosShare TreeShare := if k % 2 = 0 then q.left else q.right

/-- The list's window `k` is free: its buffer at any contents, its semaphore at zero, its share of the list whole. -/
def InFree (k : ℕ) : sProp 𝕄 :=
  iprop(Any (F := F) (thr d i) (inSlot k) Finset.univ ∗ semVal (thr d i, SemLoc.dma (inSem k)) 0
    ∗ At (F := F) (e := .i32) (thr d i) idxM Finset.univ (half q k) I)

/-- The list's window `k` is on its way. -/
def InBusy (k : ℕ) (hk : k < 16) : sProp 𝕄 :=
  iprop(Moving (F := F) (e := .i32) EC (thr d i) ι (idxWin i k hk) (inSlot k) (inSem k) (half q k) (idxV I i k hk)
    ∗ (At (F := F) (e := .i32) (thr d i) (idxWin i k hk) Finset.univ (half q k) (idxV I i k hk) -∗ At (F := F) (e := .i32) (thr d i) idxM Finset.univ (half q k) I))

/-- The list's window `k` before trip `k`: on its way, or free past the last. -/
def InPart (k : ℕ) : sProp 𝕄 := if hk : k < 16 then InBusy EC ι d i I q k hk else InFree d i I q k

/-- The rows' window `k` is free. -/
def OutFree (k : ℕ) : sProp 𝕄 :=
  iprop(Any (F := F) (thr d i) (outSlot k) Finset.univ ∗ semVal (thr d i, SemLoc.dma (outSem k)) 0)

/-- The rows' window `k` is on its way out. -/
def OutBusy (k : ℕ) (hk : k < 16) : sProp 𝕄 :=
  Moving (F := F) (e := .f32) EC (thr d i) ι (outSlot k) (outWin i k hk) (outSem k) fullShare (outV I Tb i k hk)

/-- The rows' other window before trip `k`: free at the first, else on its way out. -/
def OutPrev (k : ℕ) : sProp 𝕄 := if hk : 0 < k ∧ k - 1 < 16 then OutBusy EC ι d i I Tb (k - 1) hk.2 else OutFree (F := F) d i (k + 1)

/-- The rows written, and those to come. -/
def Done (k : ℕ) : sProp 𝕄 := At (F := F) (e := .f32) (thr d i) outM (rowsIn (base i) (base i + 256 * k)) fullShare (gathered I Tb)
def Todo (k : ℕ) : sProp 𝕄 := Any (F := F) (thr d i) outM (rowsIn (base i + 256 * k) (base i + 4096))

/-- The share of the table, and the gather's semaphore. -/
def Tab (qt : PosShare TreeShare) : sProp 𝕄 :=
  iprop(At (F := F) (e := .f32) (thr d i) tabM Finset.univ qt Tb ∗ semVal (thr d i, SemLoc.dma cc1_scoped4.sem) 0)

theorem half_mod {k n : ℕ} (h : k % 2 = n % 2) : half q k = half q n := by unfold half; rw [h]

theorem InFree_mod {k n : ℕ} (h : k % 2 = n % 2) : (InFree d i I q k : sProp 𝕄) = InFree d i I q n := by
  unfold InFree; rw [inSlot_mod h, inSem_mod h, half_mod q h]

theorem OutFree_mod {k n : ℕ} (h : k % 2 = n % 2) : (OutFree (F := F) d i k : sProp 𝕄) = OutFree d i n := by
  unfold OutFree; rw [outSlot_mod h, outSem_mod h]

/-- Everything before trip `k`. -/
def TripInv (qt : PosShare TreeShare) (O : CellTallies nD τ sig Ix) (W : Waits sig Ix) (k : ℕ) : sProp 𝕄 :=
  iprop(InPart EC ι d i I q k ∗ InFree d i I q (k + 1) ∗ OutFree (F := F) d i k ∗ OutPrev EC ι d i I Tb k
    ∗ Done d i I Tb (k - 1) ∗ Todo (F := F) d i k ∗ Tab d i Tb qt ∗ Thr (F := F) (thr d i) ι O W)

end State

end Cert.Proof.Hold1

end
-- ==== Proof.Steps1.lean ====
/-
  Gather 1's trip, part by part: the next window's fetch, this window's wait and gather, its write back, the last
  window's wait; and the loop, over the state before each trip.
-/
module

public import proofs.«01_k».proof.Proof.Hold1

@[expose] public section

noncomputable section

namespace Cert.Proof.Steps1

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words1 Cert.Proof.Pipe Cert.Proof.Hold1

variable {F : FTy → Type} [FloatOps F] {Ix : Type} [DecidableEq Ix] {Name : Type} [DecidableEq Name] [Infinite Name] {U : Type} [URA U] {Lvl : Type} [Preorder Lvl]

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable (𝒱 : Variants) (bd : Option 𝒱.V) (ι : Ix) (d : Dev nD) (i : grid1.Coords)
variable (I : S1x131072.Idx → BitVec 32) (Tb : S8192x128.Idx → F .f32) (q qt : PosShare TreeShare)
variable (O : CellTallies nD τ sig Ix) (W : Waits sig Ix)

local notation "wpB" => wp frame (wpE (defs₀ (F := F)) 𝒱 (thr d i) bd) Set.univ

/-- Fetching window `k`. -/
theorem fetch {k : ℕ} (hk : k < 16) {src' : Memref sig (thr d i).2.kind .hbm S1x256 .i32} {dst' : Memref sig (thr d i).2.kind .vmem S1x256 .i32} {sem' : DmaSem sig}
    {hsrc : src'.view.WordExact} {hdst : dst'.view.WordExact} {hsem : DmaTarget.Typed (nD := nD) .hbm (.dma sem') (.here dst')}
    (es : src' = idxWin i k hk) (ed : dst' = inSlot k) (em : sem' = inSem k) {Q : PUnit → sProp 𝕄} :
    (InFree d i I q k : sProp 𝕄)
      ⊢ iprop((InBusy EC ι d i I q k hk -∗ Q ⟨⟩) -∗ wpB (Prog.lift (.enqueueDmaAs src' (.here dst') .same (.dma sem') hsrc hdst hsem)) Q) := by
  unfold InFree InBusy
  iintro ⟨Hs, Hv, Hx⟩ Hk
  ihave Hx' := (idxWin_lend d i I hk) $$ Hx
  icases Hx' with ⟨Hx, Hb⟩
  iapply (wp_dma_of EC 𝒱 (thr d i) bd ι (X := idxV I i k hk) (q := half q k) es ed em (by decide)) $$ [Hs Hv Hx]
  · isplitl [Hx]; · iexact Hx
    isplitl [Hs]; · iexact Hs
    iexact Hv
  iintro HM
  iapply Hk
  isplitl [HM]; · iexact HM
  iexact Hb

/-- The first window's fetch. -/
theorem part3 {Q : BitVec 32 → sProp 𝕄} :
    (InFree d i I q 0 : sProp 𝕄) ⊢ iprop((InPart EC ι d i I q 0 -∗ Q (v4w i))
      -∗ wpB (k1_part3 (F := F) i tabM (Memref.isWhole_whole _) idxM (Memref.isWhole_whole _) outM (Memref.isWhole_whole _) inB (Memref.isWhole_whole _) cc1_scoped1 outB (Memref.isWhole_whole _) cc1_scoped3 cc1_scoped4) Q) := by
  rw [k1_part3_eq_skeleton]
  unfold k1_part3_skel v4w
  iintro H Hk
  simp only [wp_bind]
  iapply (fetch EC 𝒱 bd ι d i I q (k := 0) (by omega) (idxWin_eq _ (off2 i) _) (inSlot_eq off1 _) (inSem_eq off3 _)) $$ H
  iintro H
  rw [wp_pure]
  imodintro
  iapply Hk
  unfold InPart
  rw [dif_pos (show 0 < 16 by omega)]
  iexact H

/-- What the gather's part gives to the trip. -/
theorem part1 (k : Fin k1_t1_loop.trips) {Q : (Σ' (_ : k1_chk3 (BitVec.ofNat 32 k.val)) (_ : k1_chk2 (BitVec.ofNat 32 k.val))
      (_ : k1_chk1 i k (BitVec.ofNat 32 (min (k.val + 1) 16)) (BitVec.ofNat 32 k.val) (BitVec.ofNat 32 k.val) (BitVec.ofNat 32 (k.val - 1)) (BitVec.ofNat 32 k.val))
      (_ : BitVec 32) (_ : BitVec 1) (_ : BitVec 1) (_ : BitVec 32) (_ : BitVec 32) (_ : BitVec 32) (_ : BitVec 32), BitVec 1) → sProp 𝕄} (h3) (h2) (h1) :
    (InFree d i I q (k.val + 1) : sProp 𝕄) ⊢ iprop((InPart EC ι d i I q (k.val + 1)
        -∗ Q ⟨h3, h2, h1, Scf.iv 0#32 1#32 k, Scalar.cmpi .eq (Scf.iv 0#32 1#32 k) 0#32, Scalar.cmpi .eq (Scf.iv 0#32 1#32 k) 15#32, w66 i k.val, w71 i k.val, w76 i k.val, w91 i k, Scalar.cmpi .ne (w66 i k.val) (w71 i k.val)⟩)
      -∗ wpB (k1_part1 (F := F) i tabM (Memref.isWhole_whole _) idxM (Memref.isWhole_whole _) outM (Memref.isWhole_whole _) inB (Memref.isWhole_whole _) cc1_scoped1 outB (Memref.isWhole_whole _) cc1_scoped3 cc1_scoped4
          (v4w i) 0#32 1#32 k (BitVec.ofNat 32 (min (k.val + 1) 16)) (BitVec.ofNat 32 k.val) (BitVec.ofNat 32 k.val) (BitVec.ofNat 32 (k.val - 1)) (BitVec.ofNat 32 k.val)) Q) := by
  have hk : k.val < 16 := lt_of_lt_of_eq k.isLt trips
  rw [k1_part1_eq_skeleton]
  unfold k1_part1_skel w91 w76 w71 w66
  iintro H Hk
  simp only [wp_bind]
  iapply (wp_check 𝒱 (thr d i) bd h3)
  iapply (wp_check 𝒱 (thr d i) bd h2)
  iapply (wp_check 𝒱 (thr d i) bd h1)
  by_cases hc : k1_cond1 i k (BitVec.ofNat 32 k.val) = 1#1
  · have hk1 : k.val + 1 < 16 := (cond1 i k).mp hc
    rw [dif_pos hc]
    simp only [wp_bind]
    iapply (fetch EC 𝒱 bd ι d i I q (k := k.val + 1) hk1 (idxWin_eq hk1 (off5 i ⟨k.val, hk⟩ hk1) _)
      (inSlot_eq (by rw [Nat.min_eq_left (by omega)]; exact off4 ⟨k.val + 1, by omega⟩) _) (inSem_eq (by rw [Nat.min_eq_left (by omega)]; exact off6 ⟨k.val + 1, by omega⟩) _)) $$ H
    iintro H
    rw [wp_pure]
    imodintro
    iapply Hk
    unfold InPart
    rw [dif_pos hk1]
    iexact H
  · have hk1 : ¬ k.val + 1 < 16 := fun h => hc ((cond1 i k).mpr h)
    rw [dif_neg hc]
    rw [wp_pure]
    imodintro
    iapply Hk
    unfold InPart
    rw [dif_neg hk1]
    iexact H

/-- The window's wait and its gather. -/
theorem part2 (k : Fin k1_t1_loop.trips) {Q : PUnit → sProp 𝕄} (hI : ∀ x, (I x).toNat < 8192) (h3) (h2) (h1) (a5 b64 b65 c66 c71 c76 b96) :
    iprop(InPart EC ι d i I q k.val ∗ OutFree (F := F) d i k.val ∗ Tab d i Tb qt ∗ Thr (F := F) (thr d i) ι O W)
      ⊢ iprop((iprop(InFree d i I q k.val ∗ At (F := F) (e := .f32) (thr d i) (outSlot k.val) Finset.univ fullShare (outV I Tb i k.val (lt_of_lt_of_eq k.isLt trips))
            ∗ semVal (thr d i, SemLoc.dma (outSem k.val)) 0 ∗ Tab d i Tb qt ∗ Thr (F := F) (thr d i) ι O W) -∗ Q ⟨⟩)
        -∗ wpB (k1_part2 (F := F) i tabM (Memref.isWhole_whole _) idxM (Memref.isWhole_whole _) outM (Memref.isWhole_whole _) inB (Memref.isWhole_whole _) cc1_scoped1 outB (Memref.isWhole_whole _) cc1_scoped3 cc1_scoped4
          k (BitVec.ofNat 32 (min (k.val + 1) 16)) (BitVec.ofNat 32 k.val) (BitVec.ofNat 32 k.val) (BitVec.ofNat 32 (k.val - 1)) (BitVec.ofNat 32 k.val)
          h3 h2 h1 a5 b64 b65 c66 c71 c76 b96) Q) := by
  have hk : k.val < 16 := lt_of_lt_of_eq k.isLt trips
  rw [k1_part2_eq_skeleton]
  unfold k1_part2_skel InPart InBusy OutFree Tab
  rw [dif_pos hk]
  iintro ⟨⟨HM, Hb⟩, ⟨Hs, Hv⟩, ⟨Ht, Hg⟩, HT⟩ Hk
  simp only [wp_bind]
  rw [dif_pos (cond2 i k)]
  simp only [wp_bind]
  iapply (wp_wait_of EC 𝒱 (thr d i) bd ι (inSlot_eq (off7 ⟨k.val, by omega⟩) _) (inSem_eq (off9 ⟨k.val, by omega⟩) _)) $$ [HM HT]
  · isplitl [HM]; · iexact HM
    iexact HT
  iintro ⟨Hd, Hx, Hm, HT⟩
  ihave Hx := Hb $$ Hx
  iapply (wp_both 𝒱 (thr d i) bd)
  simp only [wp_bind]
  ihave Hd := (At.toFull (off := ![0, 0]) (inb := inb_S1x256_S1x256_0_0) (hr := fun _ => rfl)) $$ Hd
  ihave Hd := (At.toSqueeze (h := squeezes_S1x256_S256)) $$ Hd
  ihave Ht := (At.toFull (off := ![0, 0]) (inb := inb_S8192x128_S8192x128_0_0) (hr := fun _ => rfl)) $$ Ht
  iapply (wp_gather_of EC 𝒱 (thr d i) bd ι (s₀ := S8192x128) (s := S256x128) (hg := gathers_S8192x128_S256x128) (offs := offs k.val) (I := offV I i k.val hk) rfl (outSlot_eq (off10 ⟨k.val, by omega⟩) _)
    (congrArg (fun m : Memref sig .scVector .vmem S1x256 .i32 => (m.slice (Rect.unit (s := S1x256) ![0, 0] S1x256.size inb_S1x256_S1x256_0_0) (fun _ => rfl)).squeeze S256 squeezes_S1x256_S256)
      (inSlot_eq (off11 ⟨k.val, by omega⟩) _)) (fun _ => rfl) (by decide) (offV_lt I i k.val hk hI)) $$ [Ht Hs Hd Hg HT]
  · isplitl [Ht]; · iexact Ht
    isplitl [Hs]; · iexact Hs
    isplitl [Hd]; · iexact Hd
    isplitl [Hg]; · iexact Hg
    iexact HT
  iintro ⟨Hs, Ht, Hd, Hg, HT⟩
  iapply (wp_both 𝒱 (thr d i) bd)
  rw [wp_pure]
  imodintro
  iapply Hk
  ihave Hs := (At.congr (Y := outV I Tb i k.val hk) (fun x _ => congrFun (payload_eq I Tb i k.val hk _ _ _) x)) $$ Hs
  isplitl [Hd Hm Hx]
  · unfold InFree
    isplitl [Hd]
    · iapply At.any
      iapply (At.ofFull (off := ![0, 0]) (inb := inb_S1x256_S1x256_0_0) (hr := fun _ => rfl))
      iapply (At.ofSqueeze (h := squeezes_S1x256_S256))
      iexact Hd
    isplitl [Hm]; · iexact Hm
    iexact Hx
  isplitl [Hs]; · iexact Hs
  isplitl [Hv]; · iexact Hv
  isplitl [Ht Hg]
  · isplitl [Ht]
    · iapply (At.ofFull (off := ![0, 0]) (inb := inb_S8192x128_S8192x128_0_0) (hr := fun _ => rfl)) $$ Ht
    iexact Hg
  iexact HT

/-- The rows written, with the window that just left. -/
theorem Done_next {k : ℕ} (h0 : 0 < k) (hk : k ≤ 16) :
    iprop(Done d i I Tb (k - 1) ∗ At (F := F) (e := .f32) (thr d i) (outWin i (k - 1) (by omega)) Finset.univ fullShare (outV I Tb i (k - 1) (by omega))) ⊢ (Done d i I Tb k : sProp 𝕄) := by
  unfold Done
  rw [rowsIn_union (a := base i) (b := base i + 256 * (k - 1)) (c := base i + 256 * k) (by omega) (by omega)]
  refine Laws.sep_mono (entails_refl _) ?_ |>.trans (At.join rowsIn_disjoint)
  refine (outWin_back d i I Tb (by omega)).trans ?_
  rw [show k - 1 + 1 = k by omega]

/-- The state before a trip, piece by piece. -/
theorem trip_start {k : ℕ} :
    (TripInv EC ι d i I Tb q qt O W k : sProp 𝕄) ⊢ iprop(InPart EC ι d i I q k ∗ InFree d i I q (k + 1) ∗ OutFree (F := F) d i k ∗ OutPrev EC ι d i I Tb k
      ∗ Done d i I Tb (k - 1) ∗ Todo (F := F) d i k ∗ Tab d i Tb qt ∗ Thr (F := F) (thr d i) ι O W) := by
  unfold TripInv
  iintro H
  iexact H

/-- Past the first trip the rows' other window is on its way out. -/
theorem OutPrev_busy {k : ℕ} (hp : 0 < k ∧ k - 1 < 16) :
    (OutPrev EC ι d i I Tb k : sProp 𝕄) ⊢ Moving (F := F) (e := .f32) EC (thr d i) ι (outSlot (k - 1)) (outWin i (k - 1) hp.2) (outSem (k - 1)) fullShare (outV I Tb i (k - 1) hp.2) := by
  unfold OutPrev OutBusy
  rw [dif_pos hp]

theorem OutPrev_free {k : ℕ} (hp : ¬ (0 < k ∧ k - 1 < 16)) : (OutPrev EC ι d i I Tb k : sProp 𝕄) ⊢ OutFree (F := F) d i (k + 1) := by
  unfold OutPrev
  rw [dif_neg hp]

/-- The state before the next trip, from what this one leaves. -/
theorem trip_end {k : ℕ} (hk : k < 16) :
    iprop(InPart EC ι d i I q (k + 1) ∗ InFree d i I q k ∗ OutFree (F := F) d i (k + 1) ∗ OutBusy EC ι d i I Tb k hk
      ∗ Done d i I Tb k ∗ Todo (F := F) d i (k + 1) ∗ Tab d i Tb qt ∗ Thr (F := F) (thr d i) ι O W) ⊢ (TripInv EC ι d i I Tb q qt O W (k + 1) : sProp 𝕄) := by
  unfold TripInv OutPrev
  rw [dif_pos (show 0 < k + 1 ∧ k + 1 - 1 < 16 from ⟨by omega, by omega⟩), InFree_mod d i I q (show k % 2 = (k + 1 + 1) % 2 by omega)]
  exact entails_refl _

/-- One trip takes the state before it to the state before the next, and the carried words with it. -/
theorem trip (k : Fin k1_t1_loop.trips) (hI : ∀ x, (I x).toNat < 8192) :
    (TripInv EC ι d i I Tb q qt O W k.val : sProp 𝕄)
      ⊢ wpB (k1_t1_body (F := F) i tabM (Memref.isWhole_whole _) idxM (Memref.isWhole_whole _) outM (Memref.isWhole_whole _) inB (Memref.isWhole_whole _) cc1_scoped1 outB (Memref.isWhole_whole _) cc1_scoped3 cc1_scoped4
          (v4w i) k (acc k.val)) fun a => iprop(⌜a = acc (k.val + 1)⌝ ∗ TripInv EC ι d i I Tb q qt O W (k.val + 1)) := by
  have hk : k.val < 16 := lt_of_lt_of_eq k.isLt trips
  have hacc : acc k.val = (BitVec.ofNat 32 (min (k.val + 1) 16), BitVec.ofNat 32 k.val, BitVec.ofNat 32 k.val, BitVec.ofNat 32 (k.val - 1), BitVec.ofNat 32 k.val) := by
    unfold acc; rw [if_neg (by omega)]
  rw [hacc]
  unfold k1_t1_body
  refine entails_trans (trip_start EC ι d i I Tb q qt O W) ?_
  iintro ⟨HI, HF, HO, HP, Hdone, Htodo, Ht, HT⟩
  simp only [wp_bind]
  iapply (part1 EC 𝒱 bd ι d i I q k (chk3 ⟨k.val, hk⟩) (chk2 ⟨k.val, hk⟩) (chk1 i k)) $$ HF
  iintro HN
  iapply (part2 EC 𝒱 bd ι d i I Tb q qt O W k hI) $$ [HI HO Ht HT]
  · isplitl [HI]; · iexact HI
    isplitl [HO]; · iexact HO
    isplitl [Ht]; · iexact Ht
    iexact HT
  iintro ⟨HF, Hs, Hv, Ht, HT⟩
  rw [dif_pos (cond5 i k)]
  simp only [wp_bind]
  ihave Htodo' := (show Todo (F := F) d i k.val ⊢ iprop(Any (F := F) (thr d i) outM (rowsIn (base i + 256 * k.val) (base i + 256 * (k.val + 1))) ∗ Todo (F := F) d i (k.val + 1)) from by
    unfold Todo
    rw [rowsIn_union (b := base i + 256 * (k.val + 1)) (by omega) (by omega)]
    exact Any.split rowsIn_disjoint) $$ Htodo
  icases Htodo' with ⟨Hrow, Htodo⟩
  ihave Hrow := (outWin_take d i hk) $$ Hrow
  iapply (wp_dma_of EC 𝒱 (thr d i) bd ι (outSlot_eq (off12 ⟨k.val, by omega⟩) _) (outWin_eq hk (off13 i ⟨k.val, hk⟩) _) (outSem_eq (off14 ⟨k.val, by omega⟩) _) (by decide)) $$ [Hs Hrow Hv]
  · isplitl [Hs]; · iexact Hs
    isplitl [Hrow]; · iexact Hrow
    iexact Hv
  iintro HM
  by_cases hc : k1_cond7 i k (BitVec.ofNat 32 k.val) = 1#1
  · have h0 : 0 < k.val := (cond7 i k).mp hc
    have hp : 0 < k.val ∧ k.val - 1 < 16 := ⟨h0, by omega⟩
    iapply (wp_both 𝒱 (thr d i) bd)
    simp only [wp_bind]
    rw [dif_pos hc]
    simp only [wp_bind]
    ihave HP := (OutPrev_busy EC ι d i I Tb hp) $$ HP
    iapply (wp_wait_of EC 𝒱 (thr d i) bd ι (outWin_eq hp.2 (off16 i ⟨k.val, hk⟩ h0) _) (outSem_eq (off17 ⟨k.val - 1, by omega⟩) _)) $$ [HP HT]
    · isplitl [HP]; · iexact HP
      iexact HT
    iintro ⟨Hw, Hs, Hm, HT⟩
    rw [wp_pure]
    imodintro
    isplitr
    · ipureintro
      exact Prod.ext (next91 i k) (Prod.ext (next139 i k) (Prod.ext (next121 i k) (Prod.ext (next135 i k) (next143 k))))
    iapply (trip_end EC ι d i I Tb q qt O W hk)
    isplitl [HN]; · iexact HN
    isplitl [HF]; · iexact HF
    isplitl [Hs Hm]
    · rw [← OutFree_mod (F := F) d i (show (k.val - 1) % 2 = (k.val + 1) % 2 by omega)]
      unfold OutFree
      isplitl [Hs]; · iapply At.any $$ Hs
      iexact Hm
    isplitl [HM]; · unfold OutBusy; iexact HM
    isplitl [Hw Hdone]
    · iapply (Done_next d i I Tb h0 hk.le)
      isplitl [Hdone]; · iexact Hdone
      iexact Hw
    isplitl [Htodo]; · iexact Htodo
    isplitl [Ht]; · iexact Ht
    iexact HT
  · have h0 : ¬ 0 < k.val := fun h => hc ((cond7 i k).mpr h)
    have hz : k.val = 0 := by omega
    iapply (wp_both 𝒱 (thr d i) bd)
    simp only [wp_bind]
    rw [dif_neg hc]
    rw [wp_pure]
    imodintro
    isplitr
    · ipureintro
      exact Prod.ext (next91 i k) (Prod.ext (next139 i k) (Prod.ext (next121 i k) (Prod.ext (next135 i k) (next143 k))))
    iapply (trip_end EC ι d i I Tb q qt O W hk)
    isplitl [HN]; · iexact HN
    isplitl [HF]; · iexact HF
    isplitl [HP]
    · iapply (OutPrev_free EC ι d i I Tb (fun h => h0 h.1)) $$ HP
    isplitl [HM]; · unfold OutBusy; iexact HM
    isplitl [Hdone]
    · rw [show Done d i I Tb k.val = (Done d i I Tb (k.val - 1) : sProp 𝕄) from by rw [hz]]
      iexact Hdone
    isplitl [Htodo]; · iexact Htodo
    isplitl [Ht]; · iexact Ht
    iexact HT

/-- The loop, and the checks after it. -/
theorem part4 {Q : (Σ' (a : BitVec 32) (b : BitVec 32) (_ : k1_chk5 i b), k1_chk4 a) → sProp 𝕄} (hI : ∀ x, (I x).toNat < 8192) :
    (TripInv EC ι d i I Tb q qt O W 0 : sProp 𝕄)
      ⊢ iprop((TripInv EC ι d i I Tb q qt O W 16 -∗ Q ⟨BitVec.ofNat 32 (16 - 1), 0#32, chk5 i, chk4⟩)
        -∗ wpB (k1_part4 (F := F) i tabM (Memref.isWhole_whole _) idxM (Memref.isWhole_whole _) outM (Memref.isWhole_whole _) inB (Memref.isWhole_whole _) cc1_scoped1 outB (Memref.isWhole_whole _) cc1_scoped3 cc1_scoped4
          (v4w i)) Q) := by
  rw [k1_part4_eq_skeleton]
  unfold k1_part4_skel
  iintro H Hk
  simp only [wp_bind]
  iapply (Scf.wp_for frame (wpE (defs₀ (F := F)) 𝒱 (thr d i) bd) Set.univ _ _ _ k1_t1_ok _ _ (fun k a => iprop(⌜a = acc k⌝ ∗ TripInv EC ι d i I Tb q qt O W k))
    (fun k a => by
      iintro ⟨%ha, H⟩
      subst ha
      iapply (trip EC 𝒱 bd ι d i I Tb q qt O W k hI) $$ H))
  isplitl [H]
  · isplitr
    · ipureintro; rfl
    iexact H
  iintro %a ⟨%ha, H⟩
  have hT : Scf.trips k1_t1_loop.lb k1_t1_loop.ub k1_t1_loop.st = 16 := trips
  rw [hT] at ha ⊢
  have ha' : a = (BitVec.ofNat 32 16, BitVec.ofNat 32 16, BitVec.ofNat 32 16, BitVec.ofNat 32 (16 - 1), 0#32) := ha
  subst ha'
  iapply (wp_check 𝒱 (thr d i) bd (chk5 i))
  iapply (wp_check 𝒱 (thr d i) bd chk4)
  rw [wp_pure]
  imodintro
  iapply Hk
  iexact H

include EC in
/-- The whole gather on one tile: from free windows and any rows to free windows and the tile's rows gathered. -/
theorem whole (hI : ∀ x, (I x).toNat < 8192) :
    (iprop(InFree d i I q 0 ∗ InFree d i I q 1 ∗ OutFree (F := F) d i 0 ∗ OutFree (F := F) d i 1 ∗ Done d i I Tb 0 ∗ Todo (F := F) d i 0
        ∗ Tab d i Tb qt ∗ Thr (F := F) (thr d i) ι O W) : sProp 𝕄)
      ⊢ wpB (cc1__k (F := F) i tabM (Memref.isWhole_whole _) idxM (Memref.isWhole_whole _) outM (Memref.isWhole_whole _) inB (Memref.isWhole_whole _) cc1_scoped1 outB (Memref.isWhole_whole _) cc1_scoped3 cc1_scoped4)
        fun _ => iprop(InFree d i I q 0 ∗ InFree d i I q 1 ∗ OutFree (F := F) d i 0 ∗ OutFree (F := F) d i 1 ∗ Done d i I Tb 16
          ∗ Tab d i Tb qt ∗ Thr (F := F) (thr d i) ι O W) := by
  rw [cc1__k_eq_skeleton]
  unfold cc1__k_skel
  iintro ⟨H0, H1, HO, HP, Hdone, Htodo, Ht, HT⟩
  simp only [wp_bind]
  iapply (part3 EC 𝒱 bd ι d i I q) $$ H0
  iintro H0
  iapply (part4 EC 𝒱 bd ι d i I Tb q qt O W hI) $$ [H0 H1 HO HP Hdone Htodo Ht HT]
  · unfold TripInv OutPrev
    rw [dif_neg (show ¬ (0 < 0 ∧ 0 - 1 < 16) from fun h => absurd h.1 (by decide))]
    isplitl [H0]; · iexact H0
    isplitl [H1]; · iexact H1
    isplitl [HO]; · iexact HO
    isplitl [HP]; · iexact HP
    isplitl [Hdone]; · iexact Hdone
    isplitl [Htodo]; · iexact Htodo
    isplitl [Ht]; · iexact Ht
    iexact HT
  unfold TripInv OutPrev InPart
  rw [dif_pos (show 0 < 16 ∧ 16 - 1 < 16 from ⟨by decide, by decide⟩), dif_neg (show ¬ 16 < 16 by decide),
    InFree_mod d i I q (show 16 % 2 = 0 % 2 by decide), InFree_mod d i I q (show (16 + 1) % 2 = 1 % 2 by decide), OutFree_mod (F := F) d i (show 16 % 2 = 0 % 2 by decide)]
  iintro ⟨H0, H1, HO, HP, Hdone, Htodo, Ht, HT⟩
  unfold OutBusy
  iapply (wp_wait_of EC 𝒱 (thr d i) bd ι (outWin_eq (n := 16 - 1) (by decide) (off19 i) _) (outSem_eq (off20 ⟨16 - 1, by decide⟩) _)) $$ [HP HT]
  · isplitl [HP]; · iexact HP
    iexact HT
  iintro ⟨Hw, Hs, Hm, HT⟩
  rw [wp_pure]
  imodintro
  isplitl [H0]; · iexact H0
  isplitl [H1]; · iexact H1
  isplitl [HO]; · iexact HO
  isplitl [Hs Hm]
  · rw [← OutFree_mod (F := F) d i (show (16 - 1) % 2 = 1 % 2 by decide)]
    unfold OutFree
    isplitl [Hs]; · iapply At.any $$ Hs
    iexact Hm
  isplitl [Hw Hdone]
  · iapply (Done_next d i I Tb (k := 16) (by decide) (by decide))
    isplitl [Hdone]; · iexact Hdone
    iexact Hw
  isplitl [Ht]; · iexact Ht
  iexact HT

end Cert.Proof.Steps1

end
-- ==== Proof.Tile1.lean ====
/-
  Gather 1 on one tile, from what the tile is handed to what it hands back: its shares of the list and of the table,
  its rows of the result, its own windows and semaphores.
-/
module

public import proofs.«01_k».proof.Proof.Common
public import proofs.«01_k».proof.Proof.Steps1

@[expose] public section

noncomputable section

namespace Cert.Proof.Tile1

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words1 Cert.Proof.Pipe Cert.Proof.Hold1 Cert.Proof.Steps1 Cert.Proof.Common

variable {F : FTy → Type}

local notation "𝕄" => MT nD τ sig (HIx 2) (Elt F) ℕ UU ℕ

variable (d : Dev nD) (i : grid1.Coords)

section Windows

/-- Slot `k` of the two. -/
def slotI (k : ℕ) : Rect S2x1x256 := Rect.unit (s := S2x1x256) ![k % 2, 0, 0] S1x1x256.size (slot_inb rfl)
def slotO (k : ℕ) : Rect S2x256x128 := Rect.unit (s := S2x256x128) ![k % 2, 0, 0] S1x256x128.size (slot_inb rfl)

theorem mem_slotI {k : ℕ} {x : S2x1x256.Idx} : x ∈ (slotI k).set ↔ (x 0).val = k % 2 := by
  unfold slotI
  rw [Rect.mem_set_unit]
  constructor
  · intro h
    have := h 0
    change k % 2 ≤ (x 0).val ∧ (x 0).val < k % 2 + 1 at this
    omega
  · intro h a
    fin_cases a
    · show k % 2 ≤ (x 0).val ∧ (x 0).val < k % 2 + 1; omega
    · show 0 ≤ (x 1).val ∧ (x 1).val < 0 + 1; have : (x 1).val < 1 := (x 1).isLt; omega
    · show 0 ≤ (x 2).val ∧ (x 2).val < 0 + 256; have : (x 2).val < 256 := (x 2).isLt; omega

theorem mem_slotO {k : ℕ} {x : S2x256x128.Idx} : x ∈ (slotO k).set ↔ (x 0).val = k % 2 := by
  unfold slotO
  rw [Rect.mem_set_unit]
  constructor
  · intro h
    have := h 0
    change k % 2 ≤ (x 0).val ∧ (x 0).val < k % 2 + 1 at this
    omega
  · intro h a
    fin_cases a
    · show k % 2 ≤ (x 0).val ∧ (x 0).val < k % 2 + 1; omega
    · show 0 ≤ (x 1).val ∧ (x 1).val < 0 + 256; have : (x 1).val < 256 := (x 1).isLt; omega
    · show 0 ≤ (x 2).val ∧ (x 2).val < 0 + 128; have : (x 2).val < 128 := (x 2).isLt; omega

theorem slotI_disjoint : Disjoint (slotI 0).set (slotI 1).set := Finset.disjoint_left.mpr fun x h₁ h₂ => by rw [mem_slotI] at h₁ h₂; omega
theorem slotO_disjoint : Disjoint (slotO 0).set (slotO 1).set := Finset.disjoint_left.mpr fun x h₁ h₂ => by rw [mem_slotO] at h₁ h₂; omega
theorem slotI_union : Finset.univ = (slotI 0).set ∪ (slotI 1).set := by
  ext x; rw [Finset.mem_union, mem_slotI, mem_slotI]; have : (x 0).val < 2 := (x 0).isLt; simp only [Finset.mem_univ, true_iff]; omega
theorem slotO_union : Finset.univ = (slotO 0).set ∪ (slotO 1).set := by
  ext x; rw [Finset.mem_union, mem_slotO, mem_slotO]; have : (x 0).val < 2 := (x 0).isLt; simp only [Finset.mem_univ, true_iff]; omega

/-- The list's windows are the two halves of their buffer. -/
theorem inB_split : (Any (F := F) (thr d i) inB Finset.univ : sProp 𝕄) ⊢ iprop(Any (F := F) (thr d i) (inSlot 0) Finset.univ ∗ Any (F := F) (thr d i) (inSlot 1) Finset.univ) := by
  rw [slotI_union]
  refine (Any.split slotI_disjoint).trans (Laws.sep_mono ?_ ?_)
  · exact (Any.toSlice (c := thr d i) (m := inB) (r := slotI 0) (hr := fun _ => rfl)).trans (Any.toSqueeze (h := squeezes_S1x1x256_S1x256))
  · exact (Any.toSlice (c := thr d i) (m := inB) (r := slotI 1) (hr := fun _ => rfl)).trans (Any.toSqueeze (h := squeezes_S1x1x256_S1x256))

theorem inB_join : iprop(Any (F := F) (thr d i) (inSlot 0) Finset.univ ∗ Any (F := F) (thr d i) (inSlot 1) Finset.univ) ⊢ (Any (F := F) (thr d i) inB Finset.univ : sProp 𝕄) := by
  rw [slotI_union]
  refine (Laws.sep_mono ?_ ?_).trans (Any.join slotI_disjoint)
  · exact (Any.ofSqueeze (h := squeezes_S1x1x256_S1x256)).trans (Any.ofSlice (c := thr d i) (m := inB) (r := slotI 0) (hr := fun _ => rfl))
  · exact (Any.ofSqueeze (h := squeezes_S1x1x256_S1x256)).trans (Any.ofSlice (c := thr d i) (m := inB) (r := slotI 1) (hr := fun _ => rfl))

theorem outB_split : (Any (F := F) (thr d i) outB Finset.univ : sProp 𝕄) ⊢ iprop(Any (F := F) (thr d i) (outSlot 0) Finset.univ ∗ Any (F := F) (thr d i) (outSlot 1) Finset.univ) := by
  rw [slotO_union]
  refine (Any.split slotO_disjoint).trans (Laws.sep_mono ?_ ?_)
  · exact (Any.toSlice (c := thr d i) (m := outB) (r := slotO 0) (hr := fun _ => rfl)).trans (Any.toSqueeze (h := squeezes_S1x256x128_S256x128))
  · exact (Any.toSlice (c := thr d i) (m := outB) (r := slotO 1) (hr := fun _ => rfl)).trans (Any.toSqueeze (h := squeezes_S1x256x128_S256x128))

theorem outB_join : iprop(Any (F := F) (thr d i) (outSlot 0) Finset.univ ∗ Any (F := F) (thr d i) (outSlot 1) Finset.univ) ⊢ (Any (F := F) (thr d i) outB Finset.univ : sProp 𝕄) := by
  rw [slotO_union]
  refine (Laws.sep_mono ?_ ?_).trans (Any.join slotO_disjoint)
  · exact (Any.ofSqueeze (h := squeezes_S1x256x128_S256x128)).trans (Any.ofSlice (c := thr d i) (m := outB) (r := slotO 0) (hr := fun _ => rfl))
  · exact (Any.ofSqueeze (h := squeezes_S1x256x128_S256x128)).trans (Any.ofSlice (c := thr d i) (m := outB) (r := slotO 1) (hr := fun _ => rfl))

end Windows

section Own

/-- The tile's five cells. -/
abbrev cellA : GSem nD τ sig := (thr d i, .dma (inSem 0))
abbrev cellB : GSem nD τ sig := (thr d i, .dma (inSem 1))
abbrev cellC : GSem nD τ sig := (thr d i, .dma (outSem 0))
abbrev cellD : GSem nD τ sig := (thr d i, .dma (outSem 1))
abbrev cellE : GSem nD τ sig := (thr d i, .dma cc1_scoped4.sem)

theorem cell_ne {a b : DmaSem sig} (h : a ≠ b) : ((thr d i, .dma a) : GSem nD τ sig) ≠ (thr d i, .dma b) :=
  fun e => h (SemLoc.dma.inj (Prod.mk.inj e).2)

theorem cell_own {a : DmaSem sig} (h : (SemLoc.dma a : SemLoc sig).isScoped .scVector = true) : ((thr d i, .dma a) : GSem nD τ sig) ∈ ownCells (thr d i) :=
  mem_ownCells.mpr ⟨rfl, h⟩

/-- The other cells, and the other buffers. -/
def restCells : Finset (GSem nD τ sig) := (((((ownCells (thr d i)).erase (cellA d i)).erase (cellB d i)).erase (cellC d i)).erase (cellD d i)).erase (cellE d i)
def restRefs : Finset (DevRef τ sig) :=
  ((ownRefs (τ := τ) (sig := sig) (thr d i).2).erase ((thr d i).2.devRef cc1_scoped0)).erase ((thr d i).2.devRef cc1_scoped2)

theorem ownSems_split :
    (ownSems0 (thr d i) : sProp 𝕄) = iprop(semVal (cellA d i) 0 ∗ semVal (cellB d i) 0 ∗ semVal (cellC d i) 0 ∗ semVal (cellD d i) 0 ∗ semVal (cellE d i) 0
      ∗ bigSep (restCells d i) fun g => semVal g 0) := by
  unfold SparseCore.Cfg.ownSems0 restCells
  rw [SparseCore.bigSep_erase' (cell_own d i (a := inSem 0) (by decide +kernel)),
    SparseCore.bigSep_erase' (Finset.mem_erase.mpr ⟨cell_ne d i (a := inSem 1) (by decide +kernel), cell_own d i (by decide +kernel)⟩),
    SparseCore.bigSep_erase' (Finset.mem_erase.mpr ⟨cell_ne d i (a := outSem 0) (by decide +kernel), Finset.mem_erase.mpr ⟨cell_ne d i (by decide +kernel), cell_own d i (by decide +kernel)⟩⟩),
    SparseCore.bigSep_erase' (Finset.mem_erase.mpr ⟨cell_ne d i (a := outSem 1) (by decide +kernel), Finset.mem_erase.mpr ⟨cell_ne d i (by decide +kernel),
      Finset.mem_erase.mpr ⟨cell_ne d i (by decide +kernel), cell_own d i (by decide +kernel)⟩⟩⟩),
    SparseCore.bigSep_erase' (Finset.mem_erase.mpr ⟨cell_ne d i (a := cc1_scoped4.sem) (by decide +kernel), Finset.mem_erase.mpr ⟨cell_ne d i (by decide +kernel),
      Finset.mem_erase.mpr ⟨cell_ne d i (by decide +kernel), Finset.mem_erase.mpr ⟨cell_ne d i (by decide +kernel), cell_own d i (by decide +kernel)⟩⟩⟩⟩)]

theorem ownBufs_split :
    (ownBufs (thr d i) : sProp 𝕄) = iprop((∃ f, (thr d i).loc cc1_scoped0 ↦{fullShare} f) ∗ (∃ f, (thr d i).loc cc1_scoped2 ↦{fullShare} f)
      ∗ bigSep (restRefs d i) fun b => iprop(∃ f, ((d, b) : Loc nD τ sig) ↦{fullShare} f)) := by
  unfold SparseCore.Cfg.ownBufs restRefs
  refine (SparseCore.bigSep_erase' (SparseCore.Cfg.mem_ownRefs_of_owner (p := (thr d i).2) (b := (thr d i).2.devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := (thr d i).2) (b := (thr d i).2.devRef cc1_scoped2) rfl⟩)]

end Own

variable (I : S1x131072.Idx → BitVec 32) (Tb : S8192x128.Idx → F .f32) (q qt : PosShare TreeShare)

/-- What the tile is handed of the arrays, and what it hands back. -/
def Given : sProp 𝕄 := iprop(((thr d i).loc main_v4_scv ↦{q} (I : Buf (Elt F) ((thr d i).loc main_v4_scv))) ∗ ((thr d i).loc main_v3_scv ↦{qt} (Tb : Buf (Elt F) ((thr d i).loc main_v3_scv)))
  ∗ ∃ f, (thr d i).loc main_v5_scv ↦[rowsIn (base i) (base i + 4096)]{fullShare} f)
def Back : sProp 𝕄 := iprop(((thr d i).loc main_v4_scv ↦{q} (I : Buf (Elt F) ((thr d i).loc main_v4_scv))) ∗ ((thr d i).loc main_v3_scv ↦{qt} (Tb : Buf (Elt F) ((thr d i).loc main_v3_scv)))
  ∗ ((thr d i).loc main_v5_scv ↦[rowsIn (base i) (base i + 4096)]{fullShare} (gathered I Tb : Buf (Elt F) ((thr d i).loc main_v5_scv))))

/-- Before the first trip no row is written. -/
theorem nothing_done (f : Buf (Elt F) ((thr d i).loc main_v5_scv)) :
    ((thr d i).loc main_v5_scv ↦[∅]{fullShare} f : sProp 𝕄) ⊢ Done d i I Tb 0 := by
  unfold Done
  refine (At.ofWhole (c := thr d i) main_v5_scv ∅ fullShare f).trans ?_
  rw [show rowsIn (base i) (base i + 256 * 0) = ∅ from rowsIn_self]
  exact At.congr fun x hx => absurd hx (Finset.notMem_empty x)

theorem todo_zero : (Todo (F := F) d i 0 : sProp 𝕄) = Any (F := F) (thr d i) outM (rowsIn (base i) (base i + 4096)) := by
  unfold Todo; rw [Nat.mul_zero, Nat.add_zero]

theorem done_all : (Done d i I Tb 16 : sProp 𝕄) = At (F := F) (e := .f32) (thr d i) outM (rowsIn (base i) (base i + 4096)) fullShare (gathered I Tb) := rfl

variable [FloatOps F]

/-- The gather on one tile. -/
theorem tile_body (hI : ∀ x, (I x).toNat < 8192) (O : CellTallies nD τ sig (HIx 2)) (W : Waits sig (HIx 2)) (hO : ∀ g, O g none = 0) :
    iprop(levAts (K (F := F)).L (K (F := F)).lev ∗ emp ∗ Given d i I Tb q qt ∗ scopedBufs (thr d i) ∗ scopedSems0 (thr d i) ∗ owes (thr d i) O W)
      ⊢ wp frame (wpE (defs₀ (F := F)) 𝒱₀ (thr d i) none) Set.univ
          (cc1__k (F := F) i tabM (Memref.isWhole_whole _) idxM (Memref.isWhole_whole _) outM (Memref.isWhole_whole _) inB (Memref.isWhole_whole _) cc1_scoped1 outB (Memref.isWhole_whole _) cc1_scoped3 cc1_scoped4)
          fun _ => iprop(Back d i I Tb q qt ∗ scopedBufs (thr d i) ∗ scopedSems0 (thr d i)
            ∗ ∃ W', ⌜∀ p ∈ W', p ∈ W ∨ p.2 = none⌝ ∗ owes (thr d i) O W') := by
  rw [(K (F := F)).scopedBufs_V facts d _ _, SparseCore.Cfg.scopedSems0_V (Val := Elt F) d _ _, ownSems_split, ownBufs_split]
  unfold Given Back
  iintro ⟨#Hlv, -, ⟨Hx, Ht, %fo, Ho⟩, ⟨⟨%fs, Hs⟩, ⟨%fr, Hr⟩, Hbufs⟩, ⟨HA, HB, HC, HD, HE, Hsems⟩, HO⟩
  ihave HT := (Thr.intro (F := F) (thr d i) (default : HIx 2) (O := O) (W := W) ((K (F := F)).mayWaits_none (thr := thr d i) hO)) $$ [HO]
  · isplitr
    · imodintro; iexact Hlv
    iexact HO
  ihave Hx := (At.ofWhole (c := thr d i) main_v4_scv Finset.univ q I) $$ Hx
  ihave Hx := At.halve $$ Hx
  icases Hx with ⟨Hx0, Hx1⟩
  ihave Ht := (At.ofWhole (c := thr d i) main_v3_scv Finset.univ qt Tb) $$ Ht
  ihave Hs := (Any.ofWhole (c := thr d i) cc1_scoped0 Finset.univ fs) $$ Hs
  ihave Hs := (inB_split d i) $$ Hs
  icases Hs with ⟨Hs0, Hs1⟩
  ihave Hr := (Any.ofWhole (c := thr d i) cc1_scoped2 Finset.univ fr) $$ Hr
  ihave Hr := (outB_split d i) $$ Hr
  icases Hr with ⟨Hr0, Hr1⟩
  ihave Ho := (pointsTo_split_subset (q := fullShare) (f := fo) (S := rowsIn (base i) (base i + 4096)) (Finset.empty_subset _)).1 $$ Ho
  icases Ho with ⟨Hd, Ho⟩
  rw [Finset.sdiff_empty]
  ihave Hd := (nothing_done d i I Tb fo) $$ Hd
  ihave Ho := (Any.ofWhole (c := thr d i) main_v5_scv (rowsIn (base i) (base i + 4096)) fo) $$ Ho
  ihave Hwp := (whole countersEmb 𝒱₀ none (default : HIx 2) d i I Tb q qt O W hI) $$ [Hx0 Hx1 Ht Hs0 Hs1 Hr0 Hr1 HA HB HC HD HE HT Hd Ho]
  · unfold InFree OutFree Tab
    isplitl [Hs0 HA Hx0]
    · isplitl [Hs0]; · iexact Hs0
      isplitl [HA]; · iexact HA
      iexact Hx0
    isplitl [Hs1 HB Hx1]
    · isplitl [Hs1]; · iexact Hs1
      isplitl [HB]; · iexact HB
      iexact Hx1
    isplitl [Hr0 HC]
    · isplitl [Hr0]; · iexact Hr0
      iexact HC
    isplitl [Hr1 HD]
    · isplitl [Hr1]; · iexact Hr1
      iexact HD
    isplitl [Hd]; · iexact Hd
    isplitl [Ho]; · iapply (Entails.of_eq (todo_zero (F := F) d i).symm); iexact Ho
    isplitl [Ht HE]
    · isplitl [Ht]; · iexact Ht
      iexact HE
    iexact HT
  iapply (wp_wand_r _ _) $$ [Hwp Hbufs Hsems]
  isplitl [Hwp]; · iexact Hwp
  iintro %_ H
  unfold InFree OutFree Tab Thr
  icases H with ⟨⟨Hs0, HA, Hx0⟩, ⟨Hs1, HB, Hx1⟩, ⟨Hr0, HC⟩, ⟨Hr1, HD⟩, Hd, ⟨Ht, HE⟩, -, HT⟩
  isplitl [Hx0 Hx1 Ht Hd]
  · isplitl [Hx0 Hx1]
    · iapply (At.toWhole (c := thr d i) main_v4_scv Finset.univ q I)
      iapply (At.unhalve (c := thr d i) main_v4_scv Finset.univ q I)
      isplitl [Hx0]; · iexact Hx0
      iexact Hx1
    isplitl [Ht]
    · iapply (At.toWhole (c := thr d i) main_v3_scv Finset.univ qt Tb); iexact Ht
    iapply (At.toWhole (c := thr d i) main_v5_scv (rowsIn (base i) (base i + 4096)) fullShare (gathered I Tb)); iapply (Entails.of_eq (done_all d i I Tb)); iexact Hd
  isplitl [Hs0 Hs1 Hr0 Hr1 Hbufs]
  · isplitl [Hs0 Hs1]
    · iapply (Any.toWhole (c := thr d i) cc1_scoped0 Finset.univ)
      iapply (inB_join d i)
      isplitl [Hs0]; · iexact Hs0
      iexact Hs1
    isplitl [Hr0 Hr1]
    · iapply (Any.toWhole (c := thr d i) cc1_scoped2 Finset.univ)
      iapply (outB_join d i)
      isplitl [Hr0]; · iexact Hr0
      iexact Hr1
    iexact Hbufs
  isplitl [HA HB HC HD HE Hsems]
  · isplitl [HA]; · iexact HA
    isplitl [HB]; · iexact HB
    isplitl [HC]; · iexact HC
    isplitl [HD]; · iexact HD
    isplitl [HE]; · iexact HE
    iexact Hsems
  iexact HT

end Cert.Proof.Tile1

end
-- ==== Proof.Deal1.lean ====
/-
  How gather 1's arrays are dealt: the list and the table by shares to the two cores and on to their tiles, the result by
  its rows; and how they come back, every row at what it gathered.
-/
module

public import proofs.«01_k».proof.Proof.Tile1

@[expose] public section

noncomputable section

namespace Cert.Proof.Deal1

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Words1 Cert.Proof.Hold1 Cert.Proof.Tile1 Cert.Proof.Common

variable {F : FTy → Type}

local notation "𝕄" => MT nD τ sig (HIx 2) (Elt F) ℕ UU ℕ

/-- Tile `s` of core `c`. -/
def tileAt (c : Fin (grid1.bound 0)) (s : Fin (grid1.bound 1)) : grid1.Coords :=
  fun | 0 => c | 1 => s | ⟨_ + 2, h⟩ => absurd h (Nat.not_lt.2 (Nat.le_add_left _ _))

theorem base_tileAt (c : Fin (grid1.bound 0)) (s : Fin (grid1.bound 1)) : base (tileAt c s) = 4096 * s.val + 65536 * c.val := rfl

/-- The share of a core, and of a tile, of what all of them read. -/
def coreShare (c : Fin (grid1.bound 0)) : PosShare TreeShare := pieceOf fullShare (grid1.bound 0) (by decide) c
def tileShare (c : Fin (grid1.bound 0)) (s : Fin (grid1.bound 1)) : PosShare TreeShare := pieceOf (coreShare c) (grid1.bound 1) (by decide) s

/-- A core's rows, and a tile's. -/
def coreRows (c : Fin (grid1.bound 0)) : Finset S131072x128.Idx := rowsIn (65536 * c.val) (65536 * (c.val + 1))
def tileRows (c : Fin (grid1.bound 0)) (s : Fin (grid1.bound 1)) : Finset S131072x128.Idx := rowsIn (base (tileAt c s)) (base (tileAt c s) + 4096)

theorem coreRows_disjoint : ∀ c ∈ (Finset.univ : Finset (Fin (grid1.bound 0))), ∀ c' ∈ (Finset.univ : Finset (Fin (grid1.bound 0))), c ≠ c' → Disjoint (coreRows c) (coreRows c') :=
  fun c _ c' _ h => Finset.disjoint_left.mpr fun x h₁ h₂ => h (Fin.ext (by
    unfold coreRows at h₁ h₂; rw [mem_rowsIn] at h₁ h₂; omega))

theorem tileRows_disjoint (c : Fin (grid1.bound 0)) :
    ∀ s ∈ (Finset.univ : Finset (Fin (grid1.bound 1))), ∀ s' ∈ (Finset.univ : Finset (Fin (grid1.bound 1))), s ≠ s' → Disjoint (tileRows c s) (tileRows c s') :=
  fun s _ s' _ h => Finset.disjoint_left.mpr fun x h₁ h₂ => h (Fin.ext (by
    unfold tileRows at h₁ h₂; rw [mem_rowsIn, base_tileAt] at h₁ h₂; omega))

theorem coreRows_cover : (Finset.univ : Finset (Fin (grid1.bound 0))).biUnion coreRows = Finset.univ := by
  ext x
  have hx : (x 0).val < 131072 := (x 0).isLt
  simp only [Finset.mem_biUnion, Finset.mem_univ, true_and, iff_true]
  refine ⟨⟨(x 0).val / 65536, show (x 0).val / 65536 < 2 by omega⟩, ?_⟩
  unfold coreRows; rw [mem_rowsIn]; dsimp only; omega

theorem tileRows_cover (c : Fin (grid1.bound 0)) : (Finset.univ : Finset (Fin (grid1.bound 1))).biUnion (tileRows c) = coreRows c := by
  ext x
  simp only [Finset.mem_biUnion, Finset.mem_univ, true_and]
  unfold coreRows tileRows
  rw [mem_rowsIn]
  constructor
  · rintro ⟨s, h⟩
    rw [mem_rowsIn, base_tileAt] at h
    have hs : s.val < 16 := s.isLt
    omega
  · intro h
    refine ⟨⟨((x 0).val - 65536 * c.val) / 4096, show ((x 0).val - 65536 * c.val) / 4096 < 16 by omega⟩, ?_⟩
    rw [mem_rowsIn, base_tileAt]; dsimp only; omega

variable (d : Dev nD) (I : S1x131072.Idx → BitVec 32) (Tb : S8192x128.Idx → F .f32)

/-- The call's arrays before and after it. -/
def Before : sProp 𝕄 := iprop((tcLoc d main_v4 ↦{fullShare} (I : Buf (Elt F) (tcLoc d main_v4))) ∗ (tcLoc d main_v3 ↦{fullShare} (Tb : Buf (Elt F) (tcLoc d main_v3)))
  ∗ ∃ f, tcLoc d main_v5 ↦{fullShare} f)
def After : sProp 𝕄 := iprop((tcLoc d main_v4 ↦{fullShare} (I : Buf (Elt F) (tcLoc d main_v4))) ∗ (tcLoc d main_v3 ↦{fullShare} (Tb : Buf (Elt F) (tcLoc d main_v3)))
  ∗ (tcLoc d main_v5 ↦{fullShare} (gathered I Tb : Buf (Elt F) (tcLoc d main_v5))))

/-- A core's part before and after the call. -/
def CoreIn (c : Fin (grid1.bound 0)) : sProp 𝕄 := iprop((tcLoc d main_v4 ↦{coreShare c} (I : Buf (Elt F) (tcLoc d main_v4))) ∗ (tcLoc d main_v3 ↦{coreShare c} (Tb : Buf (Elt F) (tcLoc d main_v3)))
  ∗ ∃ f, tcLoc d main_v5 ↦[coreRows c]{fullShare} f)
def CoreOut (c : Fin (grid1.bound 0)) : sProp 𝕄 := iprop((tcLoc d main_v4 ↦{coreShare c} (I : Buf (Elt F) (tcLoc d main_v4))) ∗ (tcLoc d main_v3 ↦{coreShare c} (Tb : Buf (Elt F) (tcLoc d main_v3)))
  ∗ (tcLoc d main_v5 ↦[coreRows c]{fullShare} (gathered I Tb : Buf (Elt F) (tcLoc d main_v5))))

/-- A tile's part before and after the call. -/
def TileIn (c : Fin (grid1.bound 0)) (s : Fin (grid1.bound 1)) : sProp 𝕄 := Given d (tileAt c s) I Tb (tileShare c s) (tileShare c s)
def TileOut (c : Fin (grid1.bound 0)) (s : Fin (grid1.bound 1)) : sProp 𝕄 := Back d (tileAt c s) I Tb (tileShare c s) (tileShare c s)

instance CoreIn_storable (c : Fin (grid1.bound 0)) : BI.Storable (upEmb : UEmb _ 𝕄) (CoreIn d I Tb c) := by unfold CoreIn; infer_instance
instance CoreOut_storable (c : Fin (grid1.bound 0)) : BI.Storable (upEmb : UEmb _ 𝕄) (CoreOut d I Tb c) := by unfold CoreOut; infer_instance
instance TileIn_storable (c : Fin (grid1.bound 0)) (s : Fin (grid1.bound 1)) : BI.Storable (upEmb : UEmb _ 𝕄) (TileIn d I Tb c s) := by unfold TileIn Given; infer_instance
instance TileOut_storable (c : Fin (grid1.bound 0)) (s : Fin (grid1.bound 1)) : BI.Storable (upEmb : UEmb _ 𝕄) (TileOut d I Tb c s) := by unfold TileOut Back; infer_instance

/-- The same, the arrays named as the device's. -/
theorem TileIn_eq (c : Fin (grid1.bound 0)) (s : Fin (grid1.bound 1)) :
    (TileIn d I Tb c s : sProp 𝕄) = iprop((tcLoc d main_v4 ↦{tileShare c s} (I : Buf (Elt F) (tcLoc d main_v4))) ∗ (tcLoc d main_v3 ↦{tileShare c s} (Tb : Buf (Elt F) (tcLoc d main_v3)))
      ∗ ∃ f, tcLoc d main_v5 ↦[tileRows c s]{fullShare} f) := rfl
theorem TileOut_eq (c : Fin (grid1.bound 0)) (s : Fin (grid1.bound 1)) :
    (TileOut d I Tb c s : sProp 𝕄) = iprop((tcLoc d main_v4 ↦{tileShare c s} (I : Buf (Elt F) (tcLoc d main_v4))) ∗ (tcLoc d main_v3 ↦{tileShare c s} (Tb : Buf (Elt F) (tcLoc d main_v3)))
      ∗ (tcLoc d main_v5 ↦[tileRows c s]{fullShare} (gathered I Tb : Buf (Elt F) (tcLoc d main_v5)))) := rfl

section Shares

variable {ℓ : Loc nD τ sig} (f : Buf (Elt F) ℓ)

theorem shares_core : (ℓ ↦{fullShare} f : sProp 𝕄) = bigSep Finset.univ fun c : Fin (grid1.bound 0) => ℓ ↦{coreShare c} f :=
  pointsTo_piecesOf Finset.univ f _ fullShare
theorem shares_tile (c : Fin (grid1.bound 0)) : (ℓ ↦{coreShare c} f : sProp 𝕄) = bigSep Finset.univ fun s : Fin (grid1.bound 1) => ℓ ↦{tileShare c s} f :=
  pointsTo_piecesOf Finset.univ f _ (coreShare c)

end Shares

section Rows

variable (f : Buf (Elt F) (tcLoc d main_v5))

theorem rows_core : (tcLoc d main_v5 ↦{fullShare} f : sProp 𝕄) = bigSep Finset.univ fun c : Fin (grid1.bound 0) => tcLoc d main_v5 ↦[coreRows c]{fullShare} f := by
  rw [← pointsTo_biUnion Finset.univ (ℓ := tcLoc d main_v5) coreRows coreRows_disjoint, coreRows_cover]
theorem rows_tile (c : Fin (grid1.bound 0)) :
    (tcLoc d main_v5 ↦[coreRows c]{fullShare} f : sProp 𝕄) = bigSep Finset.univ fun s : Fin (grid1.bound 1) => tcLoc d main_v5 ↦[tileRows c s]{fullShare} f := by
  rw [← pointsTo_biUnion Finset.univ (ℓ := tcLoc d main_v5) (tileRows c) (tileRows_disjoint c), tileRows_cover]

/-- Known contents are some contents. -/
theorem rows_any {n : ℕ} (M : Fin n → Finset S131072x128.Idx) :
    (bigSep Finset.univ fun c : Fin n => tcLoc d main_v5 ↦[M c]{fullShare} f : sProp 𝕄) ⊢ bigSep Finset.univ fun c : Fin n => iprop(∃ g : Buf (Elt F) (tcLoc d main_v5), tcLoc d main_v5 ↦[M c]{fullShare} g) := by
  have h (c : Fin n) : (tcLoc d main_v5 ↦[M c]{fullShare} f : sProp 𝕄) ⊢ iprop(∃ g : Buf (Elt F) (tcLoc d main_v5), tcLoc d main_v5 ↦[M c]{fullShare} g) := by
    iintro H; iexists f; iexact H
  exact bigSep_mono fun c _ => h c

end Rows

theorem cores_in : (Before d I Tb : sProp 𝕄) ⊢ bigSep Finset.univ fun c => CoreIn d I Tb c := by
  unfold Before CoreIn
  rw [bigSep_sep', bigSep_sep', shares_core, shares_core]
  iintro ⟨Hi, Ht, %f, Ho⟩
  isplitl [Hi]; · iexact Hi
  isplitl [Ht]; · iexact Ht
  ihave Ho := (Entails.of_eq (rows_core d f)) $$ Ho
  iapply (rows_any d f coreRows); iexact Ho

theorem cores_out : (bigSep Finset.univ fun c => CoreOut d I Tb c) ⊢ (After d I Tb : sProp 𝕄) := by
  unfold After CoreOut
  rw [bigSep_sep', bigSep_sep', shares_core, shares_core, rows_core]

theorem tiles_in (c : Fin (grid1.bound 0)) : (CoreIn d I Tb c : sProp 𝕄) ⊢ bigSep Finset.univ fun s => TileIn d I Tb c s := by
  unfold CoreIn
  simp only [TileIn_eq]
  rw [bigSep_sep', bigSep_sep', shares_tile, shares_tile]
  iintro ⟨Hi, Ht, %f, Ho⟩
  isplitl [Hi]; · iexact Hi
  isplitl [Ht]; · iexact Ht
  ihave Ho := (Entails.of_eq (rows_tile d f c)) $$ Ho
  iapply (rows_any d f (tileRows c)); iexact Ho

theorem tiles_out (c : Fin (grid1.bound 0)) : (bigSep Finset.univ fun s => TileOut d I Tb c s) ⊢ (CoreOut d I Tb c : sProp 𝕄) := by
  unfold CoreOut
  simp only [TileOut_eq]
  rw [bigSep_sep', bigSep_sep', shares_tile, shares_tile, rows_tile]

end Cert.Proof.Deal1

end
-- ==== Proof.Host.lean ====
/-
  What @main's own operations leave: the tables padded, the lists as one row, and each call's result put in place.
-/
module

public import proofs.«01_k».proof.Proof.Deal0
public import proofs.«01_k».proof.Proof.Deal1

@[expose] public section

noncomputable section

namespace Cert.Proof.Host

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_congr held_sub_split)
open Cert.KernelIdeal Cert.KernelIdeal.Gen Cert.Proof.Common

variable {F : FTy → Type} [FloatOps F]

local notation "𝕄" => MT nD τ sig (HIx 2) (Elt F) ℕ UU ℕ

/-- A buffer of the TensorCore's, as the device names it. -/
abbrev dv (b : Ref sig .tc) : DevRef τ sig := Proc.devRef .tc b

abbrev opC0 : HloOp τ sig (Elt F) := StableHlo.nullary main_c (constantI S_ 32 0#32)
abbrev opS0 : HloOp τ sig (Elt F) := StableHlo.TRef.unary (.of main_c : StableHlo.TRef sig ⟨S_, .i32⟩) main_call0.v0 (sitofp .f32)
abbrev opP0 : HloOp τ sig (Elt F) := StableHlo.TRef.binary (.of main_arg0 : StableHlo.TRef sig ⟨S8192x3, .f32⟩) main_call0.v0 main_call0.v1
  (fun x v => pad S8192x128 ![0, 0] ![0, 125] ![0, 0] x v pads_S8192x3_S8192x128_000_01250 h_S_)
abbrev opR0 : HloOp τ sig (Elt F) := StableHlo.reshape main_arg2 main_v1 (rfl : (.i32 : EltTy) = .i32) shapeCasts_S8192x16_S1x131072
abbrev opC1 : HloOp τ sig (Elt F) := StableHlo.nullary main_c_0 (constantI S_ 32 0#32)
abbrev opS1 : HloOp τ sig (Elt F) := StableHlo.TRef.unary (.of main_c_0 : StableHlo.TRef sig ⟨S_, .i32⟩) main_call1.v0 (sitofp .f32)
abbrev opP1 : HloOp τ sig (Elt F) := StableHlo.TRef.binary (.of main_arg1 : StableHlo.TRef sig ⟨S8192x64, .f32⟩) main_call1.v0 main_call1.v1
  (fun x v => pad S8192x128 ![0, 0] ![0, 64] ![0, 0] x v pads_S8192x64_S8192x128_000_0640 h_S_)
abbrev opR1 : HloOp τ sig (Elt F) := StableHlo.reshape main_arg3 main_v4 (rfl : (.i32 : EltTy) = .i32) shapeCasts_S8192x16_S1x131072

variable (m : (ℓ : Loc nD τ sig) → Buf (Elt F) ℓ)

/-- The list each call reads, the table it reads, and the rows it leaves. -/
def list0 (d : Dev nD) : S1x131072.Idx → BitVec 32 := shapeCast S1x131072 (m (tcLoc d main_arg2) : S8192x16.Idx → BitVec 32) shapeCasts_S8192x16_S1x131072
def list1 (d : Dev nD) : S1x131072.Idx → BitVec 32 := shapeCast S1x131072 (m (tcLoc d main_arg3) : S8192x16.Idx → BitVec 32) shapeCasts_S8192x16_S1x131072
def table0 (d : Dev nD) : S8192x128.Idx → F .f32 :=
  pad S8192x128 ![0, 0] ![0, 125] ![0, 0] (m (tcLoc d main_arg0) : S8192x3.Idx → F .f32) (sitofp (F := F) .f32 (constantI S_ 32 0#32)) pads_S8192x3_S8192x128_000_01250 h_S_
def table1 (d : Dev nD) : S8192x128.Idx → F .f32 :=
  pad S8192x128 ![0, 0] ![0, 64] ![0, 0] (m (tcLoc d main_arg1) : S8192x64.Idx → F .f32) (sitofp (F := F) .f32 (constantI S_ 32 0#32)) pads_S8192x64_S8192x128_000_0640 h_S_
def rows0 (d : Dev nD) : S131072x128.Idx → F .f32 := Hold0.gathered (list0 m d) (table0 m d)
def rows1 (d : Dev nD) : S131072x128.Idx → F .f32 := Hold1.gathered (list1 m d) (table1 m d)

/-- The arrays @main holds. -/
abbrev arrays : Finset (DevRef τ sig) :=
  {dv main_arg0, dv main_arg1, dv main_arg2, dv main_arg3, dv main_c, dv main_call0_v0, dv main_v0, dv main_v1, dv main_v2,
    dv main_c_0, dv main_call1_v0, dv main_v3, dv main_v4, dv main_v5}

/-- Their contents: at the launch, before the first call, after it, before the second, after it. -/
def V0 (d : Dev nD) : Valuation τ sig (Elt F) := fun b => m (d, b)
def V1 (d : Dev nD) : Valuation τ sig (Elt F) := (opR0 (F := F)).result ((opP0 (F := F)).result ((opS0 (F := F)).result ((opC0 (F := F)).result (V0 m d))))
def V2 (d : Dev nD) : Valuation τ sig (Elt F) := Function.update (V1 m d) (dv main_v2) (rows0 m d)
def V3 (d : Dev nD) : Valuation τ sig (Elt F) := (opR1 (F := F)).result ((opP1 (F := F)).result ((opS1 (F := F)).result ((opC1 (F := F)).result (V2 m d))))
def V4 (d : Dev nD) : Valuation τ sig (Elt F) := Function.update (V3 m d) (dv main_v5) (rows1 m d)

/-- The first four operations write four arrays, and the last four four more. -/
theorem V1_keep (d : Dev nD) {r : Ref sig .tc} (h : r ≠ main_c ∧ r ≠ main_call0_v0 ∧ r ≠ main_v0 ∧ r ≠ main_v1) : V1 m d (dv r) = m (tcLoc d r) := by
  unfold V1
  rw [StableHlo.reshape_result_ne _ _ _ _ _ _ _ h.2.2.2, StableHlo.binary_result_ne _ _ _ _ _ _ _ _ h.2.2.1,
    StableHlo.unary_result_ne _ _ _ _ _ _ h.2.1, StableHlo.nullary_result_ne _ _ _ _ h.1]
  rfl

theorem V3_keep (d : Dev nD) {r : Ref sig .tc} (h : r ≠ main_c_0 ∧ r ≠ main_call1_v0 ∧ r ≠ main_v3 ∧ r ≠ main_v4) : V3 m d (dv r) = V2 m d (dv r) := by
  unfold V3
  rw [StableHlo.reshape_result_ne _ _ _ _ _ _ _ h.2.2.2, StableHlo.binary_result_ne _ _ _ _ _ _ _ _ h.2.2.1,
    StableHlo.unary_result_ne _ _ _ _ _ _ h.2.1, StableHlo.nullary_result_ne _ _ _ _ h.1]

theorem V2_ne (d : Dev nD) {r : Ref sig .tc} (h : r ≠ main_v2) : V2 m d (dv r) = V1 m d (dv r) :=
  Function.update_of_ne (StableHlo.devRef_ne_of_ne h) _ _
theorem V4_ne (d : Dev nD) {r : Ref sig .tc} (h : r ≠ main_v5) : V4 m d (dv r) = V3 m d (dv r) :=
  Function.update_of_ne (StableHlo.devRef_ne_of_ne h) _ _
theorem V2_v2 (d : Dev nD) : V2 m d (dv main_v2) = rows0 m d := Function.update_self _ _ _
theorem V4_v5 (d : Dev nD) : V4 m d (dv main_v5) = rows1 m d := Function.update_self _ _ _

theorem V1_list (d : Dev nD) : V1 m d (dv main_v1) = list0 m d := by
  unfold V1
  rw [StableHlo.reshape_result, StableHlo.binary_result_ne _ _ _ _ _ _ _ _ (by decide),
    StableHlo.unary_result_ne _ _ _ _ _ _ (by decide), StableHlo.nullary_result_ne _ _ _ _ (by decide)]
  rfl

theorem V1_table (d : Dev nD) : V1 m d (dv main_v0) = table0 m d := by
  unfold V1
  rw [StableHlo.reshape_result_ne _ _ _ _ _ _ _ (by decide), StableHlo.binary_result,
    StableHlo.unary_result_ne _ _ _ _ _ _ (by decide), StableHlo.nullary_result_ne _ _ _ _ (by decide), StableHlo.unary_result, StableHlo.nullary_result]
  rfl

theorem V3_list (d : Dev nD) : V3 m d (dv main_v4) = list1 m d := by
  unfold V3
  rw [StableHlo.reshape_result, StableHlo.binary_result_ne _ _ _ _ _ _ _ _ (by decide),
    StableHlo.unary_result_ne _ _ _ _ _ _ (by decide), StableHlo.nullary_result_ne _ _ _ _ (by decide), V2_ne m d (by decide), V1_keep m d (by decide)]
  rfl

theorem V3_table (d : Dev nD) : V3 m d (dv main_v3) = table1 m d := by
  unfold V3
  rw [StableHlo.reshape_result_ne _ _ _ _ _ _ _ (by decide), StableHlo.binary_result,
    StableHlo.unary_result_ne _ _ _ _ _ _ (by decide), StableHlo.nullary_result_ne _ _ _ _ (by decide), StableHlo.unary_result, StableHlo.nullary_result,
    V2_ne m d (by decide), V1_keep m d (by decide)]
  rfl

omit [FloatOps F] in
/-- The launch hands @main those arrays. -/
theorem unscoped_held (d : Dev nD) : (unscopedBufs d (fun b => m ((SparseCore.T d).loc b)) : sProp 𝕄) = held (T d) arrays (V0 m d) := by
  unfold unscopedBufs held arrays
  rw [show (Finset.univ.filter fun b : Ref sig .tc => ¬ b.isScoped)
      = {main_arg0, main_arg1, main_arg2, main_arg3, main_c, main_call0_v0, main_v0, main_v1, main_v2, main_c_0, main_call1_v0, main_v3, main_v4, main_v5} by decide +kernel]
  iterate 13 rw [SparseCore.bigSep_insert' (by decide +kernel)]
  rw [bigSep_singleton]
  iterate 13 rw [SparseCore.bigSep_insert' (by decide +kernel)]
  rw [bigSep_singleton]
  rfl

end Cert.Proof.Host

end
-- ==== Proof.Launch.lean ====
/-
  The launch: what the two calls' handshakes carry, each tile's obligation from the gather it runs, @main's run on the
  TensorCore, and with them the whole program's run.
-/
module

public import proofs.«01_k».proof.Proof.Host

@[expose] public section

noncomputable section

namespace Cert.Proof.Launch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_congr held_sub_split wp_hlo_within)
open Cert.KernelIdeal Cert.KernelIdeal.Gen Cert.Proof.Common Cert.Proof.Host

variable {F : FTy → Type} [FloatOps F]

local notation "𝕄" => MT nD τ sig (HIx 2) (Elt F) ℕ UU ℕ

variable (m : (ℓ : Loc nD τ sig) → Buf (Elt F) ℓ) (ρ : Dev nD → PrngReg)

/-- Every index names a row of its table. -/
def InRows : Prop := ∀ d : Dev nD, (∀ j, (list0 m d j).toNat < 8192) ∧ ∀ j, (list1 m d j).toNat < 8192

/-- What the handshakes carry: to each core, and on to each tile, its part of the call's arrays, and back. -/
def P : (K (F := F)).Pay (nD := nD) (Val := Elt F) (Name := ℕ) (U := UU) where
  st := fun q d c => match q, c with
    | 0, c => Deal0.CoreIn d (list0 m d) (table0 m d) c
    | 1, c => Deal1.CoreIn d (list1 m d) (table1 m d) c
  dn := fun q d c => match q, c with
    | 0, c => Deal0.CoreOut d (list0 m d) (table0 m d) c
    | 1, c => Deal1.CoreOut d (list1 m d) (table1 m d) c
  go := fun q d c i => match q, c, i with
    | 0, c, i => Deal0.TileIn d (list0 m d) (table0 m d) c i
    | 1, c, i => Deal1.TileIn d (list1 m d) (table1 m d) c i
  td := fun q d c i => match q, c, i with
    | 0, c, i => Deal0.TileOut d (list0 m d) (table0 m d) c i
    | 1, c, i => Deal1.TileOut d (list1 m d) (table1 m d) c i
  x := fun _ _ => iprop(emp)

instance P_storable : (P (F := F) m).IsStorable where
  st q d c := match q, c with
    | 0, c => Deal0.CoreIn_storable d (list0 m d) (table0 m d) c
    | 1, c => Deal1.CoreIn_storable d (list1 m d) (table1 m d) c
  dn q d c := match q, c with
    | 0, c => Deal0.CoreOut_storable d (list0 m d) (table0 m d) c
    | 1, c => Deal1.CoreOut_storable d (list1 m d) (table1 m d) c
  go q d c i := match q, c, i with
    | 0, c, i => Deal0.TileIn_storable d (list0 m d) (table0 m d) c i
    | 1, c, i => Deal1.TileIn_storable d (list1 m d) (table1 m d) c i
  td q d c i := match q, c, i with
    | 0, c, i => Deal0.TileOut_storable d (list0 m d) (table0 m d) c i
    | 1, c, i => Deal1.TileOut_storable d (list1 m d) (table1 m d) c i

/-! ## The tiles -/

theorem defs₀_vector0 (c : Fin τ.nSC) (s : Fin τ.nSub) :
    defs₀ (F := F) (.scVector c s) 0 ()
      = SparseCore.onTile hcore0 hsub0 (fun c s => cc0__k (F := F) (Deal0.tileAt c s) Hold0.tabM (Memref.isWhole_whole _) Hold0.idxM (Memref.isWhole_whole _)
          Hold0.outM (Memref.isWhole_whole _) Hold0.inB (Memref.isWhole_whole _) cc0_scoped1 Hold0.outB (Memref.isWhole_whole _) cc0_scoped3 cc0_scoped4) ⟨⟩ c s := rfl

theorem defs₀_vector1 (c : Fin τ.nSC) (s : Fin τ.nSub) :
    defs₀ (F := F) (.scVector c s) 1 ()
      = SparseCore.onTile hcore1 hsub1 (fun c s => cc1__k (F := F) (Deal1.tileAt c s) Hold1.tabM (Memref.isWhole_whole _) Hold1.idxM (Memref.isWhole_whole _)
          Hold1.outM (Memref.isWhole_whole _) Hold1.inB (Memref.isWhole_whole _) cc1_scoped1 Hold1.outB (Memref.isWhole_whole _) cc1_scoped3 cc1_scoped4) ⟨⟩ c s := rfl

/-- The waits a tile records are its own. -/
theorem own_waits {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tile0 (h : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Tile0.tile_body d (Deal0.tileAt ⟨_, hci.1⟩ ⟨_, hci.2⟩) (list0 m d) (table0 m d) _ _ (h d).1 O W hO).trans (wp_mono frame _ _ fun _ => own_waits)

set_option maxRecDepth 16384 in
theorem tile1 (h : InRows m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Tile1.tile_body d (Deal1.tileAt ⟨_, hci.1⟩ ⟨_, hci.2⟩) (list1 m d) (table1 m d) _ _ (h d).2 O W hO).trans (wp_mono frame _ _ fun _ => own_waits)

/-! ## The cores -/

/-- A part split, and put back together from what its tiles bring. -/
theorem split_join {A B C E : sProp 𝕄} (h₁ : A ⊢ B) (h₂ : C ⊢ E) : A ⊢ |={Set.univ}=> iprop(B ∗ (C -∗ E)) := by
  iintro H; imodintro
  isplitl [H]
  · iapply h₁; iexact H
  iintro H'
  iapply h₂; iexact H'

theorem cores0 : (K (F := F)).VecSplit' (P m) 0 := fun d c =>
  split_join (Deal0.tiles_in d (list0 m d) (table0 m d) c) (Deal0.tiles_out d (list0 m d) (table0 m d) c)
theorem cores1 : (K (F := F)).VecSplit' (P m) 1 := fun d c =>
  split_join (Deal1.tiles_in d (list1 m d) (table1 m d) c) (Deal1.tiles_out d (list1 m d) (table1 m d) c)

/-! ## The start -/

theorem emp_all {A : Type} (s : Finset A) : (bigSep s fun _ => iprop(emp)) = (iprop(emp) : sProp 𝕄) := bigSep_emp_const s

def u₀ : UU := (initOf (K (F := F)).hsCells (K (F := F)).hsToks, 1)

theorem x_emp : (bigSep Finset.univ fun thr : Thread nD τ => bigSep Finset.univ fun q : Fin 2 => (P (F := F) m).x q thr) = iprop(emp) := by
  refine (bigSep_congr fun _ _ => ?_).trans (bigSep_emp_const _)
  exact bigSep_emp_const _

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  rw [x_emp, emp_all]
  iintro Hu
  ihave H := (ownU_pair (initOf (K (F := F)).hsCells (K (F := F)).hsToks) (1 : Counters)) $$ Hu
  icases H with ⟨HH, -⟩
  imodintro
  isplitl [HH]; · iexact HH
  isplitr; · iempintro
  iempintro

/-! ## @main -/

/-- A call's arrays, out of those @main holds, and back among them. -/
theorem take0 (d : Dev nD) : (held (T d) arrays ((opR0 (F := F)).result ((opP0 (F := F)).result ((opS0 (F := F)).result ((opC0 (F := F)).result (V0 m d))))) : sProp 𝕄) ⊢
    iprop(Deal0.Before d (list0 m d) (table0 m d) ∗ held (T d) (arrays \ {dv main_v1, dv main_v0, dv main_v2}) (V1 m d)) := by
  show (held (T d) arrays (V1 m d) : sProp 𝕄) ⊢ _
  rw [held_sub_split (T d) (T := {dv main_v1, dv main_v0, dv main_v2}) (by decide +kernel) (V1 m d)]
  refine sep_mono_left ?_
  unfold held Deal0.Before
  rw [SparseCore.bigSep_insert' (by decide +kernel), SparseCore.bigSep_insert' (by decide +kernel), bigSep_singleton, V1_list, V1_table]
  iintro ⟨Hi, Ht, Ho⟩
  isplitl [Hi]; · iexact Hi
  isplitl [Ht]; · iexact Ht
  iexists _; iexact Ho

theorem give0 (d : Dev nD) : iprop(Deal0.After d (list0 m d) (table0 m d) ∗ held (T d) (arrays \ {dv main_v1, dv main_v0, dv main_v2}) (V1 m d))
    ⊢ (held (T d) arrays (V2 m d) : sProp 𝕄) := by
  rw [held_sub_split (T d) (T := {dv main_v1, dv main_v0, dv main_v2}) (S := arrays) (by decide +kernel) (V2 m d)]
  refine BI.Laws.sep_mono ?_ (Entails.of_eq (held_congr (T d) fun b hb => (Function.update_of_ne (fun e => (Finset.mem_sdiff.mp hb).2 (by rw [e]; decide +kernel)) _ _).symm))
  unfold held Deal0.After
  rw [SparseCore.bigSep_insert' (by decide +kernel), SparseCore.bigSep_insert' (by decide +kernel), bigSep_singleton, V2_v2,
    V2_ne m d (by decide), V2_ne m d (by decide), V1_list, V1_table]
  exact entails_refl _

theorem take1 (d : Dev nD) : (held (T d) arrays ((opR1 (F := F)).result ((opP1 (F := F)).result ((opS1 (F := F)).result ((opC1 (F := F)).result (V2 m d))))) : sProp 𝕄) ⊢
    iprop(Deal1.Before d (list1 m d) (table1 m d) ∗ held (T d) (arrays \ {dv main_v4, dv main_v3, dv main_v5}) (V3 m d)) := by
  show (held (T d) arrays (V3 m d) : sProp 𝕄) ⊢ _
  rw [held_sub_split (T d) (T := {dv main_v4, dv main_v3, dv main_v5}) (by decide +kernel) (V3 m d)]
  refine sep_mono_left ?_
  unfold held Deal1.Before
  rw [SparseCore.bigSep_insert' (by decide +kernel), SparseCore.bigSep_insert' (by decide +kernel), bigSep_singleton, V3_list, V3_table]
  iintro ⟨Hi, Ht, Ho⟩
  isplitl [Hi]; · iexact Hi
  isplitl [Ht]; · iexact Ht
  iexists _; iexact Ho

theorem give1 (d : Dev nD) : iprop(Deal1.After d (list1 m d) (table1 m d) ∗ held (T d) (arrays \ {dv main_v4, dv main_v3, dv main_v5}) (V3 m d))
    ⊢ (held (T d) arrays (V4 m d) : sProp 𝕄) := by
  rw [held_sub_split (T d) (T := {dv main_v4, dv main_v3, dv main_v5}) (S := arrays) (by decide +kernel) (V4 m d)]
  refine BI.Laws.sep_mono ?_ (Entails.of_eq (held_congr (T d) fun b hb => (Function.update_of_ne (fun e => (Finset.mem_sdiff.mp hb).2 (by rw [e]; decide +kernel)) _ _).symm))
  unfold held Deal1.After
  rw [SparseCore.bigSep_insert' (by decide +kernel), SparseCore.bigSep_insert' (by decide +kernel), bigSep_singleton, V4_v5,
    V4_ne m d (by decide), V4_ne m d (by decide), V3_list, V3_table]
  exact entails_refl _

/-- The arrays the claims speak of. -/
abbrev kept : Finset (DevRef τ sig) := {dv main_arg0, dv main_arg1, dv main_arg2, dv main_arg3, dv main_v2, dv main_v5}

/-- What @main leaves: those arrays at their last contents. -/
abbrev FIN (d : Dev nD) : sProp 𝕄 := held (T d) kept (V4 m d)

theorem back0 (d : Dev nD) : (bigSep Finset.univ fun c : Fin ((K (F := F)).nCore 0) => (P m).dn 0 d c) ⊢ (Deal0.After d (list0 m d) (table0 m d) : sProp 𝕄) :=
  Deal0.cores_out d (list0 m d) (table0 m d)

theorem back1 (d : Dev nD) : (bigSep Finset.univ fun c : Fin ((K (F := F)).nCore 1) => (P m).dn 1 d c) ⊢ (Deal1.After d (list1 m d) (table1 m d) : sProp 𝕄) :=
  Deal1.cores_out d (list1 m d) (table1 m d)

set_option maxHeartbeats 1000000 in
/-- @main's run. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, fn_pad.body, fn_pad_0.body, wp_bind, wp_pure]
  iintro ⟨#Hctx, Hst, ⟨Hb, Hheld, Hts, -⟩, -⟩
  iapply (wp_hlo_within 𝒱 (SparseCore.T d) none Set.univ (op := opC0) (S := arrays) (show ({dv main_c} : Finset (DevRef τ sig)) ⊆ arrays by decide +kernel)) $$ [Hb Hheld]
  · isplitl [Hb] <;> iassumption
  iintro ⟨Hb, Hheld⟩
  rw [wp_ret]; imodintro
  iapply (wp_hlo_within 𝒱 (SparseCore.T d) none Set.univ (op := opS0) (S := arrays) (show ({dv main_c, dv main_call0_v0} : Finset (DevRef τ sig)) ⊆ arrays by decide +kernel)) $$ [Hb Hheld]
  · isplitl [Hb] <;> iassumption
  iintro ⟨Hb, Hheld⟩
  rw [wp_ret]; imodintro
  iapply (wp_hlo_within 𝒱 (SparseCore.T d) none Set.univ (op := opP0) (S := arrays) (show ({dv main_arg0, dv main_call0_v0, dv main_v0} : Finset (DevRef τ sig)) ⊆ arrays by decide +kernel)) $$ [Hb Hheld]
  · isplitl [Hb] <;> iassumption
  iintro ⟨Hb, Hheld⟩
  rw [wp_ret]; imodintro; imodintro
  iapply (wp_hlo_within 𝒱 (SparseCore.T d) none Set.univ (op := opR0) (S := arrays) (show ({dv main_arg2, dv main_v1} : Finset (DevRef τ sig)) ⊆ arrays by decide +kernel)) $$ [Hb Hheld]
  · isplitl [Hb] <;> iassumption
  iintro ⟨Hb, Hheld⟩
  rw [wp_ret]; imodintro
  ihave Hh := (take0 m d) $$ Hheld
  icases Hh with ⟨Harr, Hrest⟩
  ihave Harr := (Deal0.cores_in d (list0 m d) (table0 m d)) $$ Harr
  iapply ((K (F := F)).wp_run (D (F := F)) 𝒱 (EH := EH) (P := P m) κ d 0) $$ [Hst Harr Hb Hrest Hts]
  isplitr; · iexact Hctx
  isplitl [Hst]; · iexact Hst
  isplitl [Harr]; · iexact Harr
  iintro ⟨Hst, Harr⟩
  ihave Harr := (back0 m d) $$ Harr
  ihave Hheld := (give0 m d) $$ [Harr Hrest]
  · isplitl [Harr] <;> iassumption
  iapply (wp_hlo_within 𝒱 (SparseCore.T d) none Set.univ (op := opC1) (S := arrays) (show ({dv main_c_0} : Finset (DevRef τ sig)) ⊆ arrays by decide +kernel)) $$ [Hb Hheld]
  · isplitl [Hb] <;> iassumption
  iintro ⟨Hb, Hheld⟩
  rw [wp_ret]; imodintro
  iapply (wp_hlo_within 𝒱 (SparseCore.T d) none Set.univ (op := opS1) (S := arrays) (show ({dv main_c_0, dv main_call1_v0} : Finset (DevRef τ sig)) ⊆ arrays by decide +kernel)) $$ [Hb Hheld]
  · isplitl [Hb] <;> iassumption
  iintro ⟨Hb, Hheld⟩
  rw [wp_ret]; imodintro
  iapply (wp_hlo_within 𝒱 (SparseCore.T d) none Set.univ (op := opP1) (S := arrays) (show ({dv main_arg1, dv main_call1_v0, dv main_v3} : Finset (DevRef τ sig)) ⊆ arrays by decide +kernel)) $$ [Hb Hheld]
  · isplitl [Hb] <;> iassumption
  iintro ⟨Hb, Hheld⟩
  rw [wp_ret]; imodintro; imodintro
  iapply (wp_hlo_within 𝒱 (SparseCore.T d) none Set.univ (op := opR1) (S := arrays) (show ({dv main_arg3, dv main_v4} : Finset (DevRef τ sig)) ⊆ arrays by decide +kernel)) $$ [Hb Hheld]
  · isplitl [Hb] <;> iassumption
  iintro ⟨Hb, Hheld⟩
  rw [wp_ret]; imodintro
  ihave Hh := (take1 m d) $$ Hheld
  icases Hh with ⟨Harr, Hrest⟩
  ihave Harr := (Deal1.cores_in d (list1 m d) (table1 m d)) $$ Harr
  iapply ((K (F := F)).wp_run (D (F := F)) 𝒱 (EH := EH) (P := P m) κ d 1) $$ [Hst Harr Hb Hrest Hts]
  isplitr; · iexact Hctx
  isplitl [Hst]; · iexact Hst
  isplitl [Harr]; · iexact Harr
  iintro ⟨Hst, Harr⟩
  ihave Harr := (back1 m d) $$ Harr
  ihave Hheld := (give1 m d) $$ [Harr Hrest]
  · isplitl [Harr] <;> iassumption
  imodintro
  isplitl [Hst]; · iexact Hst
  isplitr [Hb Hts]
  · ihave Hh := (Entails.of_eq (held_sub_split (T d) (T := kept) (S := arrays) (by decide +kernel) (V4 m d))) $$ Hheld
    icases Hh with ⟨H, -⟩
    iexact H
  isplitl [Hb] <;> iassumption

/-! ## The run -/

/-- What the claims read of a final state. -/
def Left (d : Dev nD) (s' : Phys nD τ sig (Elt F)) : Prop := ∀ b ∈ kept, s'.mem.mem (d, b) = V4 m d b

theorem hfin (d : Dev nD) (s' : Phys nD τ sig (Elt F)) : iprop(FIN m d ∗ SI s') ⊢ (⌜Left m d s'⌝ : sProp 𝕄) := by
  have h (b : DevRef τ sig) (hb : b ∈ kept) : iprop(FIN m d ∗ SI s') ⊢ (⌜s'.mem.mem (d, b) = V4 m d b⌝ : sProp 𝕄) := by
    unfold FIN held
    rw [SparseCore.bigSep_erase' hb]
    iintro ⟨⟨H, -⟩, HSI⟩
    ihave H := (SI_pointsTo_agree (st := s') (ℓ := (d, b)) (I := Finset.univ) (q := fullShare) (f := V4 m d b)) $$ [HSI H]
    · isplitl [HSI] <;> iassumption
    icases H with %h2
    ipureintro; exact funext fun i => h2 i (Finset.mem_univ i)
  exact ((Laws.forall_intro fun b => (Laws.forall_intro (h b)).trans Laws.pure_forall.2).trans Laws.pure_forall.2)

/-- Every run ends with the arguments as they were, each result at its gathered rows, and every semaphore at zero. -/
def Post : PUnit × MemSt nD τ sig (Elt F) → Prop := fun r =>
  (∀ d : Dev nD, (r.2.mem (tcLoc d main_v2) = rows0 m d ∧ r.2.mem (tcLoc d main_v5) = rows1 m d)
    ∧ r.2.mem (tcLoc d main_arg0) = m (tcLoc d main_arg0) ∧ r.2.mem (tcLoc d main_arg1) = m (tcLoc d main_arg1)
    ∧ r.2.mem (tcLoc d main_arg2) = m (tcLoc d main_arg2) ∧ r.2.mem (tcLoc d main_arg3) = m (tcLoc d main_arg3)) ∧ r.2.sem = fun _ => 0

theorem V4_arg (d : Dev nD) {r : Ref sig .tc} (h : r ≠ main_v5 ∧ (r ≠ main_c_0 ∧ r ≠ main_call1_v0 ∧ r ≠ main_v3 ∧ r ≠ main_v4) ∧ r ≠ main_v2
    ∧ r ≠ main_c ∧ r ≠ main_call0_v0 ∧ r ≠ main_v0 ∧ r ≠ main_v1) : V4 m d (dv r) = m (tcLoc d r) := by
  rw [V4_ne m d h.1, V3_keep m d h.2.1, V2_ne m d h.2.2.1, V1_keep m d h.2.2.2]

theorem V4_v2 (d : Dev nD) : V4 m d (dv main_v2) = rows0 m d := by
  rw [V4_ne m d (by decide), V3_keep m d (by decide), V2_v2]

theorem post_of (s' : Phys nD τ sig (Elt F)) (h : ∀ d, Left m d s') (hz : s'.mem.sem = fun _ => 0) : Post m (⟨⟩, s'.mem) :=
  ⟨fun d => ⟨⟨(h d (dv main_v2) (by decide +kernel)).trans (V4_v2 m d), (h d (dv main_v5) (by decide +kernel)).trans (V4_v5 m d)⟩,
    (h d (dv main_arg0) (by decide +kernel)).trans (V4_arg m d (by decide)), (h d (dv main_arg1) (by decide +kernel)).trans (V4_arg m d (by decide)),
    (h d (dv main_arg2) (by decide +kernel)).trans (V4_arg m d (by decide)), (h d (dv main_arg3) (by decide +kernel)).trans (V4_arg m d (by decide))⟩, hz⟩

theorem run_main [∀ e, Nonempty (Elt F e)] (h : InRows m) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tile0 m h | 1 => tile1 m h)
    (fun q _ => match q with | 0 => SparseCore.Cfg.VecSplit.of_plain (cores0 m) | 1 => SparseCore.Cfg.VecSplit.of_plain (cores1 m))
    m ρ main (fun _ => iprop(emp)) (FIN m) (u₀ (F := F)) (sep_elim_left.trans (hu₀ m)) (hmain m ρ) (Left m) (hfin m) (Post m) (fun s' h hz => post_of m s' h hz)

end Cert.Proof.Launch

end
-- ==== Proof.Values.lean ====
/-
  The reference's value. Its gather of whole rows, reshaped and padded to 128 columns, holds at row `q` the padded table's row that
  entry `q` of the index list names: what the kernel's calls leave.
-/
module

public import proofs.«01_k».proof.Proof.Launch
public import Idealize.ShloMosaic.Lib.KernelVsHost
public import Idealize.ShloMosaic.Lib.WordCmp
public import Idealize.ShloMosaic.Lib.ReduceAll
public import Idealize.ShloMosaic.Lib.Pipeline.Value

@[expose] public section

noncomputable section

namespace Cert.Proof.Values

open Idealize.ShloMosaic Idealize.ShloMosaic.ValueIdx

/-! ## A gather of whole rows, read at an index -/

section Rows
variable {α : Type} {N R C W : Nat}

/-- The dimension numbers of `x[idx]` for a table `x` of `N` rows of `W` and an `R` by `C` array of row numbers. -/
abbrev rowDims (wf : GatherDims.WF ⟨2, ![N, W]⟩ ⟨3, ![R, C, 1]⟩ ⟨3, ![R, C, W]⟩ [2] [0] [] [0] [] 2 ![1, W]) :
    GatherDims ⟨2, ![N, W]⟩ ⟨3, ![R, C, 1]⟩ ⟨3, ![R, C, W]⟩ where
  offsetDims := [2]
  collapsedSliceDims := [0]
  operandBatchingDims := []
  startIndicesBatchingDims := []
  startIndexMap := [0]
  indexVectorDim := 2
  sliceSizes := ![1, W]
  wf := wf

/-- Entry `(r, c, k)` is entry `k` of the row numbered at `(r, c)`, when that number is a row's. -/
theorem gather_rows (wf : GatherDims.WF ⟨2, ![N, W]⟩ ⟨3, ![R, C, 1]⟩ ⟨3, ![R, C, W]⟩ [2] [0] [] [0] [] 2 ![1, W])
    (x : (⟨2, ![N, W]⟩ : Shape).Idx → α) (idx : IVec ⟨3, ![R, C, 1]⟩ 32) (r : Fin R) (c : Fin C) (k : Fin W) (n : Fin N)
    (hn : (idx (ix3 r c 0)).toInt = n.val) : Host.gather (rowDims wf) x idx (ix3 r c k) = x (ix2 n k) := by
  have hd : (1 : Fin 2) ∉ ([0] : List (Fin 2)) := by decide
  unfold Host.gather
  refine congrArg x (funext fun a => Fin.ext ?_)
  match a with
  | ⟨0, _⟩ =>
    show (rowDims wf).start (ix3 r c k) idx 0 + (rowDims wf).batchCoord (ix3 r c k) 0 + (rowDims wf).offCoord (ix3 r c k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hs : (rowDims wf).siIdx (ix3 r c k) ⟨List.idxOf (0 : Fin 2) (rowDims wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hs, hn]
    show min n.val (N - 1) = n.val
    have := n.isLt
    omega
  | ⟨1, _⟩ =>
    show (rowDims wf).start (ix3 r c k) idx 1 + (rowDims wf).batchCoord (ix3 r c k) 1 + (rowDims wf).offCoord (ix3 r c k) 1 = k.val
    rw [GatherDims.batchCoord_eq_zero _ _ _ List.not_mem_nil, Nat.add_zero]
    unfold GatherDims.start GatherDims.offCoord
    rw [dif_neg (show (1 : Fin 2) ∉ (rowDims wf).startIndexMap from hd),
      dif_pos ((GatherDims.mem_sKept (rowDims wf) 1).2 ⟨hd, List.not_mem_nil⟩), Nat.zero_add]
    rfl

end Rows

/-! ## The reference's array -/

abbrev Lst : Shape := ⟨2, ![8192, 16]⟩
abbrev Lst3 : Shape := ⟨3, ![8192, 16, 1]⟩
abbrev Row : Shape := ⟨2, ![1, 131072]⟩
abbrev Wide : Shape := ⟨2, ![8192, 128]⟩
abbrev Out : Shape := ⟨2, ![131072, 128]⟩
abbrev One : Shape := ⟨0, ![]⟩

/-- The place in the index array of entry `q` of the list, by rows. -/
abbrev at16 (q : Fin 131072) : Lst.Idx := ix2 (⟨q.val / 16, by omega⟩ : Fin 8192) (⟨q.val % 16, by omega⟩ : Fin 16)

theorem list_apply (I : IVec Lst 32) (h : Lst.ShapeCasts Row) (q : Fin 131072) : shapeCast Row I h (ix2 0 q) = I (at16 q) := by
  refine shapeCast_apply _ _ _ _ ?_
  rw [Shape.rowMajor_val_two, Shape.rowMajor_val_two]
  show q.val / 16 * 16 + q.val % 16 = 0 * 131072 + q.val
  omega

/-- The wrapped row numbers, where none is negative, are the row numbers. -/
theorem wrapped_apply (I : IVec Lst 32) (hb : One.BroadcastsInDim Lst (![] : Fin 0 → Fin 2)) (hb3 : Lst.BroadcastsInDim Lst3 ![0, 1])
    (r : Fin 8192) (c : Fin 16) (hI : (I (ix2 r c)).toNat < 8192) :
    broadcastInDim Lst3 ![0, 1] hb3 (select (cmpi .slt I (broadcastInDim Lst ![] hb (constantI One 32 0#32)))
      (addi I (broadcastInDim Lst ![] hb (constantI One 32 8192#32))) I) (ix3 r c 0) = I (ix2 r c) := by
  rw [broadcastInDim_apply ![0, 1] hb3 _ (ix3 r c 0) (ix2 r c) (fun a => by match a with | ⟨0, _⟩ => rfl | ⟨1, _⟩ => rfl), select_apply]
  have h0 : cmpi .slt I (broadcastInDim Lst ![] hb (constantI One 32 0#32)) (ix2 r c) = 0#1 := by
    show IntOp.cmpi .slt (I (ix2 r c)) 0#32 = 0#1
    rw [WordCmp.cmpi_slt_of_lt (by omega) (by decide)]
    rfl
  rw [h0]
  rfl

/-- Gather, reshape, pad: row `q` holds the padded table's row that entry `q` of the list names. -/
theorem padded_gather {α : Type} {W : Nat} {P : Nat} (hW : W ≤ 128)
    (wf : GatherDims.WF ⟨2, ![8192, W]⟩ ⟨3, ![8192, 16, 1]⟩ ⟨3, ![8192, 16, W]⟩ [2] [0] [] [0] [] 2 ![1, W])
    (x : (⟨2, ![8192, W]⟩ : Shape).Idx → α) (I : IVec Lst 32) (I3 : IVec Lst3 32) (z : One.Idx → α)
    (hs : Shape.ShapeCasts ⟨3, ![8192, 16, W]⟩ ⟨2, ![131072, W]⟩) (hp : Shape.Pads ⟨2, ![131072, W]⟩ ![0, 0] ![0, P] ![0, 0] Out)
    (hq : Shape.Pads ⟨2, ![8192, W]⟩ ![0, 0] ![0, P] ![0, 0] Wide) (hu : 0 < One.numel) (hl : Lst.ShapeCasts Row)
    (h3 : ∀ r c, I3 (ix3 r c 0) = I (ix2 r c)) (hI : ∀ j, (I j).toNat < 8192) :
    pad Out ![0, 0] ![0, P] ![0, 0] (shapeCast ⟨2, ![131072, W]⟩ (Host.gather (rowDims wf) x I3) hs) z hp hu
      = fun y : Out.Idx => pad Wide ![0, 0] ![0, P] ![0, 0] x z hq hu
          (ix2 (Fin.ofNat 8192 (shapeCast Row I hl (ix2 0 (y 0))).toNat) (y 1)) := by
  funext y
  obtain ⟨q, k, rfl⟩ : ∃ (q : Fin 131072) (k : Fin 128), y = ix2 q k := ⟨y 0, y 1, eq_ix2 y⟩
  show _ = pad Wide ![0, 0] ![0, P] ![0, 0] x z hq hu (ix2 (Fin.ofNat 8192 (shapeCast Row I hl (ix2 0 q)).toNat) k)
  rw [list_apply]
  have hn := hI (at16 q)
  rw [show (Fin.ofNat 8192 (I (at16 q)).toNat) = ⟨(I (at16 q)).toNat, hn⟩ from Fin.ext (Nat.mod_eq_of_lt hn)]
  by_cases hk : k.val < W
  · rw [pad_apply_of_inside (s := ⟨2, ![131072, W]⟩) _ _ _ _ z hp hu (ix2 q k) (ix2 q ⟨k.val, hk⟩)
        (fun a => by match a with | ⟨0, _⟩ => simp | ⟨1, _⟩ => simp),
      pad_apply_of_inside (s := ⟨2, ![8192, W]⟩) _ _ _ x z hq hu _ (ix2 ⟨(I (at16 q)).toNat, hn⟩ ⟨k.val, hk⟩)
        (fun a => by match a with | ⟨0, _⟩ => simp | ⟨1, _⟩ => simp)]
    rw [shapeCast_apply _ hs (ix2 q ⟨k.val, hk⟩) (ix3 (⟨q.val / 16, by omega⟩ : Fin 8192) (⟨q.val % 16, by omega⟩ : Fin 16) ⟨k.val, hk⟩)
      (by
        rw [Shape.rowMajor_val_two, Shape.rowMajor_val_three]
        show (q.val / 16 * 16 + q.val % 16) * W + k.val = q.val * W + k.val
        rw [show q.val / 16 * 16 + q.val % 16 = q.val by omega])]
    refine gather_rows wf x I3 _ _ _ ⟨(I (at16 q)).toNat, hn⟩ ?_
    rw [h3]
    show (I (at16 q)).toInt = ((I (at16 q)).toNat : Int)
    exact BitVec.toInt_eq_toNat_of_lt (by omega)
  · rw [pad_apply_of_not_inside (s := ⟨2, ![131072, W]⟩) _ _ _ _ z hp hu (ix2 q k) (1 : Fin 2) (fun h => hk (by simpa using h.2.2)),
      pad_apply_of_not_inside (s := ⟨2, ![8192, W]⟩) _ _ _ x z hq hu _ (1 : Fin 2) (fun h => hk (by simpa using h.2.2))]

/-! ## What the precondition says -/

/-- The test of one index array, that every word, read signed, is from 0 to 8191. -/
theorem in_rows_of_all (I : IVec Lst 32) (hb : One.BroadcastsInDim Lst (![] : Fin 0 → Fin 2)) (hr : Lst.ReducesTo [0, 1] One)
    (hu : 0 < One.numel) (j : One.Idx)
    (h : Host.reduce IntOp.andi (andi (cmpi .sge I (broadcastInDim Lst ![] hb (constantI One 32 0#32)))
      (cmpi .slt I (broadcastInDim Lst ![] hb (constantI One 32 8192#32)))) (constantI One 1 1#1) hr hu j = 1#1) (i : Lst.Idx) :
    (I i).toNat < 8192 := by
  have he := Host.reduce_andi_all _ _ hr hu j h i
  have he' : IntOp.andi (IntOp.cmpi .sge (I i) 0#32) (IntOp.cmpi .slt (I i) 8192#32) = 1#1 := he
  obtain ⟨h0, h1⟩ := IntOp.andi_eq_one.1 he'
  have h0' : (0#32).toInt ≤ (I i).toInt := IntOp.cmpi_sge.1 h0
  have h1' : (I i).toInt < (8192#32).toInt := IntOp.cmpi_slt.1 h1
  rw [show (0#32).toInt = 0 by decide] at h0'
  rw [show (8192#32).toInt = 8192 by decide] at h1'
  have := (I i).isLt
  rw [BitVec.toInt_eq_toNat_cond] at h0' h1'
  split at h0' <;> omega

/-- The precondition says it of both index arrays. -/
theorem in_rows {F : FTy → Type} [FloatOps F] [Cert.Pre_idx_in_rows.Facts] (a0 : FVec F Cert.Pre_idx_in_rows.S8192x3 .f32)
    (a1 : FVec F Cert.Pre_idx_in_rows.S8192x64 .f32) (a2 a3 : IVec Lst 32)
    (h : Cert.Pre_idx_in_rows.fn (F := F) a0 a1 a2 a3 = fun _ => 1#1) : (∀ j, (a2 j).toNat < 8192) ∧ ∀ j, (a3 j).toNat < 8192 := by
  have he := congrFun h ix0
  obtain ⟨h2, h3⟩ := IntOp.andi_eq_one.1 (show IntOp.andi _ _ = 1#1 from he)
  exact ⟨fun j => in_rows_of_all a2 _ _ _ _ h2 j, fun j => in_rows_of_all a3 _ _ _ _ h3 j⟩

/-! ## The two results -/

section Results
open Cert.Proof.Common Cert.Proof.Host

variable {F : FTy → Type} [FloatOps F] (m : (ℓ : Loc Cert.KernelIdeal.nD Cert.KernelIdeal.τ Cert.KernelIdeal.sig) → Buf (Elt F) ℓ)
  (d : Dev Cert.KernelIdeal.nD)

/-- The reference's padded gather of `x` at `I`, as its @main composes it. -/
abbrev reference {W P : Nat} (wf : GatherDims.WF ⟨2, ![8192, W]⟩ ⟨3, ![8192, 16, 1]⟩ ⟨3, ![8192, 16, W]⟩ [2] [0] [] [0] [] 2 ![1, W])
    (hs : Shape.ShapeCasts ⟨3, ![8192, 16, W]⟩ ⟨2, ![131072, W]⟩) (hp : Shape.Pads ⟨2, ![131072, W]⟩ ![0, 0] ![0, P] ![0, 0] Out)
    (hb : One.BroadcastsInDim Lst (![] : Fin 0 → Fin 2)) (hb3 : Lst.BroadcastsInDim Lst3 ![0, 1]) (hu : 0 < One.numel)
    (x : FVec F ⟨2, ![8192, W]⟩ .f32) (I : IVec Lst 32) : FVec F Out .f32 :=
  pad Out ![0, 0] ![0, P] ![0, 0] (shapeCast ⟨2, ![131072, W]⟩ (Host.gather (rowDims wf) x
    (broadcastInDim Lst3 ![0, 1] hb3 (select (cmpi .slt I (broadcastInDim Lst ![] hb (constantI One 32 0#32)))
      (addi I (broadcastInDim Lst ![] hb (constantI One 32 8192#32))) I))) hs) (sitofp (F := F) .f32 (constantI One 32 0#32)) hp hu

/-- The first is the first call's rows. -/
theorem reference_rows0 (wf : GatherDims.WF ⟨2, ![8192, 3]⟩ ⟨3, ![8192, 16, 1]⟩ ⟨3, ![8192, 16, 3]⟩ [2] [0] [] [0] [] 2 ![1, 3])
    (hs : Shape.ShapeCasts ⟨3, ![8192, 16, 3]⟩ ⟨2, ![131072, 3]⟩) (hp : Shape.Pads ⟨2, ![131072, 3]⟩ ![0, 0] ![0, 125] ![0, 0] Out)
    (hb : One.BroadcastsInDim Lst (![] : Fin 0 → Fin 2)) (hb3 : Lst.BroadcastsInDim Lst3 ![0, 1]) (hu : 0 < One.numel)
    (x : FVec F ⟨2, ![8192, 3]⟩ .f32) (I : IVec Lst 32) (hx : x = m (tcLoc d Cert.KernelIdeal.main_arg0))
    (hi : I = m (tcLoc d Cert.KernelIdeal.main_arg2)) (hI : ∀ j, (I j).toNat < 8192) :
    reference wf hs hp hb hb3 hu x I = rows0 m d := by
  subst hx hi
  exact padded_gather (by decide) wf _ _ _ _ hs hp Cert.KernelIdeal.Gen.pads_S8192x3_S8192x128_000_01250 hu Cert.KernelIdeal.Gen.shapeCasts_S8192x16_S1x131072 (fun r c => wrapped_apply _ hb hb3 r c (hI _)) hI

/-- The second is the second call's. -/
theorem reference_rows1 (wf : GatherDims.WF ⟨2, ![8192, 64]⟩ ⟨3, ![8192, 16, 1]⟩ ⟨3, ![8192, 16, 64]⟩ [2] [0] [] [0] [] 2 ![1, 64])
    (hs : Shape.ShapeCasts ⟨3, ![8192, 16, 64]⟩ ⟨2, ![131072, 64]⟩) (hp : Shape.Pads ⟨2, ![131072, 64]⟩ ![0, 0] ![0, 64] ![0, 0] Out)
    (hb : One.BroadcastsInDim Lst (![] : Fin 0 → Fin 2)) (hb3 : Lst.BroadcastsInDim Lst3 ![0, 1]) (hu : 0 < One.numel)
    (x : FVec F ⟨2, ![8192, 64]⟩ .f32) (I : IVec Lst 32) (hx : x = m (tcLoc d Cert.KernelIdeal.main_arg1))
    (hi : I = m (tcLoc d Cert.KernelIdeal.main_arg3)) (hI : ∀ j, (I j).toNat < 8192) :
    reference wf hs hp hb hb3 hu x I = rows1 m d := by
  subst hx hi
  exact padded_gather (by decide) wf _ _ _ _ hs hp Cert.KernelIdeal.Gen.pads_S8192x64_S8192x128_000_0640 hu Cert.KernelIdeal.Gen.shapeCasts_S8192x16_S1x131072 (fun r c => wrapped_apply _ hb hb3 r c (hI _)) hI

end Results

end Cert.Proof.Values

end
-- ==== Proof.EdgeSpec.lean ====
/-
  What an edge call computes, over the extended reals.  Point `i` has the feature row `x` and sixteen neighbour rows
  `y n`; each pair of rows goes through two dense layers with a clamp at zero after each, and the result is the largest
  of the sixteen, clamped at zero.  A cloud's row is, feature by feature, the largest over the points of the cloud: over
  all the points, those of other clouds counted as the least value.
  The call meets the points 256 at a time and keeps the largest so far; `upTo` is that running value.
-/
module

public import Idealize.ShloMosaic.Lib.Pointwise
public import Idealize.ShloMosaic.Lib.Pipeline.Kit

@[expose] public section

noncomputable section

open Idealize.ShloMosaic Idealize.ShloMosaic.TcCoe Idealize.SL.Sem

namespace Cert.Proof.Edge

/-- The value the maxima start from. -/
abbrev low : EReal := Ideal.ofBits .f32 0xFF800000#32

/-- One feature of one point. -/
def point {d a b : ℕ} (x : Fin d → EReal) (y : Fin 16 → Fin d → EReal) (u v : Fin d → Fin a → EReal) (c : Fin a → EReal)
    (w : Fin a → Fin b → EReal) (e : Fin b → EReal) (k : Fin b) : EReal :=
  max (Finset.univ.fold max low fun n =>
    max (∑ j, max (∑ i, x i * u i j + ∑ i, (y n i - x i) * v i j + c j) 0 * w j k + e k) 0) 0

/-- The value of a point as the cloud `s` counts it. -/
abbrev counted (b s : BitVec 32) (o : EReal) : EReal := Scalar.select (IntOp.cmpi .eq b s) o low

/-- One feature of one cloud. -/
def cloud {n : ℕ} (b : Fin n → BitVec 32) (o : Fin n → EReal) (s : BitVec 32) : EReal :=
  Finset.univ.fold max low fun i => counted (b i) s (o i)

/-- The largest over the first `n` points. -/
def upTo (n : ℕ) (f : Fin 8192 → EReal) : EReal := (Finset.univ.filter fun i : Fin 8192 => i.val < n).fold max low f

theorem upTo_le (n : ℕ) (f : Fin 8192 → EReal) (z : EReal) :
    upTo n f ≤ z ↔ low ≤ z ∧ ∀ i : Fin 8192, i.val < n → f i ≤ z := by
  rw [upTo, Finset.fold_max_le]
  simp

theorem upTo_zero (f : Fin 8192 → EReal) : upTo 0 f = low :=
  eq_of_forall_ge_iff fun z => by rw [upTo_le]; exact ⟨fun h => h.1, fun h => ⟨h, fun i hi => absurd hi (Nat.not_lt_zero _)⟩⟩

theorem upTo_all (f : Fin 8192 → EReal) : upTo 8192 f = Finset.univ.fold max low f := by
  rw [upTo, Finset.filter_true_of_mem fun i _ => i.isLt]

/-- The next 256 points. -/
theorem upTo_step (f : Fin 8192 → EReal) (t : ℕ) (ht : t < 32) :
    max (upTo (t * 256) f) (Finset.univ.fold max low fun r : Fin 256 => f ⟨t * 256 + r.val, by omega⟩)
      = upTo ((t + 1) * 256) f :=
  eq_of_forall_ge_iff fun z => by
    rw [max_le_iff, upTo_le, upTo_le, Finset.fold_max_le]
    constructor
    · rintro ⟨⟨hl, h⟩, -, h'⟩
      refine ⟨hl, fun i hi => ?_⟩
      by_cases hb : i.val < t * 256
      · exact h i hb
      · have := h' ⟨i.val - t * 256, by omega⟩ (Finset.mem_univ _)
        have he : (⟨t * 256 + (i.val - t * 256), by omega⟩ : Fin 8192) = i := Fin.ext (by show t * 256 + (i.val - t * 256) = i.val; omega)
        rwa [he] at this
    · rintro ⟨hl, h⟩
      exact ⟨⟨hl, fun i hi => h i (by omega)⟩, hl, fun r _ => h _ (by show t * 256 + r.val < (t + 1) * 256; omega)⟩

/-! ## A block of eight rows written a row at a time -/

/-- Reading the row just written. -/
theorem canon_hit {w : ℕ} (n : ℕ) (h : ∀ a, (![n, 0] : Fin 2 → ℕ) a + (![1, w] : Fin 2 → ℕ) a ≤ (⟨2, ![8, w]⟩ : Shape).size a)
    (p : (Rect.unit (s := ⟨2, ![8, w]⟩) ![n, 0] ![1, w] h).shape.Idx → Elt Ideal .f32)
    (H : List (View.Piece (Elt Ideal) ⟨2, ![8, w]⟩ .f32)) (s : Fin 8) (hs : s.val = n) (k : Fin w) :
    View.canon (⟨Rect.unit (s := ⟨2, ![8, w]⟩) ![n, 0] ![1, w] h, p⟩ :: H) (ix2 s k) = p (ix2 (0 : Fin 1) k : (⟨2, ![1, w]⟩ : Shape).Idx) := by
  have he : (ix2 s k : (⟨2, ![8, w]⟩ : Shape).Idx)
      = (Rect.unit (s := ⟨2, ![8, w]⟩) ![n, 0] ![1, w] h).emb (ix2 (0 : Fin 1) k : (⟨2, ![1, w]⟩ : Shape).Idx) := by
    funext a
    apply Fin.ext
    match a with
    | ⟨0, _⟩ => show s.val = n + 1 * 0; omega
    | ⟨1, _⟩ => show k.val = 0 + 1 * k.val; omega
  rw [he]
  exact View.canon_cons_emb _ p H _

/-- Reading another row. -/
theorem canon_miss {w : ℕ} (n : ℕ) (h : ∀ a, (![n, 0] : Fin 2 → ℕ) a + (![1, w] : Fin 2 → ℕ) a ≤ (⟨2, ![8, w]⟩ : Shape).size a)
    (p : (Rect.unit (s := ⟨2, ![8, w]⟩) ![n, 0] ![1, w] h).shape.Idx → Elt Ideal .f32)
    (H : List (View.Piece (Elt Ideal) ⟨2, ![8, w]⟩ .f32)) (s : Fin 8) (hs : s.val ≠ n) (k : Fin w) :
    View.canon (⟨Rect.unit (s := ⟨2, ![8, w]⟩) ![n, 0] ![1, w] h, p⟩ :: H) (ix2 s k) = View.canon H (ix2 s k) := by
  refine View.canon_cons_of_not_mem _ H fun hm => ?_
  have h1 : n ≤ s.val ∧ s.val < n + 1 := (Rect.mem_set_unit (inb := h) (i := ix2 s k)).mp hm 0
  omega

/-- A row of a block, loaded. -/
theorem ld_row {w : ℕ} (n : ℕ) (h : ∀ a, (![n, 0] : Fin 2 → ℕ) a + (![1, w] : Fin 2 → ℕ) a ≤ (⟨2, ![8, w]⟩ : Shape).size a)
    (f : (⟨2, ![8, w]⟩ : Shape).Idx → Elt Ideal .f32) (s : Fin 8) (hs : s.val = n) (k : Fin w) :
    View.ld f (Rect.unit (s := ⟨2, ![8, w]⟩) ![n, 0] ![1, w] h) (ix2 (0 : Fin 1) k : (⟨2, ![1, w]⟩ : Shape).Idx) = f (ix2 s k) := by
  show f _ = f _
  congr 1
  funext a
  apply Fin.ext
  match a with
  | ⟨0, _⟩ => show n + 1 * 0 = s.val; omega
  | ⟨1, _⟩ => show 0 + 1 * k.val = k.val; omega

/-- A row of what rows written so far leave, loaded. -/
theorem readCov_row {sig : RefSig} {κ : Kind} {sp : Space} {w : ℕ} (v : View sig κ sp ⟨2, ![8, w]⟩ .f32) (n : ℕ)
    (h : ∀ a, (![n, 0] : Fin 2 → ℕ) a + (![1, w] : Fin 2 → ℕ) a ≤ (⟨2, ![8, w]⟩ : Shape).size a)
    (H : List (View.Piece (Elt Ideal) ⟨2, ![8, w]⟩ .f32)) (s : Fin 8) (hs : s.val = n) (k : Fin w) :
    v.readCov H (Rect.unit (s := ⟨2, ![8, w]⟩) ![n, 0] ![1, w] h).toLoadRect (ix2 (0 : Fin 1) k : (⟨2, ![1, w]⟩ : Shape).Idx)
      = View.canon H (ix2 s k) := by
  rw [View.readCov_eq_canon']
  exact ld_row n h (View.canon H) s hs k

/-! ## A reference's maximum over the neighbours -/

/-- The largest along the middle axis, element by element. -/
theorem reduce_mid {N M w : ℕ} (q : FVec Ideal ⟨3, ![N, M, w]⟩ .f32) (c : FVec Ideal ⟨0, ![]⟩ .f32)
    (h : (⟨3, ![N, M, w]⟩ : Shape).ReducesTo [1] ⟨2, ![N, w]⟩) (hu : 0 < (⟨0, ![]⟩ : Shape).numel) (i : Fin N) (k : Fin w) :
    Host.reduce FloatOps.maximumf q c h hu (ix2 i k)
      = Finset.univ.fold max (c (Shape.Idx.first hu)) fun n : Fin M => q (ix3 i n k) := by
  simp only [pointwise]

end Cert.Proof.Edge
end
-- ==== Proof.EdgeABody.lean ====
/-
  What the two cases of the first edge call's body leave, over the extended reals.  A point of the grid takes 256
  points of the cloud: it writes their features, and makes the eight cloud rows the largest of what they were and of the
  features of its own points.  At the first point of the grid the rows start from the least value.
-/
module

public import proofs.«01_k».proof.Defs
public import proofs.«01_k».proof.Proof.Gen.EdgeAIdeal.Value
public import proofs.«01_k».proof.Proof.EdgeSpec

@[expose] public section

noncomputable section

open Idealize.ShloMosaic Idealize.ShloMosaic.TcCoe Idealize.SL.Sem

namespace Cert.Proof.EdgeA

open Cert.EdgeAIdeal Cert.EdgeAIdeal.Gen Cert.Proof.Edge

theorem zeros2 : (![0, 0] : Fin 2 → Nat) = fun _ => 0 := funext fun a => by fin_cases a <;> rfl

/-! ## The stored values -/

/-- The features of a block's points. -/
theorem features (v0 : Vec Ideal S256x128 .f32) (v3 : Vec Ideal S4096x128 .f32) (v12 : Vec Ideal S6x32 .f32)
    (v16 : Vec Ideal S1x32 .f32) (v22 : Vec Ideal S32x64 .f32) (v26 : Vec Ideal S1x64 .f32) (r : Fin 256)
    (k : Fin 64) :
    k0_pay4 v0 v3 v12 v16 v22 v26 (ix2 r k)
      = point (fun i : Fin 3 => v0 (ix2 r (⟨i.val, by omega⟩ : Fin 128)))
          (fun n i => v3 (ix2 (⟨r.val * 16 + n.val, by omega⟩ : Fin 4096) (⟨i.val, by omega⟩ : Fin 128)))
          (fun i j => v12 (ix2 (⟨i.val, by omega⟩ : Fin 6) j))
          (fun i j => v12 (ix2 (⟨3 + i.val, by omega⟩ : Fin 6) j))
          (fun j => v16 (ix2 0 j)) (fun j k => v22 (ix2 j k)) (fun k => v26 (ix2 0 k)) k := by
  pointwise [k0_pay4]
  rfl

/-- A cloud row over one block. -/
abbrev over (o : Vec Ideal S256x64 .f32) (b : Vec Ideal S256x1 .i32) (s : BitVec 32) (k : Fin 64) : EReal :=
  cloud (fun r : Fin 256 => b (ix2 r 0)) (fun r => o (ix2 r k)) s

section Stored

variable (o : Vec Ideal S256x64 .f32) (b : Vec Ideal S256x1 .i32) (v : Vec Ideal S1x64 .f32) (k : Fin 64)

theorem stored0 : k0_pay8 o b v (ix2 (0 : Fin 1) k) = max (v (ix2 0 k)) (over o b 0#32 k) := by
  pointwise [k0_pay8, k0_pay6, k0_pay7]
  rfl
theorem stored1 : k0_pay9 o b v (ix2 (0 : Fin 1) k) = max (v (ix2 0 k)) (over o b 1#32 k) := by
  pointwise [k0_pay9, k0_pay6, k0_pay7]
  rfl
theorem stored2 : k0_pay12 (k0_pay6 o) (k0_pay10 b) k0_pay11 v (ix2 (0 : Fin 1) k) = max (v (ix2 0 k)) (over o b 2#32 k) := by
  pointwise [k0_pay12, k0_pay6, k0_pay10, k0_pay7, k0_pay11]
  rfl
theorem stored3 : k0_pay13 (k0_pay6 o) (k0_pay7 b) v (ix2 (0 : Fin 1) k) = max (v (ix2 0 k)) (over o b 3#32 k) := by
  pointwise [k0_pay13, k0_pay6, k0_pay7]
  rfl
theorem stored4 : k0_pay14 (k0_pay6 o) (k0_pay7 b) v (ix2 (0 : Fin 1) k) = max (v (ix2 0 k)) (over o b 4#32 k) := by
  pointwise [k0_pay14, k0_pay6, k0_pay7]
  rfl
theorem stored5 : k0_pay1 (k0_pay6 o) (k0_pay15 (k0_pay7 b)) k0_pay16 v (ix2 (0 : Fin 1) k) = max (v (ix2 0 k)) (over o b 5#32 k) := by
  pointwise [k0_pay1, k0_pay6, k0_pay15, k0_pay7, k0_pay16]
  rfl
theorem stored6 : k0_pay2 (k0_pay6 o) (k0_pay7 b) v (ix2 (0 : Fin 1) k) = max (v (ix2 0 k)) (over o b 6#32 k) := by
  pointwise [k0_pay2, k0_pay6, k0_pay7]
  rfl
theorem stored7 : k0_pay3 (k0_pay6 o) (k0_pay7 b) v (ix2 (0 : Fin 1) k) = max (v (ix2 0 k)) (over o b 7#32 k) := by
  pointwise [k0_pay3, k0_pay6, k0_pay7]
  rfl

end Stored

/-! ## The two cases -/

/-- Case A: the features. -/
theorem outA7 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S6x32 .f32) (harg3 : arg3.IsWhole)
    (arg4 : Memref sig .tc .vmem S1x32 .f32) (harg4 : arg4.IsWhole)
    (arg5 : Memref sig .tc .vmem S32x64 .f32) (harg5 : arg5.IsWhole)
    (arg6 : Memref sig .tc .vmem S1x64 .f32) (harg6 : arg6.IsWhole)
    (arg7 : Memref sig .tc .vmem S256x1 .i32) (harg7 : arg7.IsWhole)
    (arg8 : Memref sig .tc .vmem S256x64 .f32) (harg8 : arg8.IsWhole)
    (arg9 : Memref sig .tc .vmem S8x64 .f32) (harg9 : arg9.IsWhole) (hc0 : cond0_0 i)
    (x0 : Vec Ideal S256x128 .f32)
    (x1 : Vec Ideal S4096x128 .f32)
    (x2 : Vec Ideal S6x32 .f32)
    (x3 : Vec Ideal S1x32 .f32)
    (x4 : Vec Ideal S32x64 .f32)
    (x5 : Vec Ideal S1x64 .f32)
    (x6 : Vec Ideal S256x1 .i32) :
    out0_A_7 c i arg1 harg1 arg2 harg2 arg3 harg3 arg4 harg4 arg5 harg5 arg6 harg6 arg7 harg7 arg8 harg8 arg9 harg9 hc0 x0 x1 x2 x3 x4 x5 x6 = k0_pay4 x0 x1 x2 x3 x4 x5 := by
  unfold out0_A_7
  rw [View.read_writes_junk_eq_canon]
  unfold kernelRun0_A
  dsimp only
  sl_unfold_words
  rw [View.canon_unit_zero zeros2]
  simp only [View.readAt_eq_ld, harg1.read_unread, harg2.read_unread, harg3.read_unread,
    harg4.read_unread, harg5.read_unread, harg6.read_unread, harg7.read_unread,
    View.ld_unit_zero (S := S256x128) zeros2, View.ld_unit_zero (S := S4096x128) zeros2,
    View.ld_unit_zero (S := S6x32) zeros2, View.ld_unit_zero (S := S1x32) zeros2,
    View.ld_unit_zero (S := S32x64) zeros2, View.ld_unit_zero (S := S1x64) zeros2,
    View.ld_unit_zero (S := S256x1) zeros2]

/-- Case B: the features. -/
theorem outB7 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S6x32 .f32) (harg3 : arg3.IsWhole)
    (arg4 : Memref sig .tc .vmem S1x32 .f32) (harg4 : arg4.IsWhole)
    (arg5 : Memref sig .tc .vmem S32x64 .f32) (harg5 : arg5.IsWhole)
    (arg6 : Memref sig .tc .vmem S1x64 .f32) (harg6 : arg6.IsWhole)
    (arg7 : Memref sig .tc .vmem S256x1 .i32) (harg7 : arg7.IsWhole)
    (arg8 : Memref sig .tc .vmem S256x64 .f32) (harg8 : arg8.IsWhole)
    (arg9 : Memref sig .tc .vmem S8x64 .f32) (harg9 : arg9.IsWhole) (hc0 : ¬cond0_0 i)
    (x0 : Vec Ideal S256x128 .f32)
    (x1 : Vec Ideal S4096x128 .f32)
    (x2 : Vec Ideal S6x32 .f32)
    (x3 : Vec Ideal S1x32 .f32)
    (x4 : Vec Ideal S32x64 .f32)
    (x5 : Vec Ideal S1x64 .f32)
    (x6 : Vec Ideal S256x1 .i32) (xo8 : Vec Ideal S8x64 .f32) :
    out0_B_7 c i arg1 harg1 arg2 harg2 arg3 harg3 arg4 harg4 arg5 harg5 arg6 harg6 arg7 harg7 arg8 harg8 arg9 harg9 hc0 x0 x1 x2 x3 x4 x5 x6 xo8 = k0_pay4 x0 x1 x2 x3 x4 x5 := by
  unfold out0_B_7
  rw [View.read_writes_junk_eq_canon]
  unfold kernelRun0_B
  dsimp only
  sl_unfold_words
  rw [View.canon_unit_zero zeros2]
  simp only [View.readAt_eq_ld, harg1.read_unread, harg2.read_unread, harg3.read_unread,
    harg4.read_unread, harg5.read_unread, harg6.read_unread, harg7.read_unread,
    View.ld_unit_zero (S := S256x128) zeros2, View.ld_unit_zero (S := S4096x128) zeros2,
    View.ld_unit_zero (S := S6x32) zeros2, View.ld_unit_zero (S := S1x32) zeros2,
    View.ld_unit_zero (S := S32x64) zeros2, View.ld_unit_zero (S := S1x64) zeros2,
    View.ld_unit_zero (S := S256x1) zeros2]

/-- Case B: the cloud rows. -/
theorem outB8 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S6x32 .f32) (harg3 : arg3.IsWhole)
    (arg4 : Memref sig .tc .vmem S1x32 .f32) (harg4 : arg4.IsWhole)
    (arg5 : Memref sig .tc .vmem S32x64 .f32) (harg5 : arg5.IsWhole)
    (arg6 : Memref sig .tc .vmem S1x64 .f32) (harg6 : arg6.IsWhole)
    (arg7 : Memref sig .tc .vmem S256x1 .i32) (harg7 : arg7.IsWhole)
    (arg8 : Memref sig .tc .vmem S256x64 .f32) (harg8 : arg8.IsWhole)
    (arg9 : Memref sig .tc .vmem S8x64 .f32) (harg9 : arg9.IsWhole) (hc0 : ¬cond0_0 i)
    (x0 : Vec Ideal S256x128 .f32)
    (x1 : Vec Ideal S4096x128 .f32)
    (x2 : Vec Ideal S6x32 .f32)
    (x3 : Vec Ideal S1x32 .f32)
    (x4 : Vec Ideal S32x64 .f32)
    (x5 : Vec Ideal S1x64 .f32)
    (x6 : Vec Ideal S256x1 .i32)
    (xo8 : Vec Ideal S8x64 .f32) (s : Fin 8) (k : Fin 64) :
    out0_B_8 c i arg1 harg1 arg2 harg2 arg3 harg3 arg4 harg4 arg5 harg5 arg6 harg6 arg7 harg7 arg8 harg8 arg9 harg9 hc0 x0 x1 x2 x3 x4 x5 x6 xo8 (ix2 s k)
      = max (xo8 (ix2 s k)) (over (k0_pay4 x0 x1 x2 x3 x4 x5) x6 (BitVec.ofNat 32 s.val) k) := by
  unfold out0_B_8
  rw [View.read_writes_junk_eq_canon]
  unfold kernelRun0_B
  dsimp only
  sl_unfold_words
  have hx : ∀ H : Vec Ideal S256x64 .f32, arg8.view.readCov (Val := Elt Ideal)
      [⟨Rect.unit ![0, 0] S256x64.size inb_S256x64_S256x64_0_0, H⟩]
      (Rect.unit ![0, 0] S256x64.size inb_S256x64_S256x64_0_0).toLoadRect = H :=
    fun H => View.readCov_unit_zero arg8.view zeros2 _ H
  match s with
  | ⟨0, _⟩ =>
    iterate 7 refine (canon_miss _ _ _ _ _ (by decide +revert) k).trans ?_
    refine (canon_hit 0 _ _ _ ⟨0, by omega⟩ rfl k).trans ((stored0 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 0 _ xo8 ⟨0, by omega⟩ rfl k]
  | ⟨1, _⟩ =>
    iterate 6 refine (canon_miss _ _ _ _ _ (by decide +revert) k).trans ?_
    refine (canon_hit 1 _ _ _ ⟨1, by omega⟩ rfl k).trans ((stored1 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 1 _ xo8 ⟨1, by omega⟩ rfl k]
  | ⟨2, _⟩ =>
    iterate 5 refine (canon_miss _ _ _ _ _ (by decide +revert) k).trans ?_
    refine (canon_hit 2 _ _ _ ⟨2, by omega⟩ rfl k).trans ((stored2 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 2 _ xo8 ⟨2, by omega⟩ rfl k]
  | ⟨3, _⟩ =>
    iterate 4 refine (canon_miss _ _ _ _ _ (by decide +revert) k).trans ?_
    refine (canon_hit 3 _ _ _ ⟨3, by omega⟩ rfl k).trans ((stored3 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 3 _ xo8 ⟨3, by omega⟩ rfl k]
  | ⟨4, _⟩ =>
    iterate 3 refine (canon_miss _ _ _ _ _ (by decide +revert) k).trans ?_
    refine (canon_hit 4 _ _ _ ⟨4, by omega⟩ rfl k).trans ((stored4 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 4 _ xo8 ⟨4, by omega⟩ rfl k]
  | ⟨5, _⟩ =>
    iterate 2 refine (canon_miss _ _ _ _ _ (by decide +revert) k).trans ?_
    refine (canon_hit 5 _ _ _ ⟨5, by omega⟩ rfl k).trans ((stored5 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 5 _ xo8 ⟨5, by omega⟩ rfl k]
  | ⟨6, _⟩ =>
    iterate 1 refine (canon_miss _ _ _ _ _ (by decide +revert) k).trans ?_
    refine (canon_hit 6 _ _ _ ⟨6, by omega⟩ rfl k).trans ((stored6 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 6 _ xo8 ⟨6, by omega⟩ rfl k]
  | ⟨7, _⟩ =>
    refine (canon_hit 7 _ _ _ ⟨7, by omega⟩ rfl k).trans ((stored7 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S6x32) zeros2, View.ld_unit_zero (S := S1x32) zeros2,
      View.ld_unit_zero (S := S32x64) zeros2, View.ld_unit_zero (S := S1x64) zeros2,
      View.ld_unit_zero (S := S256x1) zeros2]
    rw [show View.ld xo8 _ _ = _ from ld_row 7 _ xo8 ⟨7, by omega⟩ rfl k]

/-- Case A: the cloud rows. -/
theorem outA8 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S6x32 .f32) (harg3 : arg3.IsWhole)
    (arg4 : Memref sig .tc .vmem S1x32 .f32) (harg4 : arg4.IsWhole)
    (arg5 : Memref sig .tc .vmem S32x64 .f32) (harg5 : arg5.IsWhole)
    (arg6 : Memref sig .tc .vmem S1x64 .f32) (harg6 : arg6.IsWhole)
    (arg7 : Memref sig .tc .vmem S256x1 .i32) (harg7 : arg7.IsWhole)
    (arg8 : Memref sig .tc .vmem S256x64 .f32) (harg8 : arg8.IsWhole)
    (arg9 : Memref sig .tc .vmem S8x64 .f32) (harg9 : arg9.IsWhole) (hc0 : cond0_0 i)
    (x0 : Vec Ideal S256x128 .f32)
    (x1 : Vec Ideal S4096x128 .f32)
    (x2 : Vec Ideal S6x32 .f32)
    (x3 : Vec Ideal S1x32 .f32)
    (x4 : Vec Ideal S32x64 .f32)
    (x5 : Vec Ideal S1x64 .f32)
    (x6 : Vec Ideal S256x1 .i32)
    (s : Fin 8) (k : Fin 64) :
    out0_A_8 c i arg1 harg1 arg2 harg2 arg3 harg3 arg4 harg4 arg5 harg5 arg6 harg6 arg7 harg7 arg8 harg8 arg9 harg9 hc0 x0 x1 x2 x3 x4 x5 x6 (ix2 s k)
      = max low (over (k0_pay4 x0 x1 x2 x3 x4 x5) x6 (BitVec.ofNat 32 s.val) k) := by
  unfold out0_A_8
  rw [View.read_writes_junk_eq_canon]
  unfold kernelRun0_A
  dsimp only
  unfold kernelRun0_A.sl.H8_8 kernelRun0_A.sl.H8_7 kernelRun0_A.sl.H8_6 kernelRun0_A.sl.H8_5 kernelRun0_A.sl.H8_4
    kernelRun0_A.sl.H8_3 kernelRun0_A.sl.H8_2
  unfold kernelRun0_A.sl.r_3 kernelRun0_A.sl.r_2 kernelRun0_A.sl.r_1 kernelRun0_A.sl.r
  have hx : ∀ H : Vec Ideal S256x64 .f32, arg8.view.readCov (Val := Elt Ideal)
      [⟨Rect.unit ![0, 0] S256x64.size inb_S256x64_S256x64_0_0, H⟩]
      (Rect.unit ![0, 0] S256x64.size inb_S256x64_S256x64_0_0).toLoadRect = H :=
    fun H => View.readCov_unit_zero arg8.view zeros2 _ H
  have h1 : ∀ i : S8x64.Idx, View.canon (kernelRun0_A.sl.H8_1 (F := Ideal)) i = low := fun i => by
    unfold kernelRun0_A.sl.H8_1; rw [View.canon_unit_zero zeros2]; rfl
  match s with
  | ⟨0, _⟩ =>
    iterate 7 refine (canon_miss _ _ _ _ _ (by decide +revert) k).trans ?_
    refine (canon_hit 0 _ _ _ ⟨0, by omega⟩ rfl k).trans ((stored0 _ _ _ k).trans (congrArg₂ max ?_ ?_))
    · unfold kernelRun0_A.sl.v52
      refine (readCov_row _ 0 _ _ ⟨0, by omega⟩ rfl k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨1, _⟩ =>
    iterate 6 refine (canon_miss _ _ _ _ _ (by decide +revert) k).trans ?_
    refine (canon_hit 1 _ _ _ ⟨1, by omega⟩ rfl k).trans ((stored1 _ _ _ k).trans (congrArg₂ max ?_ ?_))
    · unfold kernelRun0_A.sl.v64
      refine (readCov_row _ 1 _ _ ⟨1, by omega⟩ rfl k).trans ?_
      unfold kernelRun0_A.sl.H8_2
      iterate 1 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨2, _⟩ =>
    iterate 5 refine (canon_miss _ _ _ _ _ (by decide +revert) k).trans ?_
    refine (canon_hit 2 _ _ _ ⟨2, by omega⟩ rfl k).trans ((stored2 _ _ _ k).trans (congrArg₂ max ?_ ?_))
    · unfold kernelRun0_A.sl.v76
      refine (readCov_row _ 2 _ _ ⟨2, by omega⟩ rfl k).trans ?_
      unfold kernelRun0_A.sl.H8_3 kernelRun0_A.sl.H8_2
      iterate 2 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨3, _⟩ =>
    iterate 4 refine (canon_miss _ _ _ _ _ (by decide +revert) k).trans ?_
    refine (canon_hit 3 _ _ _ ⟨3, by omega⟩ rfl k).trans ((stored3 _ _ _ k).trans (congrArg₂ max ?_ ?_))
    · unfold kernelRun0_A.sl.v88
      refine (readCov_row _ 3 _ _ ⟨3, by omega⟩ rfl k).trans ?_
      unfold kernelRun0_A.sl.H8_4 kernelRun0_A.sl.H8_3 kernelRun0_A.sl.H8_2
      iterate 3 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨4, _⟩ =>
    iterate 3 refine (canon_miss _ _ _ _ _ (by decide +revert) k).trans ?_
    refine (canon_hit 4 _ _ _ ⟨4, by omega⟩ rfl k).trans ((stored4 _ _ _ k).trans (congrArg₂ max ?_ ?_))
    · unfold kernelRun0_A.sl.v100
      refine (readCov_row _ 4 _ _ ⟨4, by omega⟩ rfl k).trans ?_
      unfold kernelRun0_A.sl.H8_5 kernelRun0_A.sl.H8_4 kernelRun0_A.sl.H8_3 kernelRun0_A.sl.H8_2
      iterate 4 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨5, _⟩ =>
    iterate 2 refine (canon_miss _ _ _ _ _ (by decide +revert) k).trans ?_
    refine (canon_hit 5 _ _ _ ⟨5, by omega⟩ rfl k).trans ((stored5 _ _ _ k).trans (congrArg₂ max ?_ ?_))
    · unfold kernelRun0_A.sl.v112
      refine (readCov_row _ 5 _ _ ⟨5, by omega⟩ rfl k).trans ?_
      unfold kernelRun0_A.sl.H8_6 kernelRun0_A.sl.H8_5 kernelRun0_A.sl.H8_4 kernelRun0_A.sl.H8_3 kernelRun0_A.sl.H8_2
      iterate 5 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨6, _⟩ =>
    iterate 1 refine (canon_miss _ _ _ _ _ (by decide +revert) k).trans ?_
    refine (canon_hit 6 _ _ _ ⟨6, by omega⟩ rfl k).trans ((stored6 _ _ _ k).trans (congrArg₂ max ?_ ?_))
    · unfold kernelRun0_A.sl.v124
      refine (readCov_row _ 6 _ _ ⟨6, by omega⟩ rfl k).trans ?_
      unfold kernelRun0_A.sl.H8_7 kernelRun0_A.sl.H8_6 kernelRun0_A.sl.H8_5 kernelRun0_A.sl.H8_4 kernelRun0_A.sl.H8_3 kernelRun0_A.sl.H8_2
      iterate 6 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]
  | ⟨7, _⟩ =>
    refine (canon_hit 7 _ _ _ ⟨7, by omega⟩ rfl k).trans ((stored7 _ _ _ k).trans (congrArg₂ max ?_ ?_))
    · unfold kernelRun0_A.sl.v136
      refine (readCov_row _ 7 _ _ ⟨7, by omega⟩ rfl k).trans ?_
      unfold kernelRun0_A.sl.H8_8 kernelRun0_A.sl.H8_7 kernelRun0_A.sl.H8_6 kernelRun0_A.sl.H8_5 kernelRun0_A.sl.H8_4 kernelRun0_A.sl.H8_3 kernelRun0_A.sl.H8_2
      iterate 7 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S6x32) zeros2, View.ld_unit_zero (S := S1x32) zeros2,
        View.ld_unit_zero (S := S32x64) zeros2, View.ld_unit_zero (S := S1x64) zeros2,
        View.ld_unit_zero (S := S256x1) zeros2]

end Cert.Proof.EdgeA
end
-- ==== Proof.EdgeAValue.lean ====
/-
  The first edge call over the extended reals, point by point of the cloud.  The features of point `i` are those of its
  row and of its sixteen neighbour rows; a cloud's row is the largest over its points.  The call's grid has thirty-two
  points of 256 points of the cloud; each writes its own features, and the cloud rows are carried from one to the next
  and written back after the last.
-/
module

public import proofs.«01_k».proof.Proof.EdgeABody
public import Idealize.ShloMosaic.Lib.KernelVsHost

@[expose] public section

noncomputable section

open Idealize.ShloMosaic Idealize.ShloMosaic.TcCoe Idealize.SL.Sem

namespace Cert.Proof.EdgeA

open Cert.EdgeAIdeal Cert.EdgeAIdeal.Gen Cert.Proof.Edge

variable (m : (ℓ : Loc nD τ sig) → Buf (Elt Ideal) ℓ) (c : Dev nD)

/-- Argument arrays of the call. -/
abbrev arg (b : Ref sig .tc) : Buf (Elt Ideal) ((c : Thread nD τ).loc b) := m ((c : Thread nD τ).loc b)

/-- One feature of point `i` of the arguments. -/
abbrev featureAt (i : Fin 8192) (k : Fin 64) : EReal :=
  point (fun l : Fin 3 => arg m c main_arg0 (ix2 i l))
    (fun n l => arg m c main_arg1 (ix2 (⟨i.val * 16 + n.val, by omega⟩ : Fin 131072) (⟨l.val, by omega⟩ : Fin 128)))
    (fun l j => arg m c main_arg3 (ix2 (⟨l.val, by omega⟩ : Fin 6) j))
    (fun l j => arg m c main_arg3 (ix2 (⟨3 + l.val, by omega⟩ : Fin 6) j))
    (fun j => arg m c main_arg4 (ix1 j)) (fun j k => arg m c main_arg5 (ix2 j k)) (fun k => arg m c main_arg6 (ix1 k)) k

/-- The features of the arguments. -/
abbrev featuresOf : Buf (Elt Ideal) ((c : Thread nD τ).loc main_v4_0) := fun (i : S8192x64.Idx) =>
  featureAt m c (i 0) (i 1)

/-- One feature of one cloud of the arguments. -/
abbrev cloudAt (s : Fin 8) (k : Fin 64) : EReal :=
  cloud (fun i : Fin 8192 => arg m c main_arg2 (ix1 i)) (fun i => featureAt m c i k) (BitVec.ofNat 32 s.val)

/-- The cloud rows of the arguments. -/
abbrev cloudsOf : Buf (Elt Ideal) ((c : Thread nD τ).loc main_v4_1) := fun (i : S8x64.Idx) => cloudAt m c (i 0) (i 1)

/-! ## The blocks of the input windows -/

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = 0 ∧ win0_8.index t 1 = 0 := by decide +kernel

theorem points (t : Fin cfg0.N) : t.val < 32 := lt_of_lt_of_eq t.isLt N_0

/-- The point of the cloud that row `r` of point `t`'s blocks is. -/
abbrev place (t : Fin cfg0.N) (r : Fin 256) : Fin 8192 := ⟨t.val * 256 + r.val, by have := points t; omega⟩

theorem entry_v0 : V m c main_v0 = shapeCast S8192x1 (arg m c main_arg2) shapeCasts_S8192_S8192x1 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v1 : V m c main_v1 = pad S8192x128 ![0, 0] ![0, 125] ![0, 0] (arg m c main_arg0)
    (sitofp (F := Ideal) .f32 (constantI S_ 32 0#32)) pads_S8192x3_S8192x128_000_01250 h_S_ := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v2 : V m c main_v2 = shapeCast S1x32 (arg m c main_arg4) shapeCasts_S32_S1x32 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v3 : V m c main_v3 = shapeCast S1x64 (arg m c main_arg6) shapeCasts_S64_S1x64 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl

theorem in0 (t : Fin cfg0.N) (r : Fin 256) (l : Fin 3) :
    iblk m c 0 t (ix2 r (⟨l.val, by omega⟩ : Fin 128)) = arg m c main_arg0 (ix2 (place t r) l) := by
  unfold iblk
  rw [View.read_apply]
  refine (congrArg (V m c main_v1)
    (?_ : _ = (ix2 (place t r) (⟨l.val, by omega⟩ : Fin 128) : S8192x128.Idx))).trans ?_
  · funext i
    apply Fin.ext
    match i with
    | ⟨0, _⟩ => show win0_0.index t 0 * 256 + 1 * r.val = t.val * 256 + r.val; rw [(at0 t).1]; omega
    | ⟨1, _⟩ => show win0_0.index t 1 * 128 + 1 * l.val = l.val; rw [(at0 t).2]; omega
  · rw [entry_v1]
    refine pad_apply_of_inside _ _ _ _ _ _ _ _ (ix2 (place t r) l : S8192x3.Idx) fun a => ?_
    match a with
    | ⟨0, _⟩ => show t.val * 256 + r.val = 0 + (t.val * 256 + r.val) * 1; omega
    | ⟨1, _⟩ => show l.val = 0 + l.val * 1; omega

theorem in1 (t : Fin cfg0.N) (r : Fin 256) (n : Fin 16) (l : Fin 128) :
    iblk m c 1 t (ix2 (⟨r.val * 16 + n.val, by omega⟩ : Fin 4096) l)
      = arg m c main_arg1 (ix2 (⟨(place t r).val * 16 + n.val, by have := points t; omega⟩ : Fin 131072) l) := by
  unfold iblk
  rw [View.read_apply]
  show V m c main_arg1 _ = _
  rw [V_main_arg1]
  congr 1
  funext a
  apply Fin.ext
  match a with
  | ⟨0, _⟩ =>
    show win0_1.index t 0 * 4096 + 1 * (r.val * 16 + n.val) = (t.val * 256 + r.val) * 16 + n.val
    rw [(at1 t).1]; omega
  | ⟨1, _⟩ => show win0_1.index t 1 * 128 + 1 * l.val = l.val; rw [(at1 t).2]; omega

theorem in2 (t : Fin cfg0.N) (r : Fin 6) (l : Fin 32) : iblk m c 2 t (ix2 r l) = arg m c main_arg3 (ix2 r l) := by
  unfold iblk
  rw [View.read_apply]
  refine (congrArg (V m c main_arg3) (?_ : _ = (ix2 r l : (⟨2, ![6, 32]⟩ : Shape).Idx))).trans ?_
  · funext i
    apply Fin.ext
    match i with
    | ⟨0, _⟩ => show 0 * 6 + 1 * r.val = r.val; omega
    | ⟨1, _⟩ => show 0 * 32 + 1 * l.val = l.val; omega
  · rw [V_main_arg3]

theorem in3 (t : Fin cfg0.N) (r : Fin 1) (l : Fin 32) : iblk m c 3 t (ix2 r l) = arg m c main_arg4 (ix1 l) := by
  unfold iblk
  rw [View.read_apply]
  refine (congrArg (V m c main_v2) (?_ : _ = (ix2 r l : (⟨2, ![1, 32]⟩ : Shape).Idx))).trans ?_
  · funext i
    apply Fin.ext
    match i with
    | ⟨0, _⟩ => show 0 * 1 + 1 * r.val = r.val; omega
    | ⟨1, _⟩ => show 0 * 32 + 1 * l.val = l.val; omega
  · rw [entry_v2]
    obtain rfl := Subsingleton.elim r 0
    pointwise

theorem in4 (t : Fin cfg0.N) (r : Fin 32) (l : Fin 64) : iblk m c 4 t (ix2 r l) = arg m c main_arg5 (ix2 r l) := by
  unfold iblk
  rw [View.read_apply]
  refine (congrArg (V m c main_arg5) (?_ : _ = (ix2 r l : (⟨2, ![32, 64]⟩ : Shape).Idx))).trans ?_
  · funext i
    apply Fin.ext
    match i with
    | ⟨0, _⟩ => show 0 * 32 + 1 * r.val = r.val; omega
    | ⟨1, _⟩ => show 0 * 64 + 1 * l.val = l.val; omega
  · rw [V_main_arg5]

theorem in5 (t : Fin cfg0.N) (r : Fin 1) (l : Fin 64) : iblk m c 5 t (ix2 r l) = arg m c main_arg6 (ix1 l) := by
  unfold iblk
  rw [View.read_apply]
  refine (congrArg (V m c main_v3) (?_ : _ = (ix2 r l : (⟨2, ![1, 64]⟩ : Shape).Idx))).trans ?_
  · funext i
    apply Fin.ext
    match i with
    | ⟨0, _⟩ => show 0 * 1 + 1 * r.val = r.val; omega
    | ⟨1, _⟩ => show 0 * 64 + 1 * l.val = l.val; omega
  · rw [entry_v3]
    obtain rfl := Subsingleton.elim r 0
    pointwise

theorem in6 (t : Fin cfg0.N) (r : Fin 256) :
    iblk m c 6 t (ix2 r (0 : Fin 1)) = arg m c main_arg2 (ix1 (place t r)) := by
  unfold iblk
  rw [View.read_apply]
  refine (congrArg (V m c main_v0) (?_ : _ = (ix2 (place t r) 0 : S8192x1.Idx))).trans ?_
  · funext i
    apply Fin.ext
    match i with
    | ⟨0, _⟩ => show win0_6.index t 0 * 256 + 1 * r.val = t.val * 256 + r.val; rw [(at6 t).1]; omega
    | ⟨1, _⟩ => show win0_6.index t 1 * 1 + 1 * 0 = 0; rw [(at6 t).2]
  · rw [entry_v0]
    pointwise

/-! ## The blocks of a point -/

/-- The features a point computes. -/
theorem features_block (t : Fin cfg0.N) (r : Fin 256) (k : Fin 64) :
    k0_pay4 (iblk m c 0 t) (iblk m c 1 t) (iblk m c 2 t) (iblk m c 3 t) (iblk m c 4 t) (iblk m c 5 t) (ix2 r k)
      = featureAt m c (place t r) k := by
  rw [features]
  simp only [in0, in1, in2, in3, in4, in5]

/-- How the cloud `s` counts point `i` of the arguments. -/
abbrev countedAt (s : Fin 8) (k : Fin 64) (i : Fin 8192) : EReal :=
  counted (arg m c main_arg2 (ix1 i)) (BitVec.ofNat 32 s.val) (featureAt m c i k)

/-- A cloud's row over the points of one block. -/
theorem over_block (t : Fin cfg0.N) (s : Fin 8) (k : Fin 64) :
    over (k0_pay4 (iblk m c 0 t) (iblk m c 1 t) (iblk m c 2 t) (iblk m c 3 t) (iblk m c 4 t) (iblk m c 5 t))
      (iblk m c 6 t) (BitVec.ofNat 32 s.val) k
      = Finset.univ.fold max low fun r : Fin 256 => countedAt m c s k (place t r) := by
  unfold over cloud
  rw [funext (in6 m c t), funext fun r => features_block m c t r k]

/-- The first contents after a point. -/
theorem outs_features (t : Fin cfg0.N) (r : Fin 256) (k : Fin 64) :
    (outsAt0 m c t.val t.isLt).1 (ix2 r k) = featureAt m c (place t r) k := by
  by_cases h : t.val % 32 = 0
  · rw [outsAt0_A m c t h]
    dsimp only
    rw [outA7, features_block]
  · rw [outsAt0_B m c t h]
    dsimp only
    rw [outB7, features_block]

/-- The second contents after a point: the largest so far. -/
theorem outs_clouds (s : Fin 8) (k : Fin 64) : ∀ (n : ℕ) (hn : n < cfg0.N),
    (outsAt0 m c n hn).2 (ix2 s k) = upTo ((n + 1) * 256) (countedAt m c s k)
  | 0, hn => by
    rw [outsAt0_A m c ⟨0, hn⟩ rfl]
    dsimp only
    rw [outA8, over_block]
    refine Eq.trans ?_ (upTo_step (countedAt m c s k) 0 (by omega))
    rw [show upTo (0 * 256) (countedAt m c s k) = low from upTo_zero _]
  | n + 1, hn => by
    have hN : n + 1 < 32 := points ⟨n + 1, hn⟩
    rw [outsAt0_B m c ⟨n + 1, hn⟩ (by show ¬(n + 1) % 32 = 0; omega)]
    dsimp only
    rw [outB8, over_block]
    show max ((outsAt0 m c n _).2 (ix2 s k)) _ = _
    rw [outs_clouds s k n (Nat.lt_of_succ_lt hn), ← upTo_step _ (n + 1) hN]

/-! ## What is written back -/

/-- A point's block of an array of the shape of the features, read at an index. -/
theorem read_features (G : Buf (Elt Ideal) ((c : Thread nD τ).loc main_v4_0)) (t : Fin cfg0.N) (r : Fin 256)
    (k : Fin 64) :
    ((cfg0.win 7).blk t).view.read (Elt Ideal) G (ix2 r k : S256x64.Idx) = G (ix2 (place t r) k : S8192x64.Idx) := by
  rw [View.read_apply]
  show G _ = _
  congr 1
  funext a
  apply Fin.ext
  match a with
  | ⟨0, _⟩ => show win0_7.index t 0 * 256 + 1 * r.val = t.val * 256 + r.val; rw [(at7 t).1]; omega
  | ⟨1, _⟩ => show win0_7.index t 1 * 64 + 1 * k.val = k.val; rw [(at7 t).2]; omega

/-- A point's block of the cloud rows, read at an index. -/
theorem read_clouds (G : Buf (Elt Ideal) ((c : Thread nD τ).loc main_v4_1)) (t : Fin cfg0.N) (s : Fin 8) (k : Fin 64) :
    ((cfg0.win 8).blk t).view.read (Elt Ideal) G (ix2 s k : S8x64.Idx) = G (ix2 s k : S8x64.Idx) := by
  rw [View.read_apply]
  show G _ = _
  congr 1
  funext a
  apply Fin.ext
  match a with
  | ⟨0, _⟩ => show win0_8.index t 0 * 8 + 1 * s.val = s.val; rw [(at8 t).1]; omega
  | ⟨1, _⟩ => show win0_8.index t 1 * 64 + 1 * k.val = k.val; rw [(at8 t).2]; omega

theorem flushed_features (t : Fin cfg0.N) :
    (dats m 0 c).flushed 7 t = ((cfg0.win 7).blk t).view.read (Elt Ideal) (featuresOf m c) := by
  rw [Cert.EdgeAIdeal.Value.flushed7]
  funext (j : S256x64.Idx)
  obtain ⟨r, k, rfl⟩ : ∃ (r : Fin 256) (k : Fin 64), j = ix2 r k := ⟨j 0, j 1, eq_ix2 j⟩
  exact (outs_features m c t r k).trans (read_features c (featuresOf m c) t r k).symm

theorem flushed_clouds (t : Fin cfg0.N) (ht : (cfg0.win 8).flush t = true) :
    (dats m 0 c).flushed 8 t = ((cfg0.win 8).blk t).view.read (Elt Ideal) (cloudsOf m c) := by
  have hl : t.val + 1 = 32 := by
    have h1 := (flush0_8 t).mp ht
    have h2 := points t
    omega
  rw [Cert.EdgeAIdeal.Value.flushed8]
  funext (j : S8x64.Idx)
  obtain ⟨s, k, rfl⟩ : ∃ (s : Fin 8) (k : Fin 64), j = ix2 s k := ⟨j 0, j 1, eq_ix2 j⟩
  refine ((outs_clouds m c s k t.val t.isLt).trans ?_).trans (read_clouds c (cloudsOf m c) t s k).symm
  rw [hl]
  exact upTo_all _

/-- The blocks of the points are all the features. -/
theorem cover_features (i : S8192x64.Idx) :
    ∃ t : Fin cfg0.N, (cfg0.win 7).flush t = true ∧ i ∈ ((cfg0.win 7).blk t).view.set := by
  have h0 : (i 0).val < 8192 := (i 0).isLt
  have h1 : (i 1).val < 64 := (i 1).isLt
  let t : Fin cfg0.N := ⟨(i 0).val / 256, lt_of_lt_of_eq (by omega : (i 0).val / 256 < 32) N_0.symm⟩
  refine ⟨t, flush0_7 _, ?_⟩
  show i ∈ ((View.whole main_v4_0).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(at7 t).1]; show (i 0).val / 256 * 256 ≤ _ ∧ _ < (i 0).val / 256 * 256 + 256; omega
  | ⟨1, _⟩ =>
    show win0_7.index t 1 * 64 ≤ (i 1).val ∧ (i 1).val < win0_7.index t 1 * 64 + 64
    rw [(at7 t).2]; omega

/-- The last point's block is all the cloud rows. -/
theorem cover_clouds (i : S8x64.Idx) :
    ∃ t : Fin cfg0.N, (cfg0.win 8).flush t = true ∧ i ∈ ((cfg0.win 8).blk t).view.set := by
  have h0 : (i 0).val < 8 := (i 0).isLt
  have h1 : (i 1).val < 64 := (i 1).isLt
  let t : Fin cfg0.N := ⟨31, lt_of_lt_of_eq (by omega : 31 < 32) N_0.symm⟩
  refine ⟨t, (flush0_8 t).mpr rfl, ?_⟩
  show i ∈ ((View.whole main_v4_1).slice (win0_8.rect t)).set
  rw [View.set_slice_whole, Rect.mem_set_unit]
  intro a
  match a with
  | ⟨0, _⟩ =>
    show win0_8.index t 0 * 8 ≤ (i 0).val ∧ (i 0).val < win0_8.index t 0 * 8 + 8
    rw [(at8 t).1]; omega
  | ⟨1, _⟩ =>
    show win0_8.index t 1 * 64 ≤ (i 1).val ∧ (i 1).val < win0_8.index t 1 * 64 + 64
    rw [(at8 t).2]; omega

theorem final_features : (dats m 0 c).arrAt 7 cfg0.N = featuresOf m c :=
  (dats m 0 c).arrAt_eq_of_cover 7 (featuresOf m c) (fun t _ => flushed_features m c t) cover_features

theorem final_clouds : (dats m 0 c).arrAt 8 cfg0.N = cloudsOf m c :=
  (dats m 0 c).arrAt_eq_of_cover 8 (cloudsOf m c) (fun t ht => flushed_clouds m c t ht) cover_clouds

end Cert.Proof.EdgeA
end
-- ==== Proof.EdgeAClaims.lean ====
/-
  The claims of the first edge call: the frames of the call, of its reading over the extended reals and of its
  reference, and the equality of the two results.
-/
module

public import proofs.«01_k».proof.Proof.EdgeAValue
public import proofs.«01_k».proof.Proof.Gen.EdgeA.Frame
public import proofs.«01_k».proof.Proof.Gen.EdgeARefIdeal.Run
public import Idealize.ShloMosaic.Lib.Quiescent

@[expose] public section

noncomputable section

open Idealize.ShloMosaic Idealize.ShloMosaic.TcCoe Idealize.SL.Sem

namespace Cert.Proof.EdgeA

section Reference

open Cert.EdgeARefIdeal Cert.EdgeARefIdeal.Gen Cert.Proof.Edge

/-- Each point's row beside the difference to each of its neighbours. -/
def refPairs (a0 : FVec Ideal S8192x3 .f32) (a1 : FVec Ideal S131072x128 .f32) : FVec Ideal S8192x16x6 .f32 :=
  concatenate (α := Ideal .f32) S8192x16x6 2
    [⟨S8192x16x3, broadcastInDim S8192x16x3 ![0, 1, 2] bcast_S8192x1x3_S8192x16x3_0_1_2
        (broadcastInDim S8192x1x3 ![0, 2] bcast_S8192x3_S8192x1x3_0_2 a0)⟩,
      ⟨S8192x16x3, subf (extractStridedSlice S8192x16x3 ![0, 0, 0]
          (shapeCast S8192x16x128 a1 shapeCasts_S131072x128_S8192x16x128)
          slices_S8192x16x128_S8192x16x3_0_0_0)
        (broadcastInDim S8192x16x3 ![0, 1, 2] bcast_S8192x1x3_S8192x16x3_0_1_2
          (broadcastInDim S8192x1x3 ![0, 2] bcast_S8192x3_S8192x1x3_0_2 a0))⟩]
    concatenates_S8192x16x3_S8192x16x3_S8192x16x6_d2

/-- The two dense layers on given pairs. -/
def refLayers (p : FVec Ideal S8192x16x6 .f32) (a3 : FVec Ideal S6x32 .f32) (a4 : FVec Ideal S32 .f32)
    (a5 : FVec Ideal S32x64 .f32) (a6 : FVec Ideal S64 .f32) : FVec Ideal S8192x16x64 .f32 :=
  maximumf (addf
    (Host.dotGeneral dot_S8192x16x32_S32x64_S8192x16x64_2_0_01_1_n_n none (maximumf (addf
      (Host.dotGeneral dot_S8192x16x6_S6x32_S8192x16x32_2_0_01_1_n_n none p a3)
      (broadcastInDim S8192x16x32 ![0, 1, 2] bcast_S1x1x32_S8192x16x32_0_1_2
        (broadcastInDim S1x1x32 ![2] bcast_S32_S1x1x32_2 a4)))
      (broadcastInDim S8192x16x32 ![] bcast_S_S8192x16x32 (constant S_ .f32 0x00000000#32))) a5)
    (broadcastInDim S8192x16x64 ![0, 1, 2] bcast_S1x1x64_S8192x16x64_0_1_2
      (broadcastInDim S1x1x64 ![2] bcast_S64_S1x1x64_2 a6)))
    (broadcastInDim S8192x16x64 ![] bcast_S_S8192x16x64 (constant S_ .f32 0x00000000#32))

/-- The largest over the neighbours. -/
def refMost (q : FVec Ideal S8192x16x64 .f32) : FVec Ideal S8192x64 .f32 :=
  maximumf (Host.reduce FloatOps.maximumf q
    (constant S_ .f32 0xFF800000#32) reducesTo_S8192x16x64_S8192x64_d1 h_S_)
    (broadcastInDim S8192x64 ![] bcast_S_S8192x64 (constant S_ .f32 0x00000000#32))

/-- The reference's features. -/
def refFeatures (a0 : FVec Ideal S8192x3 .f32) (a1 : FVec Ideal S131072x128 .f32) (a3 : FVec Ideal S6x32 .f32)
    (a4 : FVec Ideal S32 .f32) (a5 : FVec Ideal S32x64 .f32) (a6 : FVec Ideal S64 .f32) : FVec Ideal S8192x64 .f32 :=
  refMost (refLayers (refPairs a0 a1) a3 a4 a5 a6)

/-- The reference's cloud rows of given features. -/
abbrev refClouds (x : FVec Ideal S8192x64 .f32) (a2 : IVec S8192 32) : FVec Ideal S8x64 .f32 :=
  Host.reduce FloatOps.maximumf (select
    (broadcastInDim S8x8192x64 ![0, 1, 2] bcast_S8x8192x1_S8x8192x64_0_1_2 (cmpi .eq
      (broadcastInDim S8x8192x1 ![0, 1, 2] bcast_S1x8192x1_S8x8192x1_0_1_2
        (broadcastInDim S1x8192x1 ![1] bcast_S8192_S1x8192x1_1 a2))
      (broadcastInDim S8x8192x1 ![0, 1, 2] bcast_S8x1x1_S8x8192x1_0_1_2
        (broadcastInDim S8x1x1 ![0] bcast_S8_S8x1x1_0 (iotaInDim S8 32 0)))))
    (broadcastInDim S8x8192x64 ![0, 1, 2] bcast_S1x8192x64_S8x8192x64_0_1_2
      (broadcastInDim S1x8192x64 ![1, 2] bcast_S8192x64_S1x8192x64_1_2 x))
    (broadcastInDim S8x8192x64 ![] bcast_S_S8x8192x64 (id (constant S_ .f32 0xFF800000#32))))
    (constant S_ .f32 0xFF800000#32) reducesTo_S8x8192x64_S8x64_d1 h_S_

theorem pairs_apply (a0 : FVec Ideal S8192x3 .f32) (a1 : FVec Ideal S131072x128 .f32) (i : Fin 8192) (n : Fin 16)
    (l : Fin 6) :
    refPairs a0 a1 (ix3 i n l)
      = if h : l.val < 3 then a0 (ix2 i (⟨l.val, h⟩ : Fin 3))
        else a1 (ix2 (⟨i.val * 16 + n.val, by omega⟩ : Fin 131072) (⟨l.val - 3, by omega⟩ : Fin 128))
          - a0 (ix2 i (⟨l.val - 3, by omega⟩ : Fin 3)) := by
  pointwise [refPairs]

theorem layers_apply (p : FVec Ideal S8192x16x6 .f32) (a3 : FVec Ideal S6x32 .f32) (a4 : FVec Ideal S32 .f32)
    (a5 : FVec Ideal S32x64 .f32) (a6 : FVec Ideal S64 .f32) (i : Fin 8192) (n : Fin 16) (k : Fin 64) :
    refLayers p a3 a4 a5 a6 (ix3 i n k)
      = max (∑ j : Fin 32, max (∑ l : Fin 6, p (ix3 i n l) * a3 (ix2 l j) + a4 (ix1 j)) 0 * a5 (ix2 j k) + a6 (ix1 k)) 0 := by
  pointwise [refLayers]

theorem most_apply (q : FVec Ideal S8192x16x64 .f32) (i : Fin 8192) (k : Fin 64) :
    refMost q (ix2 i k) = max (Finset.univ.fold max low fun n : Fin 16 => q (ix3 i n k)) 0 := by
  refine (maximumf_apply _ _ _).trans ?_
  exact congrArg₂ max (reduce_mid q _ reducesTo_S8192x16x64_S8192x64_d1 h_S_ i k) Ideal.ofBits_zero_f32

theorem refFeatures_apply (a0 : FVec Ideal S8192x3 .f32) (a1 : FVec Ideal S131072x128 .f32)
    (a3 : FVec Ideal S6x32 .f32) (a4 : FVec Ideal S32 .f32) (a5 : FVec Ideal S32x64 .f32) (a6 : FVec Ideal S64 .f32)
    (i : Fin 8192) (k : Fin 64) :
    refFeatures a0 a1 a3 a4 a5 a6 (ix2 i k)
      = point (fun l : Fin 3 => a0 (ix2 i l))
          (fun n l => a1 (ix2 (⟨i.val * 16 + n.val, by omega⟩ : Fin 131072) (⟨l.val, by omega⟩ : Fin 128)))
          (fun l j => a3 (ix2 (⟨l.val, by omega⟩ : Fin 6) j)) (fun l j => a3 (ix2 (⟨3 + l.val, by omega⟩ : Fin 6) j))
          (fun j => a4 (ix1 j)) (fun j k => a5 (ix2 j k)) (fun k => a6 (ix1 k)) k := by
  rw [refFeatures, most_apply, point]
  refine congrArg (fun f => max (Finset.univ.fold max low f) 0) (funext fun n => ?_)
  rw [layers_apply]
  refine congrArg (fun f : Fin 32 → EReal => max (∑ j, max (f j + a4 (ix1 j)) 0 * a5 (ix2 j k) + a6 (ix1 k)) 0) (funext fun j => ?_)
  refine (Fin.sum_univ_add (a := 3) (b := 3) fun l => refPairs a0 a1 (ix3 i n l) * a3 (ix2 l j)).trans ?_
  refine congrArg₂ (· + ·) (Finset.sum_congr rfl fun l _ => congrArg₂ (· * ·) ?_ rfl)
    (Finset.sum_congr rfl fun l _ => congrArg₂ (· * ·) ?_ rfl)
  · exact (pairs_apply a0 a1 i n _).trans (dif_pos l.isLt)
  · refine (pairs_apply a0 a1 i n _).trans ((dif_neg (by show ¬ 3 + l.val < 3; omega)).trans ?_)
    have e : 3 + l.val - 3 = l.val := by omega
    simp only [Fin.natAdd, e]

theorem refClouds_apply (x : FVec Ideal S8192x64 .f32) (a2 : IVec S8192 32) (s : Fin 8) (k : Fin 64) :
    refClouds x a2 (ix2 s k)
      = cloud (fun i : Fin 8192 => a2 (ix1 i)) (fun i => x (ix2 i k)) (BitVec.ofNat 32 s.val) := by
  pointwise [refClouds]
  rfl

end Reference

/-- The frame of the call. -/
theorem frame_call : Cert.quiescent_EdgeA := fun m ρ _ => Cert.EdgeA.Gen.frame m ρ
/-- The frame of its reading over the extended reals. -/
theorem frame_ideal : Cert.quiescent_EdgeAIdeal := fun m ρ _ => Cert.EdgeAIdeal.Gen.frame m ρ
/-- The frame of the reference. -/
theorem frame_reference : Cert.quiescent_EdgeARefIdeal := fun m ρ _ =>
  (θ_run Cert.EdgeARefIdeal.defs _ _).mono
    (fun r h => ⟨fun c => (h c).2.2, sem_eq_zero_of_no_sems (by decide) r.2⟩) (Cert.EdgeARefIdeal.Value.run m ρ)

/-- The two results of the call are the reference's. -/
theorem algebraic : Cert.algebraic_EdgeAIdeal_EdgeARefIdeal := by
  intro m ρ m' ρ' _ hagree
  refine ⟨fun c => featuresOf m c, fun c => cloudsOf m c, ?_, ?_⟩
  · exact (θ_run Cert.EdgeAIdeal.defs _ _).mono
      (fun _ h c => ⟨(h c).1.trans (final_features m c), (h c).2.1.trans (final_clouds m c), (h c).2.2⟩)
      (Cert.EdgeAIdeal.Value.run_blocks (F := Ideal) m ρ)
  · refine (θ_run Cert.EdgeARefIdeal.defs _ _).mono
      (fun _ h c => ⟨(h c).1.trans ?_, (h c).2.1.trans ?_, (h c).2.2⟩)
      (Cert.EdgeARefIdeal.Value.run (F := Ideal) m' ρ')
    · obtain ⟨h0, h1, -, h3, h4, h5, h6⟩ := hagree c
      rw [h0, h1, h3, h4, h5, h6]
      funext (i : Cert.EdgeAIdeal.S8192x64.Idx)
      obtain ⟨r, k, rfl⟩ : ∃ (r : Fin 8192) (k : Fin 64), i = ix2 r k := ⟨i 0, i 1, eq_ix2 i⟩
      exact refFeatures_apply _ _ _ _ _ _ r k
    · obtain ⟨h0, h1, h2, h3, h4, h5, h6⟩ := hagree c
      rw [h0, h1, h2, h3, h4, h5, h6]
      funext (i : Cert.EdgeAIdeal.S8x64.Idx)
      obtain ⟨s, k, rfl⟩ : ∃ (s : Fin 8) (k : Fin 64), i = ix2 s k := ⟨i 0, i 1, eq_ix2 i⟩
      refine (refClouds_apply (refFeatures (m (c.tc.loc Cert.EdgeAIdeal.main_arg0))
        (m (c.tc.loc Cert.EdgeAIdeal.main_arg1)) (m (c.tc.loc Cert.EdgeAIdeal.main_arg3))
        (m (c.tc.loc Cert.EdgeAIdeal.main_arg4)) (m (c.tc.loc Cert.EdgeAIdeal.main_arg5))
        (m (c.tc.loc Cert.EdgeAIdeal.main_arg6))) _ s k).trans ?_
      rw [funext fun i => refFeatures_apply _ _ _ _ _ _ i k]
      rfl

end Cert.Proof.EdgeA
end
-- ==== Proof.EdgeBBody.lean ====
/-
  What the two cases of the second edge call's body leave, over the extended reals.  A point of the grid takes 256
  points of the cloud: it writes their features, and makes the eight cloud rows the largest of what they were and of the
  features of its own points.  At the first point of the grid the rows start from the least value.
-/
module

public import proofs.«01_k».proof.Defs
public import proofs.«01_k».proof.Proof.Gen.EdgeBIdeal.Value
public import proofs.«01_k».proof.Proof.EdgeSpec

@[expose] public section

noncomputable section

open Idealize.ShloMosaic Idealize.ShloMosaic.TcCoe Idealize.SL.Sem

namespace Cert.Proof.EdgeB

open Cert.EdgeBIdeal Cert.EdgeBIdeal.Gen Cert.Proof.Edge

theorem zeros2 : (![0, 0] : Fin 2 → Nat) = fun _ => 0 := funext fun a => by fin_cases a <;> rfl

/-! ## The stored values -/

/-- The features of a block's points. -/
theorem features (v0 : Vec Ideal S256x128 .f32) (v3 : Vec Ideal S4096x128 .f32) (v12 : Vec Ideal S128x128 .f32)
    (v16 : Vec Ideal S1x128 .f32) (v22 : Vec Ideal S128x256 .f32) (v26 : Vec Ideal S1x256 .f32) (r : Fin 256)
    (k : Fin 256) :
    k0_pay4 v0 v3 v12 v16 v22 v26 (ix2 r k)
      = point (fun i : Fin 64 => v0 (ix2 r (⟨i.val, by omega⟩ : Fin 128)))
          (fun n i => v3 (ix2 (⟨r.val * 16 + n.val, by omega⟩ : Fin 4096) (⟨i.val, by omega⟩ : Fin 128)))
          (fun i j => v12 (ix2 (⟨i.val, by omega⟩ : Fin 128) j))
          (fun i j => v12 (ix2 (⟨64 + i.val, by omega⟩ : Fin 128) j))
          (fun j => v16 (ix2 0 j)) (fun j k => v22 (ix2 j k)) (fun k => v26 (ix2 0 k)) k := by
  pointwise [k0_pay4]
  rfl

/-- A cloud row over one block. -/
abbrev over (o : Vec Ideal S256x256 .f32) (b : Vec Ideal S256x1 .i32) (s : BitVec 32) (k : Fin 256) : EReal :=
  cloud (fun r : Fin 256 => b (ix2 r 0)) (fun r => o (ix2 r k)) s

section Stored

variable (o : Vec Ideal S256x256 .f32) (b : Vec Ideal S256x1 .i32) (v : Vec Ideal S1x256 .f32) (k : Fin 256)

theorem stored0 : k0_pay8 o b v (ix2 (0 : Fin 1) k) = max (v (ix2 0 k)) (over o b 0#32 k) := by
  pointwise [k0_pay8, k0_pay6, k0_pay7]
  rfl
theorem stored1 : k0_pay9 o b v (ix2 (0 : Fin 1) k) = max (v (ix2 0 k)) (over o b 1#32 k) := by
  pointwise [k0_pay9, k0_pay6, k0_pay7]
  rfl
theorem stored2 : k0_pay12 (k0_pay6 o) (k0_pay10 b) k0_pay11 v (ix2 (0 : Fin 1) k) = max (v (ix2 0 k)) (over o b 2#32 k) := by
  pointwise [k0_pay12, k0_pay6, k0_pay10, k0_pay7, k0_pay11]
  rfl
theorem stored3 : k0_pay13 (k0_pay6 o) (k0_pay7 b) v (ix2 (0 : Fin 1) k) = max (v (ix2 0 k)) (over o b 3#32 k) := by
  pointwise [k0_pay13, k0_pay6, k0_pay7]
  rfl
theorem stored4 : k0_pay14 (k0_pay6 o) (k0_pay7 b) v (ix2 (0 : Fin 1) k) = max (v (ix2 0 k)) (over o b 4#32 k) := by
  pointwise [k0_pay14, k0_pay6, k0_pay7]
  rfl
theorem stored5 : k0_pay1 (k0_pay6 o) (k0_pay15 (k0_pay7 b)) k0_pay16 v (ix2 (0 : Fin 1) k) = max (v (ix2 0 k)) (over o b 5#32 k) := by
  pointwise [k0_pay1, k0_pay6, k0_pay15, k0_pay7, k0_pay16]
  rfl
theorem stored6 : k0_pay2 (k0_pay6 o) (k0_pay7 b) v (ix2 (0 : Fin 1) k) = max (v (ix2 0 k)) (over o b 6#32 k) := by
  pointwise [k0_pay2, k0_pay6, k0_pay7]
  rfl
theorem stored7 : k0_pay3 (k0_pay6 o) (k0_pay7 b) v (ix2 (0 : Fin 1) k) = max (v (ix2 0 k)) (over o b 7#32 k) := by
  pointwise [k0_pay3, k0_pay6, k0_pay7]
  rfl

end Stored

/-! ## The two cases -/

/-- Case A: the features. -/
theorem outA7 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x256 .f32) (harg5 : arg5.IsWhole)
    (arg6 : Memref sig .tc .vmem S1x256 .f32) (harg6 : arg6.IsWhole)
    (arg7 : Memref sig .tc .vmem S256x1 .i32) (harg7 : arg7.IsWhole)
    (arg8 : Memref sig .tc .vmem S256x256 .f32) (harg8 : arg8.IsWhole)
    (arg9 : Memref sig .tc .vmem S8x256 .f32) (harg9 : arg9.IsWhole) (hc0 : cond0_0 i)
    (x0 : Vec Ideal S256x128 .f32)
    (x1 : Vec Ideal S4096x128 .f32)
    (x2 : Vec Ideal S128x128 .f32)
    (x3 : Vec Ideal S1x128 .f32)
    (x4 : Vec Ideal S128x256 .f32)
    (x5 : Vec Ideal S1x256 .f32)
    (x6 : Vec Ideal S256x1 .i32) :
    out0_A_7 c i arg1 harg1 arg2 harg2 arg3 harg3 arg4 harg4 arg5 harg5 arg6 harg6 arg7 harg7 arg8 harg8 arg9 harg9 hc0 x0 x1 x2 x3 x4 x5 x6 = k0_pay4 x0 x1 x2 x3 x4 x5 := by
  unfold out0_A_7
  rw [View.read_writes_junk_eq_canon]
  unfold kernelRun0_A
  dsimp only
  sl_unfold_words
  rw [View.canon_unit_zero zeros2]
  simp only [View.readAt_eq_ld, harg1.read_unread, harg2.read_unread, harg3.read_unread,
    harg4.read_unread, harg5.read_unread, harg6.read_unread, harg7.read_unread,
    View.ld_unit_zero (S := S256x128) zeros2, View.ld_unit_zero (S := S4096x128) zeros2,
    View.ld_unit_zero (S := S128x128) zeros2, View.ld_unit_zero (S := S1x128) zeros2,
    View.ld_unit_zero (S := S128x256) zeros2, View.ld_unit_zero (S := S1x256) zeros2,
    View.ld_unit_zero (S := S256x1) zeros2]

/-- Case B: the features. -/
theorem outB7 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x256 .f32) (harg5 : arg5.IsWhole)
    (arg6 : Memref sig .tc .vmem S1x256 .f32) (harg6 : arg6.IsWhole)
    (arg7 : Memref sig .tc .vmem S256x1 .i32) (harg7 : arg7.IsWhole)
    (arg8 : Memref sig .tc .vmem S256x256 .f32) (harg8 : arg8.IsWhole)
    (arg9 : Memref sig .tc .vmem S8x256 .f32) (harg9 : arg9.IsWhole) (hc0 : ¬cond0_0 i)
    (x0 : Vec Ideal S256x128 .f32)
    (x1 : Vec Ideal S4096x128 .f32)
    (x2 : Vec Ideal S128x128 .f32)
    (x3 : Vec Ideal S1x128 .f32)
    (x4 : Vec Ideal S128x256 .f32)
    (x5 : Vec Ideal S1x256 .f32)
    (x6 : Vec Ideal S256x1 .i32) (xo8 : Vec Ideal S8x256 .f32) :
    out0_B_7 c i arg1 harg1 arg2 harg2 arg3 harg3 arg4 harg4 arg5 harg5 arg6 harg6 arg7 harg7 arg8 harg8 arg9 harg9 hc0 x0 x1 x2 x3 x4 x5 x6 xo8 = k0_pay4 x0 x1 x2 x3 x4 x5 := by
  unfold out0_B_7
  rw [View.read_writes_junk_eq_canon]
  unfold kernelRun0_B
  dsimp only
  sl_unfold_words
  rw [View.canon_unit_zero zeros2]
  simp only [View.readAt_eq_ld, harg1.read_unread, harg2.read_unread, harg3.read_unread,
    harg4.read_unread, harg5.read_unread, harg6.read_unread, harg7.read_unread,
    View.ld_unit_zero (S := S256x128) zeros2, View.ld_unit_zero (S := S4096x128) zeros2,
    View.ld_unit_zero (S := S128x128) zeros2, View.ld_unit_zero (S := S1x128) zeros2,
    View.ld_unit_zero (S := S128x256) zeros2, View.ld_unit_zero (S := S1x256) zeros2,
    View.ld_unit_zero (S := S256x1) zeros2]

/-- Case B: the cloud rows. -/
theorem outB8 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x256 .f32) (harg5 : arg5.IsWhole)
    (arg6 : Memref sig .tc .vmem S1x256 .f32) (harg6 : arg6.IsWhole)
    (arg7 : Memref sig .tc .vmem S256x1 .i32) (harg7 : arg7.IsWhole)
    (arg8 : Memref sig .tc .vmem S256x256 .f32) (harg8 : arg8.IsWhole)
    (arg9 : Memref sig .tc .vmem S8x256 .f32) (harg9 : arg9.IsWhole) (hc0 : ¬cond0_0 i)
    (x0 : Vec Ideal S256x128 .f32)
    (x1 : Vec Ideal S4096x128 .f32)
    (x2 : Vec Ideal S128x128 .f32)
    (x3 : Vec Ideal S1x128 .f32)
    (x4 : Vec Ideal S128x256 .f32)
    (x5 : Vec Ideal S1x256 .f32)
    (x6 : Vec Ideal S256x1 .i32)
    (xo8 : Vec Ideal S8x256 .f32) (s : Fin 8) (k : Fin 256) :
    out0_B_8 c i arg1 harg1 arg2 harg2 arg3 harg3 arg4 harg4 arg5 harg5 arg6 harg6 arg7 harg7 arg8 harg8 arg9 harg9 hc0 x0 x1 x2 x3 x4 x5 x6 xo8 (ix2 s k)
      = max (xo8 (ix2 s k)) (over (k0_pay4 x0 x1 x2 x3 x4 x5) x6 (BitVec.ofNat 32 s.val) k) := by
  unfold out0_B_8
  rw [View.read_writes_junk_eq_canon]
  unfold kernelRun0_B
  dsimp only
  sl_unfold_words
  have hx : ∀ H : Vec Ideal S256x256 .f32, arg8.view.readCov (Val := Elt Ideal)
      [⟨Rect.unit ![0, 0] S256x256.size inb_S256x256_S256x256_0_0, H⟩]
      (Rect.unit ![0, 0] S256x256.size inb_S256x256_S256x256_0_0).toLoadRect = H :=
    fun H => View.readCov_unit_zero arg8.view zeros2 _ H
  match s with
  | ⟨0, _⟩ =>
    iterate 7 refine (canon_miss _ _ _ _ _ (by decide +revert) k).trans ?_
    refine (canon_hit 0 _ _ _ ⟨0, by omega⟩ rfl k).trans ((stored0 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 0 _ xo8 ⟨0, by omega⟩ rfl k]
  | ⟨1, _⟩ =>
    iterate 6 refine (canon_miss _ _ _ _ _ (by decide +revert) k).trans ?_
    refine (canon_hit 1 _ _ _ ⟨1, by omega⟩ rfl k).trans ((stored1 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 1 _ xo8 ⟨1, by omega⟩ rfl k]
  | ⟨2, _⟩ =>
    iterate 5 refine (canon_miss _ _ _ _ _ (by decide +revert) k).trans ?_
    refine (canon_hit 2 _ _ _ ⟨2, by omega⟩ rfl k).trans ((stored2 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 2 _ xo8 ⟨2, by omega⟩ rfl k]
  | ⟨3, _⟩ =>
    iterate 4 refine (canon_miss _ _ _ _ _ (by decide +revert) k).trans ?_
    refine (canon_hit 3 _ _ _ ⟨3, by omega⟩ rfl k).trans ((stored3 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 3 _ xo8 ⟨3, by omega⟩ rfl k]
  | ⟨4, _⟩ =>
    iterate 3 refine (canon_miss _ _ _ _ _ (by decide +revert) k).trans ?_
    refine (canon_hit 4 _ _ _ ⟨4, by omega⟩ rfl k).trans ((stored4 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 4 _ xo8 ⟨4, by omega⟩ rfl k]
  | ⟨5, _⟩ =>
    iterate 2 refine (canon_miss _ _ _ _ _ (by decide +revert) k).trans ?_
    refine (canon_hit 5 _ _ _ ⟨5, by omega⟩ rfl k).trans ((stored5 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 5 _ xo8 ⟨5, by omega⟩ rfl k]
  | ⟨6, _⟩ =>
    iterate 1 refine (canon_miss _ _ _ _ _ (by decide +revert) k).trans ?_
    refine (canon_hit 6 _ _ _ ⟨6, by omega⟩ rfl k).trans ((stored6 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 6 _ xo8 ⟨6, by omega⟩ rfl k]
  | ⟨7, _⟩ =>
    refine (canon_hit 7 _ _ _ ⟨7, by omega⟩ rfl k).trans ((stored7 _ _ _ k).trans ?_)
    rw [hx]
    simp only [View.readAt_eq_ld, harg1.read_unread, harg2.read_unread, harg3.read_unread,
      harg4.read_unread, harg5.read_unread, harg6.read_unread, harg7.read_unread, harg9.read_unread,
      View.ld_unit_zero (S := S256x128) zeros2, View.ld_unit_zero (S := S4096x128) zeros2,
      View.ld_unit_zero (S := S128x128) zeros2, View.ld_unit_zero (S := S1x128) zeros2,
      View.ld_unit_zero (S := S128x256) zeros2, View.ld_unit_zero (S := S1x256) zeros2,
      View.ld_unit_zero (S := S256x1) zeros2]
    rw [show View.ld xo8 _ _ = _ from ld_row 7 _ xo8 ⟨7, by omega⟩ rfl k]

/-- Case A: the cloud rows. -/
theorem outA8 (c : Dev nD) (i : grid0.Coords)
    (arg1 : Memref sig .tc .vmem S256x128 .f32) (harg1 : arg1.IsWhole)
    (arg2 : Memref sig .tc .vmem S4096x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x256 .f32) (harg5 : arg5.IsWhole)
    (arg6 : Memref sig .tc .vmem S1x256 .f32) (harg6 : arg6.IsWhole)
    (arg7 : Memref sig .tc .vmem S256x1 .i32) (harg7 : arg7.IsWhole)
    (arg8 : Memref sig .tc .vmem S256x256 .f32) (harg8 : arg8.IsWhole)
    (arg9 : Memref sig .tc .vmem S8x256 .f32) (harg9 : arg9.IsWhole) (hc0 : cond0_0 i)
    (x0 : Vec Ideal S256x128 .f32)
    (x1 : Vec Ideal S4096x128 .f32)
    (x2 : Vec Ideal S128x128 .f32)
    (x3 : Vec Ideal S1x128 .f32)
    (x4 : Vec Ideal S128x256 .f32)
    (x5 : Vec Ideal S1x256 .f32)
    (x6 : Vec Ideal S256x1 .i32)
    (s : Fin 8) (k : Fin 256) :
    out0_A_8 c i arg1 harg1 arg2 harg2 arg3 harg3 arg4 harg4 arg5 harg5 arg6 harg6 arg7 harg7 arg8 harg8 arg9 harg9 hc0 x0 x1 x2 x3 x4 x5 x6 (ix2 s k)
      = max low (over (k0_pay4 x0 x1 x2 x3 x4 x5) x6 (BitVec.ofNat 32 s.val) k) := by
  unfold out0_A_8
  rw [View.read_writes_junk_eq_canon]
  unfold kernelRun0_A
  dsimp only
  unfold kernelRun0_A.sl.H8_8 kernelRun0_A.sl.H8_7 kernelRun0_A.sl.H8_6 kernelRun0_A.sl.H8_5 kernelRun0_A.sl.H8_4
    kernelRun0_A.sl.H8_3 kernelRun0_A.sl.H8_2
  unfold kernelRun0_A.sl.r_3 kernelRun0_A.sl.r_2 kernelRun0_A.sl.r_1 kernelRun0_A.sl.r
  have hx : ∀ H : Vec Ideal S256x256 .f32, arg8.view.readCov (Val := Elt Ideal)
      [⟨Rect.unit ![0, 0] S256x256.size inb_S256x256_S256x256_0_0, H⟩]
      (Rect.unit ![0, 0] S256x256.size inb_S256x256_S256x256_0_0).toLoadRect = H :=
    fun H => View.readCov_unit_zero arg8.view zeros2 _ H
  have h1 : ∀ i : S8x256.Idx, View.canon (kernelRun0_A.sl.H8_1 (F := Ideal)) i = low := fun i => by
    unfold kernelRun0_A.sl.H8_1; rw [View.canon_unit_zero zeros2]; rfl
  match s with
  | ⟨0, _⟩ =>
    iterate 7 refine (canon_miss _ _ _ _ _ (by decide +revert) k).trans ?_
    refine (canon_hit 0 _ _ _ ⟨0, by omega⟩ rfl k).trans ((stored0 _ _ _ k).trans (congrArg₂ max ?_ ?_))
    · unfold kernelRun0_A.sl.v52
      refine (readCov_row _ 0 _ _ ⟨0, by omega⟩ rfl k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨1, _⟩ =>
    iterate 6 refine (canon_miss _ _ _ _ _ (by decide +revert) k).trans ?_
    refine (canon_hit 1 _ _ _ ⟨1, by omega⟩ rfl k).trans ((stored1 _ _ _ k).trans (congrArg₂ max ?_ ?_))
    · unfold kernelRun0_A.sl.v64
      refine (readCov_row _ 1 _ _ ⟨1, by omega⟩ rfl k).trans ?_
      unfold kernelRun0_A.sl.H8_2
      iterate 1 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨2, _⟩ =>
    iterate 5 refine (canon_miss _ _ _ _ _ (by decide +revert) k).trans ?_
    refine (canon_hit 2 _ _ _ ⟨2, by omega⟩ rfl k).trans ((stored2 _ _ _ k).trans (congrArg₂ max ?_ ?_))
    · unfold kernelRun0_A.sl.v76
      refine (readCov_row _ 2 _ _ ⟨2, by omega⟩ rfl k).trans ?_
      unfold kernelRun0_A.sl.H8_3 kernelRun0_A.sl.H8_2
      iterate 2 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨3, _⟩ =>
    iterate 4 refine (canon_miss _ _ _ _ _ (by decide +revert) k).trans ?_
    refine (canon_hit 3 _ _ _ ⟨3, by omega⟩ rfl k).trans ((stored3 _ _ _ k).trans (congrArg₂ max ?_ ?_))
    · unfold kernelRun0_A.sl.v88
      refine (readCov_row _ 3 _ _ ⟨3, by omega⟩ rfl k).trans ?_
      unfold kernelRun0_A.sl.H8_4 kernelRun0_A.sl.H8_3 kernelRun0_A.sl.H8_2
      iterate 3 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨4, _⟩ =>
    iterate 3 refine (canon_miss _ _ _ _ _ (by decide +revert) k).trans ?_
    refine (canon_hit 4 _ _ _ ⟨4, by omega⟩ rfl k).trans ((stored4 _ _ _ k).trans (congrArg₂ max ?_ ?_))
    · unfold kernelRun0_A.sl.v100
      refine (readCov_row _ 4 _ _ ⟨4, by omega⟩ rfl k).trans ?_
      unfold kernelRun0_A.sl.H8_5 kernelRun0_A.sl.H8_4 kernelRun0_A.sl.H8_3 kernelRun0_A.sl.H8_2
      iterate 4 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨5, _⟩ =>
    iterate 2 refine (canon_miss _ _ _ _ _ (by decide +revert) k).trans ?_
    refine (canon_hit 5 _ _ _ ⟨5, by omega⟩ rfl k).trans ((stored5 _ _ _ k).trans (congrArg₂ max ?_ ?_))
    · unfold kernelRun0_A.sl.v112
      refine (readCov_row _ 5 _ _ ⟨5, by omega⟩ rfl k).trans ?_
      unfold kernelRun0_A.sl.H8_6 kernelRun0_A.sl.H8_5 kernelRun0_A.sl.H8_4 kernelRun0_A.sl.H8_3 kernelRun0_A.sl.H8_2
      iterate 5 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨6, _⟩ =>
    iterate 1 refine (canon_miss _ _ _ _ _ (by decide +revert) k).trans ?_
    refine (canon_hit 6 _ _ _ ⟨6, by omega⟩ rfl k).trans ((stored6 _ _ _ k).trans (congrArg₂ max ?_ ?_))
    · unfold kernelRun0_A.sl.v124
      refine (readCov_row _ 6 _ _ ⟨6, by omega⟩ rfl k).trans ?_
      unfold kernelRun0_A.sl.H8_7 kernelRun0_A.sl.H8_6 kernelRun0_A.sl.H8_5 kernelRun0_A.sl.H8_4 kernelRun0_A.sl.H8_3 kernelRun0_A.sl.H8_2
      iterate 6 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]
  | ⟨7, _⟩ =>
    refine (canon_hit 7 _ _ _ ⟨7, by omega⟩ rfl k).trans ((stored7 _ _ _ k).trans (congrArg₂ max ?_ ?_))
    · unfold kernelRun0_A.sl.v136
      refine (readCov_row _ 7 _ _ ⟨7, by omega⟩ rfl k).trans ?_
      unfold kernelRun0_A.sl.H8_8 kernelRun0_A.sl.H8_7 kernelRun0_A.sl.H8_6 kernelRun0_A.sl.H8_5 kernelRun0_A.sl.H8_4 kernelRun0_A.sl.H8_3 kernelRun0_A.sl.H8_2
      iterate 7 refine (canon_miss _ _ _ _ _ (by decide +revert) k).trans ?_
      exact h1 _
    · unfold kernelRun0_A.sl.v40 kernelRun0_A.sl.H7_1
      rw [hx]
      simp only [View.readAt_eq_ld, harg1.read_unread, harg2.read_unread, harg3.read_unread,
        harg4.read_unread, harg5.read_unread, harg6.read_unread, harg7.read_unread,
        View.ld_unit_zero (S := S256x128) zeros2, View.ld_unit_zero (S := S4096x128) zeros2,
        View.ld_unit_zero (S := S128x128) zeros2, View.ld_unit_zero (S := S1x128) zeros2,
        View.ld_unit_zero (S := S128x256) zeros2, View.ld_unit_zero (S := S1x256) zeros2,
        View.ld_unit_zero (S := S256x1) zeros2]

end Cert.Proof.EdgeB
end
-- ==== Proof.EdgeBValue.lean ====
/-
  The second edge call over the extended reals, point by point of the cloud.  The features of point `i` are those of its
  row and of its sixteen neighbour rows; a cloud's row is the largest over its points.  The call's grid has thirty-two
  points of 256 points of the cloud; each writes its own features, and the cloud rows are carried from one to the next
  and written back after the last.
-/
module

public import proofs.«01_k».proof.Proof.EdgeBBody
public import Idealize.ShloMosaic.Lib.KernelVsHost

@[expose] public section

noncomputable section

open Idealize.ShloMosaic Idealize.ShloMosaic.TcCoe Idealize.SL.Sem

namespace Cert.Proof.EdgeB

open Cert.EdgeBIdeal Cert.EdgeBIdeal.Gen Cert.Proof.Edge

variable (m : (ℓ : Loc nD τ sig) → Buf (Elt Ideal) ℓ) (c : Dev nD)

/-- Argument arrays of the call. -/
abbrev arg (b : Ref sig .tc) : Buf (Elt Ideal) ((c : Thread nD τ).loc b) := m ((c : Thread nD τ).loc b)

/-- One feature of point `i` of the arguments. -/
abbrev featureAt (i : Fin 8192) (k : Fin 256) : EReal :=
  point (fun l : Fin 64 => arg m c main_arg0 (ix2 i l))
    (fun n l => arg m c main_arg1 (ix2 (⟨i.val * 16 + n.val, by omega⟩ : Fin 131072) (⟨l.val, by omega⟩ : Fin 128)))
    (fun l j => arg m c main_arg3 (ix2 (⟨l.val, by omega⟩ : Fin 128) j))
    (fun l j => arg m c main_arg3 (ix2 (⟨64 + l.val, by omega⟩ : Fin 128) j))
    (fun j => arg m c main_arg4 (ix1 j)) (fun j k => arg m c main_arg5 (ix2 j k)) (fun k => arg m c main_arg6 (ix1 k)) k

/-- The features of the arguments. -/
abbrev featuresOf : Buf (Elt Ideal) ((c : Thread nD τ).loc main_v4_0) := fun (i : S8192x256.Idx) =>
  featureAt m c (i 0) (i 1)

/-- One feature of one cloud of the arguments. -/
abbrev cloudAt (s : Fin 8) (k : Fin 256) : EReal :=
  cloud (fun i : Fin 8192 => arg m c main_arg2 (ix1 i)) (fun i => featureAt m c i k) (BitVec.ofNat 32 s.val)

/-- The cloud rows of the arguments. -/
abbrev cloudsOf : Buf (Elt Ideal) ((c : Thread nD τ).loc main_v4_1) := fun (i : S8x256.Idx) => cloudAt m c (i 0) (i 1)

/-! ## The blocks of the input windows -/

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = 0 ∧ win0_8.index t 1 = 0 := by decide +kernel

theorem points (t : Fin cfg0.N) : t.val < 32 := lt_of_lt_of_eq t.isLt N_0

/-- The point of the cloud that row `r` of point `t`'s blocks is. -/
abbrev place (t : Fin cfg0.N) (r : Fin 256) : Fin 8192 := ⟨t.val * 256 + r.val, by have := points t; omega⟩

theorem entry_v0 : V m c main_v0 = shapeCast S8192x1 (arg m c main_arg2) shapeCasts_S8192_S8192x1 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v1 : V m c main_v1 = pad S8192x128 ![0, 0] ![0, 64] ![0, 0] (arg m c main_arg0)
    (sitofp (F := Ideal) .f32 (constantI S_ 32 0#32)) pads_S8192x64_S8192x128_000_0640 h_S_ := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v2 : V m c main_v2 = shapeCast S1x128 (arg m c main_arg4) shapeCasts_S128_S1x128 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl
theorem entry_v3 : V m c main_v3 = shapeCast S1x256 (arg m c main_arg6) shapeCasts_S256_S1x256 := by
  simp only [V, hostOps0, hostOps0_1, hostOps0_2, List.flatten_cons, List.flatten_nil, List.append_nil,
    List.cons_append, List.nil_append, StableHlo.TRef.unary, StableHlo.TRef.binary, StableHlo.TRef.toBuf,
    StableHlo.TRef.ofBuf, cast_eq]
  after_results_simp <;> rfl

theorem in0 (t : Fin cfg0.N) (r : Fin 256) (l : Fin 64) :
    iblk m c 0 t (ix2 r (⟨l.val, by omega⟩ : Fin 128)) = arg m c main_arg0 (ix2 (place t r) l) := by
  unfold iblk
  rw [View.read_apply]
  refine (congrArg (V m c main_v1)
    (?_ : _ = (ix2 (place t r) (⟨l.val, by omega⟩ : Fin 128) : S8192x128.Idx))).trans ?_
  · funext i
    apply Fin.ext
    match i with
    | ⟨0, _⟩ => show win0_0.index t 0 * 256 + 1 * r.val = t.val * 256 + r.val; rw [(at0 t).1]; omega
    | ⟨1, _⟩ => show win0_0.index t 1 * 128 + 1 * l.val = l.val; rw [(at0 t).2]; omega
  · rw [entry_v1]
    refine pad_apply_of_inside _ _ _ _ _ _ _ _ (ix2 (place t r) l : S8192x64.Idx) fun a => ?_
    match a with
    | ⟨0, _⟩ => show t.val * 256 + r.val = 0 + (t.val * 256 + r.val) * 1; omega
    | ⟨1, _⟩ => show l.val = 0 + l.val * 1; omega

theorem in1 (t : Fin cfg0.N) (r : Fin 256) (n : Fin 16) (l : Fin 128) :
    iblk m c 1 t (ix2 (⟨r.val * 16 + n.val, by omega⟩ : Fin 4096) l)
      = arg m c main_arg1 (ix2 (⟨(place t r).val * 16 + n.val, by have := points t; omega⟩ : Fin 131072) l) := by
  unfold iblk
  rw [View.read_apply]
  show V m c main_arg1 _ = _
  rw [V_main_arg1]
  congr 1
  funext a
  apply Fin.ext
  match a with
  | ⟨0, _⟩ =>
    show win0_1.index t 0 * 4096 + 1 * (r.val * 16 + n.val) = (t.val * 256 + r.val) * 16 + n.val
    rw [(at1 t).1]; omega
  | ⟨1, _⟩ => show win0_1.index t 1 * 128 + 1 * l.val = l.val; rw [(at1 t).2]; omega

theorem in2 (t : Fin cfg0.N) (r : Fin 128) (l : Fin 128) : iblk m c 2 t (ix2 r l) = arg m c main_arg3 (ix2 r l) := by
  unfold iblk
  rw [View.read_apply]
  refine (congrArg (V m c main_arg3) (?_ : _ = (ix2 r l : (⟨2, ![128, 128]⟩ : Shape).Idx))).trans ?_
  · funext i
    apply Fin.ext
    match i with
    | ⟨0, _⟩ => show 0 * 128 + 1 * r.val = r.val; omega
    | ⟨1, _⟩ => show 0 * 128 + 1 * l.val = l.val; omega
  · rw [V_main_arg3]

theorem in3 (t : Fin cfg0.N) (r : Fin 1) (l : Fin 128) : iblk m c 3 t (ix2 r l) = arg m c main_arg4 (ix1 l) := by
  unfold iblk
  rw [View.read_apply]
  refine (congrArg (V m c main_v2) (?_ : _ = (ix2 r l : (⟨2, ![1, 128]⟩ : Shape).Idx))).trans ?_
  · funext i
    apply Fin.ext
    match i with
    | ⟨0, _⟩ => show 0 * 1 + 1 * r.val = r.val; omega
    | ⟨1, _⟩ => show 0 * 128 + 1 * l.val = l.val; omega
  · rw [entry_v2]
    obtain rfl := Subsingleton.elim r 0
    pointwise

theorem in4 (t : Fin cfg0.N) (r : Fin 128) (l : Fin 256) : iblk m c 4 t (ix2 r l) = arg m c main_arg5 (ix2 r l) := by
  unfold iblk
  rw [View.read_apply]
  refine (congrArg (V m c main_arg5) (?_ : _ = (ix2 r l : (⟨2, ![128, 256]⟩ : Shape).Idx))).trans ?_
  · funext i
    apply Fin.ext
    match i with
    | ⟨0, _⟩ => show 0 * 128 + 1 * r.val = r.val; omega
    | ⟨1, _⟩ => show 0 * 256 + 1 * l.val = l.val; omega
  · rw [V_main_arg5]

theorem in5 (t : Fin cfg0.N) (r : Fin 1) (l : Fin 256) : iblk m c 5 t (ix2 r l) = arg m c main_arg6 (ix1 l) := by
  unfold iblk
  rw [View.read_apply]
  refine (congrArg (V m c main_v3) (?_ : _ = (ix2 r l : (⟨2, ![1, 256]⟩ : Shape).Idx))).trans ?_
  · funext i
    apply Fin.ext
    match i with
    | ⟨0, _⟩ => show 0 * 1 + 1 * r.val = r.val; omega
    | ⟨1, _⟩ => show 0 * 256 + 1 * l.val = l.val; omega
  · rw [entry_v3]
    obtain rfl := Subsingleton.elim r 0
    pointwise

theorem in6 (t : Fin cfg0.N) (r : Fin 256) :
    iblk m c 6 t (ix2 r (0 : Fin 1)) = arg m c main_arg2 (ix1 (place t r)) := by
  unfold iblk
  rw [View.read_apply]
  refine (congrArg (V m c main_v0) (?_ : _ = (ix2 (place t r) 0 : S8192x1.Idx))).trans ?_
  · funext i
    apply Fin.ext
    match i with
    | ⟨0, _⟩ => show win0_6.index t 0 * 256 + 1 * r.val = t.val * 256 + r.val; rw [(at6 t).1]; omega
    | ⟨1, _⟩ => show win0_6.index t 1 * 1 + 1 * 0 = 0; rw [(at6 t).2]
  · rw [entry_v0]
    pointwise

/-! ## The blocks of a point -/

/-- The features a point computes. -/
theorem features_block (t : Fin cfg0.N) (r : Fin 256) (k : Fin 256) :
    k0_pay4 (iblk m c 0 t) (iblk m c 1 t) (iblk m c 2 t) (iblk m c 3 t) (iblk m c 4 t) (iblk m c 5 t) (ix2 r k)
      = featureAt m c (place t r) k := by
  rw [features]
  simp only [in0, in1, in2, in3, in4, in5]

/-- How the cloud `s` counts point `i` of the arguments. -/
abbrev countedAt (s : Fin 8) (k : Fin 256) (i : Fin 8192) : EReal :=
  counted (arg m c main_arg2 (ix1 i)) (BitVec.ofNat 32 s.val) (featureAt m c i k)

/-- A cloud's row over the points of one block. -/
theorem over_block (t : Fin cfg0.N) (s : Fin 8) (k : Fin 256) :
    over (k0_pay4 (iblk m c 0 t) (iblk m c 1 t) (iblk m c 2 t) (iblk m c 3 t) (iblk m c 4 t) (iblk m c 5 t))
      (iblk m c 6 t) (BitVec.ofNat 32 s.val) k
      = Finset.univ.fold max low fun r : Fin 256 => countedAt m c s k (place t r) := by
  unfold over cloud
  rw [funext (in6 m c t), funext fun r => features_block m c t r k]

/-- The first contents after a point. -/
theorem outs_features (t : Fin cfg0.N) (r : Fin 256) (k : Fin 256) :
    (outsAt0 m c t.val t.isLt).1 (ix2 r k) = featureAt m c (place t r) k := by
  by_cases h : t.val % 32 = 0
  · rw [outsAt0_A m c t h]
    dsimp only
    rw [outA7, features_block]
  · rw [outsAt0_B m c t h]
    dsimp only
    rw [outB7, features_block]

/-- The second contents after a point: the largest so far. -/
theorem outs_clouds (s : Fin 8) (k : Fin 256) : ∀ (n : ℕ) (hn : n < cfg0.N),
    (outsAt0 m c n hn).2 (ix2 s k) = upTo ((n + 1) * 256) (countedAt m c s k)
  | 0, hn => by
    rw [outsAt0_A m c ⟨0, hn⟩ rfl]
    dsimp only
    rw [outA8, over_block]
    refine Eq.trans ?_ (upTo_step (countedAt m c s k) 0 (by omega))
    rw [show upTo (0 * 256) (countedAt m c s k) = low from upTo_zero _]
  | n + 1, hn => by
    have hN : n + 1 < 32 := points ⟨n + 1, hn⟩
    rw [outsAt0_B m c ⟨n + 1, hn⟩ (by show ¬(n + 1) % 32 = 0; omega)]
    dsimp only
    rw [outB8, over_block]
    show max ((outsAt0 m c n _).2 (ix2 s k)) _ = _
    rw [outs_clouds s k n (Nat.lt_of_succ_lt hn), ← upTo_step _ (n + 1) hN]

/-! ## What is written back -/

/-- A point's block of an array of the shape of the features, read at an index. -/
theorem read_features (G : Buf (Elt Ideal) ((c : Thread nD τ).loc main_v4_0)) (t : Fin cfg0.N) (r : Fin 256)
    (k : Fin 256) :
    ((cfg0.win 7).blk t).view.read (Elt Ideal) G (ix2 r k : S256x256.Idx) = G (ix2 (place t r) k : S8192x256.Idx) := by
  rw [View.read_apply]
  show G _ = _
  congr 1
  funext a
  apply Fin.ext
  match a with
  | ⟨0, _⟩ => show win0_7.index t 0 * 256 + 1 * r.val = t.val * 256 + r.val; rw [(at7 t).1]; omega
  | ⟨1, _⟩ => show win0_7.index t 1 * 256 + 1 * k.val = k.val; rw [(at7 t).2]; omega

/-- A point's block of the cloud rows, read at an index. -/
theorem read_clouds (G : Buf (Elt Ideal) ((c : Thread nD τ).loc main_v4_1)) (t : Fin cfg0.N) (s : Fin 8) (k : Fin 256) :
    ((cfg0.win 8).blk t).view.read (Elt Ideal) G (ix2 s k : S8x256.Idx) = G (ix2 s k : S8x256.Idx) := by
  rw [View.read_apply]
  show G _ = _
  congr 1
  funext a
  apply Fin.ext
  match a with
  | ⟨0, _⟩ => show win0_8.index t 0 * 8 + 1 * s.val = s.val; rw [(at8 t).1]; omega
  | ⟨1, _⟩ => show win0_8.index t 1 * 256 + 1 * k.val = k.val; rw [(at8 t).2]; omega

theorem flushed_features (t : Fin cfg0.N) :
    (dats m 0 c).flushed 7 t = ((cfg0.win 7).blk t).view.read (Elt Ideal) (featuresOf m c) := by
  rw [Cert.EdgeBIdeal.Value.flushed7]
  funext (j : S256x256.Idx)
  obtain ⟨r, k, rfl⟩ : ∃ (r : Fin 256) (k : Fin 256), j = ix2 r k := ⟨j 0, j 1, eq_ix2 j⟩
  exact (outs_features m c t r k).trans (read_features c (featuresOf m c) t r k).symm

theorem flushed_clouds (t : Fin cfg0.N) (ht : (cfg0.win 8).flush t = true) :
    (dats m 0 c).flushed 8 t = ((cfg0.win 8).blk t).view.read (Elt Ideal) (cloudsOf m c) := by
  have hl : t.val + 1 = 32 := by
    have h1 := (flush0_8 t).mp ht
    have h2 := points t
    omega
  rw [Cert.EdgeBIdeal.Value.flushed8]
  funext (j : S8x256.Idx)
  obtain ⟨s, k, rfl⟩ : ∃ (s : Fin 8) (k : Fin 256), j = ix2 s k := ⟨j 0, j 1, eq_ix2 j⟩
  refine ((outs_clouds m c s k t.val t.isLt).trans ?_).trans (read_clouds c (cloudsOf m c) t s k).symm
  rw [hl]
  exact upTo_all _

/-- The blocks of the points are all the features. -/
theorem cover_features (i : S8192x256.Idx) :
    ∃ t : Fin cfg0.N, (cfg0.win 7).flush t = true ∧ i ∈ ((cfg0.win 7).blk t).view.set := by
  have h0 : (i 0).val < 8192 := (i 0).isLt
  have h1 : (i 1).val < 256 := (i 1).isLt
  let t : Fin cfg0.N := ⟨(i 0).val / 256, lt_of_lt_of_eq (by omega : (i 0).val / 256 < 32) N_0.symm⟩
  refine ⟨t, flush0_7 _, ?_⟩
  show i ∈ ((View.whole main_v4_0).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    rw [(at7 t).1]; show (i 0).val / 256 * 256 ≤ _ ∧ _ < (i 0).val / 256 * 256 + 256; omega
  | ⟨1, _⟩ =>
    show win0_7.index t 1 * 256 ≤ (i 1).val ∧ (i 1).val < win0_7.index t 1 * 256 + 256
    rw [(at7 t).2]; omega

/-- The last point's block is all the cloud rows. -/
theorem cover_clouds (i : S8x256.Idx) :
    ∃ t : Fin cfg0.N, (cfg0.win 8).flush t = true ∧ i ∈ ((cfg0.win 8).blk t).view.set := by
  have h0 : (i 0).val < 8 := (i 0).isLt
  have h1 : (i 1).val < 256 := (i 1).isLt
  let t : Fin cfg0.N := ⟨31, lt_of_lt_of_eq (by omega : 31 < 32) N_0.symm⟩
  refine ⟨t, (flush0_8 t).mpr rfl, ?_⟩
  show i ∈ ((View.whole main_v4_1).slice (win0_8.rect t)).set
  rw [View.set_slice_whole, Rect.mem_set_unit]
  intro a
  match a with
  | ⟨0, _⟩ =>
    show win0_8.index t 0 * 8 ≤ (i 0).val ∧ (i 0).val < win0_8.index t 0 * 8 + 8
    rw [(at8 t).1]; omega
  | ⟨1, _⟩ =>
    show win0_8.index t 1 * 256 ≤ (i 1).val ∧ (i 1).val < win0_8.index t 1 * 256 + 256
    rw [(at8 t).2]; omega

theorem final_features : (dats m 0 c).arrAt 7 cfg0.N = featuresOf m c :=
  (dats m 0 c).arrAt_eq_of_cover 7 (featuresOf m c) (fun t _ => flushed_features m c t) cover_features

theorem final_clouds : (dats m 0 c).arrAt 8 cfg0.N = cloudsOf m c :=
  (dats m 0 c).arrAt_eq_of_cover 8 (cloudsOf m c) (fun t ht => flushed_clouds m c t ht) cover_clouds

end Cert.Proof.EdgeB
end
-- ==== Proof.EdgeBClaims.lean ====
/-
  The claims of the second edge call: the frames of the call, of its reading over the extended reals and of its
  reference, and the equality of the two results.
-/
module

public import proofs.«01_k».proof.Proof.EdgeBValue
public import proofs.«01_k».proof.Proof.Gen.EdgeB.Frame
public import proofs.«01_k».proof.Proof.Gen.EdgeBRefIdeal.Run
public import Idealize.ShloMosaic.Lib.Quiescent

@[expose] public section

noncomputable section

open Idealize.ShloMosaic Idealize.ShloMosaic.TcCoe Idealize.SL.Sem

namespace Cert.Proof.EdgeB

section Reference

open Cert.EdgeBRefIdeal Cert.EdgeBRefIdeal.Gen Cert.Proof.Edge

/-- Each point's row beside the difference to each of its neighbours. -/
def refPairs (a0 : FVec Ideal S8192x64 .f32) (a1 : FVec Ideal S131072x128 .f32) : FVec Ideal S8192x16x128 .f32 :=
  concatenate (α := Ideal .f32) S8192x16x128 2
    [⟨S8192x16x64, broadcastInDim S8192x16x64 ![0, 1, 2] bcast_S8192x1x64_S8192x16x64_0_1_2
        (broadcastInDim S8192x1x64 ![0, 2] bcast_S8192x64_S8192x1x64_0_2 a0)⟩,
      ⟨S8192x16x64, subf (extractStridedSlice S8192x16x64 ![0, 0, 0]
          (shapeCast S8192x16x128 a1 shapeCasts_S131072x128_S8192x16x128)
          slices_S8192x16x128_S8192x16x64_0_0_0)
        (broadcastInDim S8192x16x64 ![0, 1, 2] bcast_S8192x1x64_S8192x16x64_0_1_2
          (broadcastInDim S8192x1x64 ![0, 2] bcast_S8192x64_S8192x1x64_0_2 a0))⟩]
    concatenates_S8192x16x64_S8192x16x64_S8192x16x128_d2

/-- The two dense layers on given pairs. -/
def refLayers (p : FVec Ideal S8192x16x128 .f32) (a3 : FVec Ideal S128x128 .f32) (a4 : FVec Ideal S128 .f32)
    (a5 : FVec Ideal S128x256 .f32) (a6 : FVec Ideal S256 .f32) : FVec Ideal S8192x16x256 .f32 :=
  maximumf (addf
    (Host.dotGeneral dot_S8192x16x128_S128x256_S8192x16x256_2_0_01_1_n_n none (maximumf (addf
      (Host.dotGeneral dot_S8192x16x128_S128x128_S8192x16x128_2_0_01_1_n_n none p a3)
      (broadcastInDim S8192x16x128 ![0, 1, 2] bcast_S1x1x128_S8192x16x128_0_1_2
        (broadcastInDim S1x1x128 ![2] bcast_S128_S1x1x128_2 a4)))
      (broadcastInDim S8192x16x128 ![] bcast_S_S8192x16x128 (constant S_ .f32 0x00000000#32))) a5)
    (broadcastInDim S8192x16x256 ![0, 1, 2] bcast_S1x1x256_S8192x16x256_0_1_2
      (broadcastInDim S1x1x256 ![2] bcast_S256_S1x1x256_2 a6)))
    (broadcastInDim S8192x16x256 ![] bcast_S_S8192x16x256 (constant S_ .f32 0x00000000#32))

/-- The largest over the neighbours. -/
def refMost (q : FVec Ideal S8192x16x256 .f32) : FVec Ideal S8192x256 .f32 :=
  maximumf (Host.reduce FloatOps.maximumf q
    (constant S_ .f32 0xFF800000#32) reducesTo_S8192x16x256_S8192x256_d1 h_S_)
    (broadcastInDim S8192x256 ![] bcast_S_S8192x256 (constant S_ .f32 0x00000000#32))

/-- The reference's features. -/
def refFeatures (a0 : FVec Ideal S8192x64 .f32) (a1 : FVec Ideal S131072x128 .f32) (a3 : FVec Ideal S128x128 .f32)
    (a4 : FVec Ideal S128 .f32) (a5 : FVec Ideal S128x256 .f32) (a6 : FVec Ideal S256 .f32) : FVec Ideal S8192x256 .f32 :=
  refMost (refLayers (refPairs a0 a1) a3 a4 a5 a6)

/-- The reference's cloud rows of given features. -/
abbrev refClouds (x : FVec Ideal S8192x256 .f32) (a2 : IVec S8192 32) : FVec Ideal S8x256 .f32 :=
  Host.reduce FloatOps.maximumf (select
    (broadcastInDim S8x8192x256 ![0, 1, 2] bcast_S8x8192x1_S8x8192x256_0_1_2 (cmpi .eq
      (broadcastInDim S8x8192x1 ![0, 1, 2] bcast_S1x8192x1_S8x8192x1_0_1_2
        (broadcastInDim S1x8192x1 ![1] bcast_S8192_S1x8192x1_1 a2))
      (broadcastInDim S8x8192x1 ![0, 1, 2] bcast_S8x1x1_S8x8192x1_0_1_2
        (broadcastInDim S8x1x1 ![0] bcast_S8_S8x1x1_0 (iotaInDim S8 32 0)))))
    (broadcastInDim S8x8192x256 ![0, 1, 2] bcast_S1x8192x256_S8x8192x256_0_1_2
      (broadcastInDim S1x8192x256 ![1, 2] bcast_S8192x256_S1x8192x256_1_2 x))
    (broadcastInDim S8x8192x256 ![] bcast_S_S8x8192x256 (id (constant S_ .f32 0xFF800000#32))))
    (constant S_ .f32 0xFF800000#32) reducesTo_S8x8192x256_S8x256_d1 h_S_

theorem pairs_apply (a0 : FVec Ideal S8192x64 .f32) (a1 : FVec Ideal S131072x128 .f32) (i : Fin 8192) (n : Fin 16)
    (l : Fin 128) :
    refPairs a0 a1 (ix3 i n l)
      = if h : l.val < 64 then a0 (ix2 i (⟨l.val, h⟩ : Fin 64))
        else a1 (ix2 (⟨i.val * 16 + n.val, by omega⟩ : Fin 131072) (⟨l.val - 64, by omega⟩ : Fin 128))
          - a0 (ix2 i (⟨l.val - 64, by omega⟩ : Fin 64)) := by
  pointwise [refPairs]

theorem layers_apply (p : FVec Ideal S8192x16x128 .f32) (a3 : FVec Ideal S128x128 .f32) (a4 : FVec Ideal S128 .f32)
    (a5 : FVec Ideal S128x256 .f32) (a6 : FVec Ideal S256 .f32) (i : Fin 8192) (n : Fin 16) (k : Fin 256) :
    refLayers p a3 a4 a5 a6 (ix3 i n k)
      = max (∑ j : Fin 128, max (∑ l : Fin 128, p (ix3 i n l) * a3 (ix2 l j) + a4 (ix1 j)) 0 * a5 (ix2 j k) + a6 (ix1 k)) 0 := by
  pointwise [refLayers]

theorem most_apply (q : FVec Ideal S8192x16x256 .f32) (i : Fin 8192) (k : Fin 256) :
    refMost q (ix2 i k) = max (Finset.univ.fold max low fun n : Fin 16 => q (ix3 i n k)) 0 := by
  refine (maximumf_apply _ _ _).trans ?_
  exact congrArg₂ max (reduce_mid q _ reducesTo_S8192x16x256_S8192x256_d1 h_S_ i k) Ideal.ofBits_zero_f32

theorem refFeatures_apply (a0 : FVec Ideal S8192x64 .f32) (a1 : FVec Ideal S131072x128 .f32)
    (a3 : FVec Ideal S128x128 .f32) (a4 : FVec Ideal S128 .f32) (a5 : FVec Ideal S128x256 .f32) (a6 : FVec Ideal S256 .f32)
    (i : Fin 8192) (k : Fin 256) :
    refFeatures a0 a1 a3 a4 a5 a6 (ix2 i k)
      = point (fun l : Fin 64 => a0 (ix2 i l))
          (fun n l => a1 (ix2 (⟨i.val * 16 + n.val, by omega⟩ : Fin 131072) (⟨l.val, by omega⟩ : Fin 128)))
          (fun l j => a3 (ix2 (⟨l.val, by omega⟩ : Fin 128) j)) (fun l j => a3 (ix2 (⟨64 + l.val, by omega⟩ : Fin 128) j))
          (fun j => a4 (ix1 j)) (fun j k => a5 (ix2 j k)) (fun k => a6 (ix1 k)) k := by
  rw [refFeatures, most_apply, point]
  refine congrArg (fun f => max (Finset.univ.fold max low f) 0) (funext fun n => ?_)
  rw [layers_apply]
  refine congrArg (fun f : Fin 128 → EReal => max (∑ j, max (f j + a4 (ix1 j)) 0 * a5 (ix2 j k) + a6 (ix1 k)) 0) (funext fun j => ?_)
  refine (Fin.sum_univ_add (a := 64) (b := 64) fun l => refPairs a0 a1 (ix3 i n l) * a3 (ix2 l j)).trans ?_
  refine congrArg₂ (· + ·) (Finset.sum_congr rfl fun l _ => congrArg₂ (· * ·) ?_ rfl)
    (Finset.sum_congr rfl fun l _ => congrArg₂ (· * ·) ?_ rfl)
  · exact (pairs_apply a0 a1 i n _).trans (dif_pos l.isLt)
  · refine (pairs_apply a0 a1 i n _).trans ((dif_neg (by show ¬ 64 + l.val < 64; omega)).trans ?_)
    have e : 64 + l.val - 64 = l.val := by omega
    simp only [Fin.natAdd, e]

theorem refClouds_apply (x : FVec Ideal S8192x256 .f32) (a2 : IVec S8192 32) (s : Fin 8) (k : Fin 256) :
    refClouds x a2 (ix2 s k)
      = cloud (fun i : Fin 8192 => a2 (ix1 i)) (fun i => x (ix2 i k)) (BitVec.ofNat 32 s.val) := by
  pointwise [refClouds]
  rfl

end Reference

/-- The frame of the call. -/
theorem frame_call : Cert.quiescent_EdgeB := fun m ρ _ => Cert.EdgeB.Gen.frame m ρ
/-- The frame of its reading over the extended reals. -/
theorem frame_ideal : Cert.quiescent_EdgeBIdeal := fun m ρ _ => Cert.EdgeBIdeal.Gen.frame m ρ
/-- The frame of the reference. -/
theorem frame_reference : Cert.quiescent_EdgeBRefIdeal := fun m ρ _ =>
  (θ_run Cert.EdgeBRefIdeal.defs _ _).mono
    (fun r h => ⟨fun c => (h c).2.2, sem_eq_zero_of_no_sems (by decide) r.2⟩) (Cert.EdgeBRefIdeal.Value.run m ρ)

/-- The two results of the call are the reference's. -/
theorem algebraic : Cert.algebraic_EdgeBIdeal_EdgeBRefIdeal := by
  intro m ρ m' ρ' _ hagree
  refine ⟨fun c => featuresOf m c, fun c => cloudsOf m c, ?_, ?_⟩
  · exact (θ_run Cert.EdgeBIdeal.defs _ _).mono
      (fun _ h c => ⟨(h c).1.trans (final_features m c), (h c).2.1.trans (final_clouds m c), (h c).2.2⟩)
      (Cert.EdgeBIdeal.Value.run_blocks (F := Ideal) m ρ)
  · refine (θ_run Cert.EdgeBRefIdeal.defs _ _).mono
      (fun _ h c => ⟨(h c).1.trans ?_, (h c).2.1.trans ?_, (h c).2.2⟩)
      (Cert.EdgeBRefIdeal.Value.run (F := Ideal) m' ρ')
    · obtain ⟨h0, h1, -, h3, h4, h5, h6⟩ := hagree c
      rw [h0, h1, h3, h4, h5, h6]
      funext (i : Cert.EdgeBIdeal.S8192x256.Idx)
      obtain ⟨r, k, rfl⟩ : ∃ (r : Fin 8192) (k : Fin 256), i = ix2 r k := ⟨i 0, i 1, eq_ix2 i⟩
      exact refFeatures_apply _ _ _ _ _ _ r k
    · obtain ⟨h0, h1, h2, h3, h4, h5, h6⟩ := hagree c
      rw [h0, h1, h2, h3, h4, h5, h6]
      funext (i : Cert.EdgeBIdeal.S8x256.Idx)
      obtain ⟨s, k, rfl⟩ : ∃ (s : Fin 8) (k : Fin 256), i = ix2 s k := ⟨i 0, i 1, eq_ix2 i⟩
      refine (refClouds_apply (refFeatures (m (c.tc.loc Cert.EdgeBIdeal.main_arg0))
        (m (c.tc.loc Cert.EdgeBIdeal.main_arg1)) (m (c.tc.loc Cert.EdgeBIdeal.main_arg3))
        (m (c.tc.loc Cert.EdgeBIdeal.main_arg4)) (m (c.tc.loc Cert.EdgeBIdeal.main_arg5))
        (m (c.tc.loc Cert.EdgeBIdeal.main_arg6))) _ s k).trans ?_
      rw [funext fun i => refFeatures_apply _ _ _ _ _ _ i k]
      rfl

end Cert.Proof.EdgeB
end
-- ==== Proof.HeadValue.lean ====
/-
  The head call over the extended reals, row by row.  Row `i` of `x4` is the two feature rows of point `i` followed by
  the feature row of its cloud; the score of point `i` is three dense layers of that row, the first followed by a
  clamp at zero, and a logistic.  The call's grid has sixteen points of 512 rows; each writes its own rows.
-/
module

public import proofs.«01_k».proof.Defs
public import proofs.«01_k».proof.Proof.Gen.HeadIdeal.Value
public import proofs.«01_k».proof.Proof.Gen.HeadRefIdeal.Run
public import Idealize.ShloMosaic.Lib.Pointwise

@[expose] public section

noncomputable section

open Idealize.ShloMosaic Idealize.ShloMosaic.TcCoe Idealize.SL.Sem

namespace Cert.Proof.Head

/-- One row of `x4`: 64 values, then 256, then the 256 of the cloud. -/
def row (p : Fin 64 → EReal) (q g : Fin 256 → EReal) (k : Fin 576) : EReal :=
  if h : k.val < 64 then p ⟨k.val, h⟩
  else if h : k.val - 64 < 256 then q ⟨k.val - 64, h⟩ else g ⟨k.val - 64 - 256, by omega⟩

/-- The score of one row: dense, clamp at zero, dense, dense, logistic. -/
def score (x : Fin 576 → EReal) (u : Fin 576 → Fin 256 → EReal) (b : Fin 256 → EReal) (v : Fin 256 → Fin 64 → EReal)
    (d : Fin 64 → EReal) (w : Fin 64 → EReal) (e : EReal) : EReal :=
  Ideal.logistic ((∑ k, (∑ l, max ((∑ i, x i * u i l) + b l) 0 * v l k + d k) * w k) + e)

section Call

open Cert.HeadIdeal Cert.HeadIdeal.Gen

/-- The first stored block, row by row. -/
theorem block_row (v0 : Vec Ideal S1x1x256 .f32) (v4 : Vec Ideal S512x64 .f32) (v5 : Vec Ideal S512x256 .f32)
    (r : Fin 512) (k : Fin 576) :
    k0_pay2 v0 v4 v5 (ix2 r k) = row (fun l => v4 (ix2 r l)) (fun l => v5 (ix2 r l)) (fun l => v0 (ix3 0 0 l)) k := by
  pointwise [k0_pay2]
  rfl

/-- The second stored block, row by row. -/
theorem block_score (v0 : Vec Ideal S1x1x256 .f32) (v4 : Vec Ideal S512x64 .f32) (v5 : Vec Ideal S512x256 .f32)
    (v8 : Vec Ideal S576x256 .f32) (v12 : Vec Ideal S1x256 .f32) (v18 : Vec Ideal S256x64 .f32)
    (v22 : Vec Ideal S1x64 .f32) (v26 : Vec Ideal S64x1 .f32) (v30 : Vec Ideal S1x1 .f32) (r : Fin 512) (z : Fin 1) :
    k0_pay1 (k0_pay3 v0 v4 v5 v8 v12 v18 v22 v26) (k0_pay4 v30) (ix2 r z)
      = score (row (fun l => v4 (ix2 r l)) (fun l => v5 (ix2 r l)) (fun l => v0 (ix3 0 0 l)))
          (fun i l => v8 (ix2 i l)) (fun l => v12 (ix2 0 l)) (fun i l => v18 (ix2 i l)) (fun l => v22 (ix2 0 l))
          (fun i => v26 (ix2 i 0)) (v30 (ix2 0 0)) := by
  obtain rfl := Subsingleton.elim z 0
  generalize hx : k0_pay2 v0 v4 v5 = x
  have hr : row (fun l => v4 (ix2 r l)) (fun l => v5 (ix2 r l)) (fun l => v0 (ix3 0 0 l)) = fun k => x (ix2 r k) :=
    funext fun k => by rw [← hx, block_row]
  rw [hr]
  pointwise [k0_pay1, k0_pay3, k0_pay4, hx]
  rfl

variable (m : (ℓ : Loc nD τ sig) → Buf (Elt Ideal) ℓ) (c : Dev nD)

/-- Argument arrays of the call. -/
abbrev arg (b : Ref sig .tc) : Buf (Elt Ideal) ((c : Thread nD τ).loc b) := m ((c : Thread nD τ).loc b)

/-- Row `i` of `x4` of the arguments. -/
abbrev rowAt (i : Fin 8192) : Fin 576 → EReal :=
  row (fun l => arg m c main_arg0 (ix2 i l)) (fun l => arg m c main_arg1 (ix2 i l))
    (fun l => arg m c main_arg2 (ix2 (⟨i.val / 1024, by omega⟩ : Fin 8) l))

/-- `x4` of the arguments. -/
abbrev x4 : Buf (Elt Ideal) ((c : Thread nD τ).loc main_v4_0) := fun (i : S8192x576.Idx) => rowAt m c (i 0) (i 1)

/-- The score of row `i` of the arguments. -/
abbrev scoreAt (i : Fin 8192) : EReal :=
  score (rowAt m c i) (fun i l => arg m c main_arg3 (ix2 i l)) (fun l => arg m c main_arg4 (ix1 l))
    (fun i l => arg m c main_arg5 (ix2 i l)) (fun l => arg m c main_arg6 (ix1 l))
    (fun i => arg m c main_arg7 (ix2 i 0)) (arg m c main_arg8 (ix1 0))

/-- The scores of the arguments. -/
abbrev scores : Buf (Elt Ideal) ((c : Thread nD τ).loc main_v4_1) := fun (i : S8192x1.Idx) => scoreAt m c (i 0)

/-! ## The blocks of the input windows -/

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val / 2 ∧ win0_2.index t 1 = 0 ∧ win0_2.index t 2 = 0 := by
  decide +kernel
theorem at9 : ∀ t : Fin cfg0.N, win0_9.index t 0 = t.val ∧ win0_9.index t 1 = 0 := by decide +kernel
theorem at10 : ∀ t : Fin cfg0.N, win0_10.index t 0 = t.val ∧ win0_10.index t 1 = 0 := by decide +kernel

theorem points (t : Fin cfg0.N) : t.val < 16 := lt_of_lt_of_eq t.isLt N_0

/-- The row of the arrays that row `r` of point `t`'s blocks is. -/
abbrev place (t : Fin cfg0.N) (r : Fin 512) : Fin 8192 := ⟨t.val * 512 + r.val, by have := points t; omega⟩

theorem in0 (t : Fin cfg0.N) (r : Fin 512) (l : Fin 64) :
    iblk m c 0 t (ix2 r l) = arg m c main_arg0 (ix2 (place t r) l) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(at0 t).1]; omega
  | ⟨1, _⟩ => show win0_0.index t 1 * 64 + 1 * l.val = l.val; rw [(at0 t).2]; omega

theorem in1 (t : Fin cfg0.N) (r : Fin 512) (l : Fin 256) :
    iblk m c 1 t (ix2 r l) = arg m c main_arg1 (ix2 (place t r) l) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(at1 t).1]; omega
  | ⟨1, _⟩ => show win0_1.index t 1 * 256 + 1 * l.val = l.val; rw [(at1 t).2]; omega

theorem entry_v0 : V m c main_v0 = shapeCast S8x1x256 (arg m c main_arg2) shapeCasts_S8x256_S8x1x256 := by
  simp only [V, hostOps0]; after_results <;> rfl
theorem entry_v1 : V m c main_v1 = shapeCast S1x256 (arg m c main_arg4) shapeCasts_S256_S1x256 := by
  simp only [V, hostOps0]; after_results <;> rfl
theorem entry_v2 : V m c main_v2 = shapeCast S1x64 (arg m c main_arg6) shapeCasts_S64_S1x64 := by
  simp only [V, hostOps0]; after_results <;> rfl
theorem entry_v3 : V m c main_v3 = shapeCast S1x1 (arg m c main_arg8) shapeCasts_S1_S1x1 := by
  simp only [V, hostOps0]; after_results <;> rfl

theorem in2 (t : Fin cfg0.N) (l : Fin 256) :
    iblk m c 2 t (ix3 0 0 l) = arg m c main_arg2 (ix2 (⟨t.val / 2, by have := points t; omega⟩ : Fin 8) l) := by
  unfold iblk
  rw [View.read_apply]
  refine (congrArg (V m c main_v0)
    (?_ : _ = (ix3 (⟨t.val / 2, by have := points t; omega⟩ : Fin 8) 0 l : S8x1x256.Idx))).trans ?_
  · funext i
    apply Fin.ext
    match i with
    | ⟨0, _⟩ => show win0_2.index t 0 * 1 + 1 * 0 = t.val / 2; rw [(at2 t).1]; omega
    | ⟨1, _⟩ => show win0_2.index t 1 * 1 + 1 * 0 = 0; rw [(at2 t).2.1]
    | ⟨2, _⟩ => show win0_2.index t 2 * 256 + 1 * l.val = l.val; rw [(at2 t).2.2]; omega
  · rw [entry_v0]
    pointwise

theorem in3 (t : Fin cfg0.N) (r : Fin 576) (l : Fin 256) :
    iblk m c 3 t (ix2 r l) = arg m c main_arg3 (ix2 r l) := by
  unfold iblk
  rw [View.read_apply]
  refine (congrArg (V m c main_arg3) (?_ : _ = (ix2 r l : (⟨2, ![576, 256]⟩ : Shape).Idx))).trans ?_
  · funext i
    apply Fin.ext
    match i with
    | ⟨0, _⟩ => show 0 * 576 + 1 * r.val = r.val; omega
    | ⟨1, _⟩ => show 0 * 256 + 1 * l.val = l.val; omega
  · rw [V_main_arg3]

theorem in4 (t : Fin cfg0.N) (r : Fin 1) (l : Fin 256) :
    iblk m c 4 t (ix2 r l) = arg m c main_arg4 (ix1 l) := by
  unfold iblk
  rw [View.read_apply]
  refine (congrArg (V m c main_v1) (?_ : _ = (ix2 r l : (⟨2, ![1, 256]⟩ : Shape).Idx))).trans ?_
  · funext i
    apply Fin.ext
    match i with
    | ⟨0, _⟩ => show 0 * 1 + 1 * r.val = r.val; omega
    | ⟨1, _⟩ => show 0 * 256 + 1 * l.val = l.val; omega
  · rw [entry_v1]
    pointwise

theorem in5 (t : Fin cfg0.N) (r : Fin 256) (l : Fin 64) :
    iblk m c 5 t (ix2 r l) = arg m c main_arg5 (ix2 r l) := by
  unfold iblk
  rw [View.read_apply]
  refine (congrArg (V m c main_arg5) (?_ : _ = (ix2 r l : (⟨2, ![256, 64]⟩ : Shape).Idx))).trans ?_
  · funext i
    apply Fin.ext
    match i with
    | ⟨0, _⟩ => show 0 * 256 + 1 * r.val = r.val; omega
    | ⟨1, _⟩ => show 0 * 64 + 1 * l.val = l.val; omega
  · rw [V_main_arg5]

theorem in6 (t : Fin cfg0.N) (r : Fin 1) (l : Fin 64) :
    iblk m c 6 t (ix2 r l) = arg m c main_arg6 (ix1 l) := by
  unfold iblk
  rw [View.read_apply]
  refine (congrArg (V m c main_v2) (?_ : _ = (ix2 r l : (⟨2, ![1, 64]⟩ : Shape).Idx))).trans ?_
  · funext i
    apply Fin.ext
    match i with
    | ⟨0, _⟩ => show 0 * 1 + 1 * r.val = r.val; omega
    | ⟨1, _⟩ => show 0 * 64 + 1 * l.val = l.val; omega
  · rw [entry_v2]
    pointwise

theorem in7 (t : Fin cfg0.N) (r : Fin 64) (l : Fin 1) :
    iblk m c 7 t (ix2 r l) = arg m c main_arg7 (ix2 r l) := by
  unfold iblk
  rw [View.read_apply]
  refine (congrArg (V m c main_arg7) (?_ : _ = (ix2 r l : (⟨2, ![64, 1]⟩ : Shape).Idx))).trans ?_
  · funext i
    apply Fin.ext
    match i with
    | ⟨0, _⟩ => show 0 * 64 + 1 * r.val = r.val; omega
    | ⟨1, _⟩ => show 0 * 1 + 1 * l.val = l.val; omega
  · rw [V_main_arg7]

theorem in8 (t : Fin cfg0.N) (r : Fin 1) (l : Fin 1) :
    iblk m c 8 t (ix2 r l) = arg m c main_arg8 (ix1 l) := by
  unfold iblk
  rw [View.read_apply]
  refine (congrArg (V m c main_v3) (?_ : _ = (ix2 r l : (⟨2, ![1, 1]⟩ : Shape).Idx))).trans ?_
  · funext i
    apply Fin.ext
    match i with
    | ⟨0, _⟩ => show 0 * 1 + 1 * r.val = r.val; omega
    | ⟨1, _⟩ => show 0 * 1 + 1 * l.val = l.val; omega
  · rw [entry_v3]
    obtain rfl := Subsingleton.elim l 0
    pointwise

/-! ## The blocks written back -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The row of `x4` of the arguments, from the blocks of one point. -/
theorem rowAt_block (t : Fin cfg0.N) (r : Fin 512) :
    row (fun l => iblk m c 0 t (ix2 r l)) (fun l => iblk m c 1 t (ix2 r l)) (fun l => iblk m c 2 t (ix3 0 0 l))
      = rowAt m c (place t r) := by
  have hd : (⟨t.val / 2, by have := points t; omega⟩ : Fin 8) = ⟨(place t r).val / 1024, by omega⟩ :=
    Fin.ext (by show t.val / 2 = (t.val * 512 + r.val) / 1024; omega)
  rw [funext (in0 m c t r), funext (in1 m c t r), funext (in2 m c t), hd]

/-- A point's block of an array of the shape of `x4`, read at an index. -/
theorem read_x4 (G : Buf (Elt Ideal) ((c : Thread nD τ).loc main_v4_0)) (t : Fin cfg0.N) (r : Fin 512) (k : Fin 576) :
    ((cfg0.win 9).blk t).view.read (Elt Ideal) G (ix2 r k : S512x576.Idx) = G (ix2 (place t r) k : S8192x576.Idx) := by
  rw [View.read_apply]
  show G _ = _
  congr 1
  funext a
  apply Fin.ext
  match a with
  | ⟨0, _⟩ => show win0_9.index t 0 * 512 + 1 * r.val = t.val * 512 + r.val; rw [(at9 t).1]; omega
  | ⟨1, _⟩ => show win0_9.index t 1 * 576 + 1 * k.val = k.val; rw [(at9 t).2]; omega

/-- A point's block of an array of the shape of the scores, read at an index. -/
theorem read_scores (G : Buf (Elt Ideal) ((c : Thread nD τ).loc main_v4_1)) (t : Fin cfg0.N) (r : Fin 512) (k : Fin 1) :
    ((cfg0.win 10).blk t).view.read (Elt Ideal) G (ix2 r k : S512x1.Idx) = G (ix2 (place t r) k : S8192x1.Idx) := by
  rw [View.read_apply]
  show G _ = _
  congr 1
  funext a
  apply Fin.ext
  match a with
  | ⟨0, _⟩ => show win0_10.index t 0 * 512 + 1 * r.val = t.val * 512 + r.val; rw [(at10 t).1]; omega
  | ⟨1, _⟩ => show win0_10.index t 1 * 1 + 1 * k.val = k.val; rw [(at10 t).2]; omega

/-- The first block of a point, read at an index. -/
theorem out_x4 (t : Fin cfg0.N) (r : Fin 512) (k : Fin 576) :
    out0_9 (iblk m c 0 t) (iblk m c 1 t) (iblk m c 2 t) (iblk m c 3 t) (iblk m c 4 t) (iblk m c 5 t) (iblk m c 6 t)
      (iblk m c 7 t) (iblk m c 8 t) (ix2 r k : S512x576.Idx) = rowAt m c (place t r) k := by
  unfold out0_9
  rw [View.canon_unit_zero zeros2]
  simp only [View.ld_unit_zero (S := S512x64) zeros2, View.ld_unit_zero (S := S512x256) zeros2,
    View.ld_unit_zero (S := S1x1x256) zeros3]
  rw [block_row, rowAt_block]

/-- The second block of a point, read at an index. -/
theorem out_scores (t : Fin cfg0.N) (r : Fin 512) (k : Fin 1) :
    out0_10 (iblk m c 0 t) (iblk m c 1 t) (iblk m c 2 t) (iblk m c 3 t) (iblk m c 4 t) (iblk m c 5 t) (iblk m c 6 t)
      (iblk m c 7 t) (iblk m c 8 t) (ix2 r k : S512x1.Idx) = scoreAt m c (place t r) := by
  unfold out0_10
  rw [View.canon_unit_zero zeros2]
  simp only [View.ld_unit_zero (S := S512x64) zeros2, View.ld_unit_zero (S := S512x256) zeros2,
    View.ld_unit_zero (S := S1x1x256) zeros3, View.ld_unit_zero (S := S576x256) zeros2,
    View.ld_unit_zero (S := S1x256) zeros2, View.ld_unit_zero (S := S256x64) zeros2,
    View.ld_unit_zero (S := S1x64) zeros2, View.ld_unit_zero (S := S64x1) zeros2,
    View.ld_unit_zero (S := S1x1) zeros2]
  rw [block_score, rowAt_block]
  simp only [in3, in4, in5, in6, in7, in8]

/-- What a point writes back of `x4` is its rows of `x4`. -/
theorem flushed_x4 (t : Fin cfg0.N) :
    (dats m 0 c).flushed 9 t = ((cfg0.win 9).blk t).view.read (Elt Ideal) (x4 m c) := by
  rw [Cert.HeadIdeal.Value.flushed9]
  funext (j : S512x576.Idx)
  obtain ⟨r, k, rfl⟩ : ∃ (r : Fin 512) (k : Fin 576), j = ix2 r k := ⟨j 0, j 1, eq_ix2 j⟩
  exact (out_x4 m c t r k).trans (read_x4 c (x4 m c) t r k).symm

/-- What a point writes back of the scores is the scores of its rows. -/
theorem flushed_scores (t : Fin cfg0.N) :
    (dats m 0 c).flushed 10 t = ((cfg0.win 10).blk t).view.read (Elt Ideal) (scores m c) := by
  rw [Cert.HeadIdeal.Value.flushed10]
  funext (j : S512x1.Idx)
  obtain ⟨r, k, rfl⟩ : ∃ (r : Fin 512) (k : Fin 1), j = ix2 r k := ⟨j 0, j 1, eq_ix2 j⟩
  exact (out_scores m c t r k).trans (read_scores c (scores m c) t r k).symm

/-- The blocks of the sixteen points are all the rows of `x4`. -/
theorem cover_x4 (i : S8192x576.Idx) :
    ∃ t : Fin cfg0.N, (cfg0.win 9).flush t = true ∧ i ∈ ((cfg0.win 9).blk t).view.set := by
  have h0 : (i 0).val < 8192 := (i 0).isLt
  have h1 : (i 1).val < 576 := (i 1).isLt
  let t : Fin cfg0.N := ⟨(i 0).val / 512, lt_of_lt_of_eq (by omega : (i 0).val / 512 < 16) N_0.symm⟩
  refine ⟨t, flush0_9 _, ?_⟩
  show i ∈ ((View.whole main_v4_0).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [(at9 t).1]; show (i 0).val / 512 * 512 ≤ _ ∧ _ < (i 0).val / 512 * 512 + 512; omega
  | ⟨1, _⟩ =>
    show win0_9.index t 1 * 576 ≤ (i 1).val ∧ (i 1).val < win0_9.index t 1 * 576 + 576
    rw [(at9 t).2]; omega

/-- The blocks of the sixteen points are all the scores. -/
theorem cover_scores (i : S8192x1.Idx) :
    ∃ t : Fin cfg0.N, (cfg0.win 10).flush t = true ∧ i ∈ ((cfg0.win 10).blk t).view.set := by
  have h0 : (i 0).val < 8192 := (i 0).isLt
  have h1 : (i 1).val < 1 := (i 1).isLt
  let t : Fin cfg0.N := ⟨(i 0).val / 512, lt_of_lt_of_eq (by omega : (i 0).val / 512 < 16) N_0.symm⟩
  refine ⟨t, flush0_10 _, ?_⟩
  show i ∈ ((View.whole main_v4_1).slice (win0_10.rect t)).set
  rw [View.set_slice_whole, Rect.mem_set_unit]
  intro a
  match a with
  | ⟨0, _⟩ =>
    show win0_10.index t 0 * 512 ≤ (i 0).val ∧ (i 0).val < win0_10.index t 0 * 512 + 512
    rw [(at10 t).1]; show (i 0).val / 512 * 512 ≤ _ ∧ _ < (i 0).val / 512 * 512 + 512; omega
  | ⟨1, _⟩ =>
    show win0_10.index t 1 * 1 ≤ (i 1).val ∧ (i 1).val < win0_10.index t 1 * 1 + 1
    rw [(at10 t).2]; omega

theorem final_x4 : (dats m 0 c).arrAt 9 cfg0.N = x4 m c :=
  (dats m 0 c).arrAt_eq_of_cover 9 (x4 m c) (fun t _ => flushed_x4 m c t) cover_x4

theorem final_scores : (dats m 0 c).arrAt 10 cfg0.N = scores m c :=
  (dats m 0 c).arrAt_eq_of_cover 10 (scores m c) (fun t _ => flushed_scores m c t) cover_scores

end Call
end Cert.Proof.Head
end
-- ==== Proof.HeadClaims.lean ====
/-
  The claims of the head call: the frames of the call, of its reading over the extended reals and of its reference, and
  the equality of the two results.
-/
module

public import proofs.«01_k».proof.Proof.HeadValue
public import proofs.«01_k».proof.Proof.Gen.Head.Frame
public import Idealize.ShloMosaic.Lib.Quiescent

@[expose] public section

noncomputable section

open Idealize.ShloMosaic Idealize.ShloMosaic.TcCoe Idealize.SL.Sem

namespace Cert.Proof.Head

section Reference

open Cert.HeadRefIdeal Cert.HeadRefIdeal.Gen

/-- The reference's `x4`. -/
abbrev refX4 (a0 : FVec Ideal S8192x64 .f32) (a1 : FVec Ideal S8192x256 .f32) (a2 : FVec Ideal S8x256 .f32) :
    FVec Ideal S8192x576 .f32 :=
  concatenate (α := Ideal .f32) S8192x576 1 [⟨S8192x64, a0⟩, ⟨S8192x256, a1⟩,
    ⟨S8192x256, shapeCast S8192x256 (broadcastInDim S8x1024x256 ![0, 2] bcast_S8x256_S8x1024x256_0_2 a2)
      shapeCasts_S8x1024x256_S8192x256⟩] concatenates_S8192x64_S8192x256_S8192x256_S8192x576_d1

/-- The reference's scores of an `x4`. -/
abbrev refScores (x : FVec Ideal S8192x576 .f32) (a3 : FVec Ideal S576x256 .f32) (a4 : FVec Ideal S256 .f32)
    (a5 : FVec Ideal S256x64 .f32) (a6 : FVec Ideal S64 .f32) (a7 : FVec Ideal S64x1 .f32) (a8 : FVec Ideal S1 .f32) :
    FVec Ideal S8192x1 .f32 :=
  Host.divf (broadcastInDim S8192x1 ![] bcast_S_S8192x1 (constant S_ .f32 0x3F800000#32))
    (addf (broadcastInDim S8192x1 ![] bcast_S_S8192x1 (constant S_ .f32 0x3F800000#32)) (Host.exp (Host.negf
      (addf (Host.dotGeneral dot_S8192x64_S64x1_S8192x1_1_0_0_1_n_n none
        (addf (Host.dotGeneral dot_S8192x256_S256x64_S8192x64_1_0_0_1_n_n none
          (maximumf (addf (Host.dotGeneral dot_S8192x576_S576x256_S8192x256_1_0_0_1_n_n none x a3)
            (broadcastInDim S8192x256 ![0, 1] bcast_S1x256_S8192x256_0_1
              (broadcastInDim S1x256 ![1] bcast_S256_S1x256_1 a4)))
            (broadcastInDim S8192x256 ![] bcast_S_S8192x256 (constant S_ .f32 0x00000000#32))) a5)
          (broadcastInDim S8192x64 ![0, 1] bcast_S1x64_S8192x64_0_1 (broadcastInDim S1x64 ![1] bcast_S64_S1x64_1 a6)))
        a7)
        (broadcastInDim S8192x1 ![0, 1] bcast_S1x1_S8192x1_0_1 (broadcastInDim S1x1 ![1] bcast_S1_S1x1_1 a8))))))

theorem refX4_apply (a0 : FVec Ideal S8192x64 .f32) (a1 : FVec Ideal S8192x256 .f32) (a2 : FVec Ideal S8x256 .f32)
    (i : Fin 8192) (k : Fin 576) :
    refX4 a0 a1 a2 (ix2 i k) = row (fun l => a0 (ix2 i l)) (fun l => a1 (ix2 i l))
      (fun l => a2 (ix2 (⟨i.val / 1024, by omega⟩ : Fin 8) l)) k := by
  pointwise [refX4]
  rfl

theorem refScores_apply (x : FVec Ideal S8192x576 .f32) (a3 : FVec Ideal S576x256 .f32) (a4 : FVec Ideal S256 .f32)
    (a5 : FVec Ideal S256x64 .f32) (a6 : FVec Ideal S64 .f32) (a7 : FVec Ideal S64x1 .f32) (a8 : FVec Ideal S1 .f32)
    (i : Fin 8192) (z : Fin 1) :
    refScores x a3 a4 a5 a6 a7 a8 (ix2 i z) = score (fun k => x (ix2 i k)) (fun i l => a3 (ix2 i l))
      (fun l => a4 (ix1 l)) (fun i l => a5 (ix2 i l)) (fun l => a6 (ix1 l)) (fun i => a7 (ix2 i 0)) (a8 (ix1 0)) := by
  obtain rfl := Subsingleton.elim z 0
  pointwise [refScores]
  rfl

end Reference

/-- The frame of the call. -/
theorem frame_call : Cert.quiescent_Head := fun m ρ _ => Cert.Head.Gen.frame m ρ
/-- The frame of its reading over the extended reals. -/
theorem frame_ideal : Cert.quiescent_HeadIdeal := fun m ρ _ => Cert.HeadIdeal.Gen.frame m ρ
/-- The frame of the reference. -/
theorem frame_reference : Cert.quiescent_HeadRefIdeal := fun m ρ _ =>
  (θ_run Cert.HeadRefIdeal.defs _ _).mono
    (fun r h => ⟨fun c => (h c).2.2, sem_eq_zero_of_no_sems (by decide) r.2⟩) (Cert.HeadRefIdeal.Value.run m ρ)

/-- The two results of the call are the reference's. -/
theorem algebraic : Cert.algebraic_HeadIdeal_HeadRefIdeal := by
  intro m ρ m' ρ' _ hagree
  refine ⟨fun c => x4 m c, fun c => scores m c, ?_, ?_⟩
  · exact (θ_run Cert.HeadIdeal.defs _ _).mono
      (fun _ h c => ⟨(h c).1.trans (final_x4 m c), (h c).2.1.trans (final_scores m c), (h c).2.2⟩)
      (Cert.HeadIdeal.Value.run_blocks (F := Ideal) m ρ)
  · refine (θ_run Cert.HeadRefIdeal.defs _ _).mono
      (fun _ h c => ⟨(h c).1.trans ?_, (h c).2.1.trans ?_, (h c).2.2⟩)
      (Cert.HeadRefIdeal.Value.run (F := Ideal) m' ρ')
    · obtain ⟨h0, h1, h2, -⟩ := hagree c
      rw [h0, h1, h2]
      funext (i : Cert.HeadIdeal.S8192x576.Idx)
      obtain ⟨r, k, rfl⟩ : ∃ (r : Fin 8192) (k : Fin 576), i = ix2 r k := ⟨i 0, i 1, eq_ix2 i⟩
      exact refX4_apply _ _ _ r k
    · obtain ⟨h0, h1, h2, h3, h4, h5, h6, h7, h8⟩ := hagree c
      rw [h0, h1, h2, h3, h4, h5, h6, h7, h8]
      funext (i : Cert.HeadIdeal.S8192x1.Idx)
      obtain ⟨r, k, rfl⟩ : ∃ (r : Fin 8192) (k : Fin 1), i = ix2 r k := ⟨i 0, i 1, eq_ix2 i⟩
      refine (refScores_apply (refX4 (m (c.tc.loc Cert.HeadIdeal.main_arg0)) (m (c.tc.loc Cert.HeadIdeal.main_arg1))
        (m (c.tc.loc Cert.HeadIdeal.main_arg2))) _ _ _ _ _ _ r k).trans ?_
      rw [funext fun k => refX4_apply _ _ _ r k]
      rfl

end Cert.Proof.Head
end
-- ==== Proof.lean ====
/-
  The certificate.  The two gathers: every run of the program ends, at any float interpretation, with each result at its gathered rows
  (Proof/Launch.lean); so does every run of the reference, at the same rows (Proof/Values.lean).  The two edge calls and the head, one by
  one: Proof/EdgeAClaims.lean, Proof/EdgeBClaims.lean, Proof/HeadClaims.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_idx_in_rows
public import proofs.«01_k».proof.Proof.Gen.EdgeA
public import proofs.«01_k».proof.Proof.Gen.EdgeA.Frame
public import proofs.«01_k».proof.Proof.Gen.EdgeAIdeal
public import proofs.«01_k».proof.Proof.Gen.EdgeAIdeal.Frame
public import proofs.«01_k».proof.Proof.Gen.EdgeAIdeal.Value
public import proofs.«01_k».proof.Proof.Gen.EdgeARefIdeal
public import proofs.«01_k».proof.Proof.Gen.EdgeARefIdeal.Run
public import proofs.«01_k».proof.Proof.Gen.EdgeB
public import proofs.«01_k».proof.Proof.Gen.EdgeB.Frame
public import proofs.«01_k».proof.Proof.Gen.EdgeBIdeal
public import proofs.«01_k».proof.Proof.Gen.EdgeBIdeal.Frame
public import proofs.«01_k».proof.Proof.Gen.EdgeBIdeal.Value
public import proofs.«01_k».proof.Proof.Gen.EdgeBRefIdeal
public import proofs.«01_k».proof.Proof.Gen.EdgeBRefIdeal.Run
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Launch
public import proofs.«01_k».proof.Proof.Values
public import proofs.«01_k».proof.Proof.EdgeAClaims
public import proofs.«01_k».proof.Proof.EdgeBClaims
public import proofs.«01_k».proof.Proof.HeadClaims
public import Idealize.ShloMosaic.Adequacy
public import Idealize.ShloMosaic.Init

@[expose] public section

noncomputable section

namespace Cert.Proof

open Idealize.ShloMosaic Idealize.SL.Sem Cert.Proof.Launch Cert.Proof.Host Cert.Proof.Values

/-- The precondition, read on the lists the calls read. -/
theorem inRows {F : FTy → Type} [FloatOps F] (m : (ℓ : Loc Cert.KernelIdeal.nD Cert.KernelIdeal.τ Cert.KernelIdeal.sig) → Buf (Elt F) ℓ)
    (h : ∀ d : Dev Cert.KernelIdeal.nD, (∀ j : Lst.Idx, ((m (Common.tcLoc d Cert.KernelIdeal.main_arg2) : IVec Lst 32) j).toNat < 8192)
      ∧ ∀ j : Lst.Idx, ((m (Common.tcLoc d Cert.KernelIdeal.main_arg3) : IVec Lst 32) j).toNat < 8192) : InRows m := fun d =>
  ⟨fun _ => (h d).1 _, fun _ => (h d).2 _⟩

theorem frame_kernel : Cert.quiescent_Kernel := fun m ρ hp =>
  (θ_run Cert.KernelIdeal.defs _ _).mono (fun _ h => ⟨fun d => (h.1 d).2, h.2⟩)
    (run_main (F := Bits) m ρ (inRows m fun d => in_rows _ _ _ _ (hp d)))

theorem frame_kernelIdeal : Cert.quiescent_KernelIdeal := fun m ρ hp =>
  (θ_run Cert.KernelIdeal.defs _ _).mono (fun _ h => ⟨fun d => (h.1 d).2, h.2⟩)
    (run_main (F := Ideal) m ρ (inRows m fun d => in_rows _ _ _ _ (hp d)))

theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2, sem_eq_zero_of_no_sems (by decide) r.2⟩)
    (Cert.Reference.Value.run (F := Bits) m ρ)

/-- Over the extended reals both end at the gathered rows. -/
theorem algebraic : Cert.algebraic_KernelIdeal_ReferenceIdeal := by
  intro m ρ m' ρ' hp hagree
  have hI := fun d => in_rows (F := Ideal) _ _ _ _ (hp d)
  refine ⟨fun d => rows0 m d, fun d => rows1 m d, (θ_run Cert.KernelIdeal.defs _ _).mono (fun _ h d => ?_) (run_main (F := Ideal) m ρ (inRows m hI)),
    (θ_run Cert.ReferenceIdeal.defs _ _).mono (fun _ h d => ⟨(h d).1.trans ?_, (h d).2.1.trans ?_, (h d).2.2⟩)
      (Cert.ReferenceIdeal.Value.run (F := Ideal) m' ρ')⟩
  · exact ⟨(h.1 d).1.1, (h.1 d).1.2, (h.1 d).2⟩
  · exact reference_rows0 (F := Ideal) m d _ _ _ _ _ _ _ _ (hagree d).1 (hagree d).2.2.1 (by rw [(hagree d).2.2.1]; exact (hI d).1)
  · exact reference_rows1 (F := Ideal) m d _ _ _ _ _ _ _ _ (hagree d).2.1 (hagree d).2.2.2 (by rw [(hagree d).2.2.2]; exact (hI d).2)

/-- And at the bits: the same two runs, at the other interpretation. -/
theorem bitexact : Cert.bitexact_Kernel_Reference := by
  intro m ρ m' ρ' hp hagree
  have hI := fun d => in_rows (F := Bits) _ _ _ _ (hp d)
  refine ⟨fun d => rows0 (F := Bits) m d, fun d => rows1 (F := Bits) m d,
    (θ_run Cert.KernelIdeal.defs _ _).mono (fun _ h d => ?_) (run_main (F := Bits) m ρ (inRows m hI)),
    (θ_run Cert.Reference.defs _ _).mono (fun _ h d => ⟨(h d).1.trans ?_, (h d).2.1.trans ?_, (h d).2.2⟩)
      (Cert.Reference.Value.run (F := Bits) m' ρ')⟩
  · exact ⟨(h.1 d).1.1, (h.1 d).1.2, (h.1 d).2⟩
  · exact reference_rows0 (F := Bits) m d _ _ _ _ _ _ _ _ (hagree d).1 (hagree d).2.2.1 (by rw [(hagree d).2.2.1]; exact (hI d).1)
  · exact reference_rows1 (F := Bits) m d _ _ _ _ _ _ _ _ (hagree d).2.1 (hagree d).2.2.2 (by rw [(hagree d).2.2.2]; exact (hI d).2)

theorem claim : Cert.Claim :=
  ⟨Cert.Kernel.Gen.facts, Cert.KernelIdeal.Gen.facts, Cert.ReferenceIdeal.Gen.facts, Cert.Reference.Gen.facts,
    Cert.EdgeA.Gen.facts, Cert.EdgeAIdeal.Gen.facts, Cert.EdgeARefIdeal.Gen.facts,
    Cert.EdgeB.Gen.facts, Cert.EdgeBIdeal.Gen.facts, Cert.EdgeBRefIdeal.Gen.facts,
    Cert.Head.Gen.facts, Cert.HeadIdeal.Gen.facts, Cert.HeadRefIdeal.Gen.facts, Cert.Pre_idx_in_rows.Gen.facts,
    frame_kernel, frame_kernelIdeal, frame_referenceIdeal, frame_reference,
    EdgeA.frame_call, EdgeA.frame_ideal, EdgeA.frame_reference,
    EdgeB.frame_call, EdgeB.frame_ideal, EdgeB.frame_reference,
    Head.frame_call, Head.frame_ideal, Head.frame_reference,
    trivial, algebraic, bitexact, trivial, EdgeA.algebraic, trivial, EdgeB.algebraic, trivial, Head.algebraic⟩

end Cert.Proof

end
